-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores2 [hPre_finite_scores2 : Cert.Pre_finite_scores2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores2 [hPre_finite_scores2 : Cert.Pre_finite_scores2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_scores2 [hKernel2Ideal : Cert.Kernel2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_scores2 [hReference2Ideal : Cert.Reference2Ideal.Facts] [hPre_finite_scores2 : Cert.Pre_finite_scores2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "scale_log2e" .f32 0x3DD53B95#32 (((Real.sqrt 192)⁻¹ * (Real.log 2)⁻¹ : ℝ) : EReal)

def algebraic_Kernel2Ideal_Reference2Ideal_pre_finite_scores2 [hKernel2Ideal : Cert.Kernel2Ideal.Facts] [hReference2Ideal : Cert.Reference2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_scores2 : Cert.Pre_finite_scores2.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_scores2 (hKernel2Ideal := hKernel2Ideal) (hPre_finite_scores2 := hPre_finite_scores2)
    ∧ quiescent_Reference2Ideal (hReference2Ideal := hReference2Ideal)
    ∧ quiescent_Reference2Ideal_pre_finite_scores2 (hReference2Ideal := hReference2Ideal) (hPre_finite_scores2 := hPre_finite_scores2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_scores2 (hKernel2Ideal := hKernel2Ideal) (hReference2Ideal := hReference2Ideal) (hPre_finite_scores2 := hPre_finite_scores2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S8x4096x4x4x128 : Shape := ⟨5, ![8, 4096, 4, 4, 128]⟩
abbrev S8x4096x4x128 : Shape := ⟨4, ![8, 4096, 4, 128]⟩
abbrev S8x256x4x128 : Shape := ⟨4, ![8, 256, 4, 128]⟩
abbrev S_ : Shape := ⟨0, ![]⟩

class Facts : Prop where
  bcast_S_S8x4096x4x4x128 : S_.BroadcastsInDim S8x4096x4x4x128 (![] : Fin 0 → Fin S8x4096x4x4x128.rank)
  reducesTo_S8x4096x4x4x128_S_d0_1_2_3_4 : S8x4096x4x4x128.ReducesTo [0, 1, 2, 3, 4] S_
  h_S_ : 0 < S_.numel
  bcast_S_S8x4096x4x128 : S_.BroadcastsInDim S8x4096x4x128 (![] : Fin 0 → Fin S8x4096x4x128.rank)
  reducesTo_S8x4096x4x128_S_d0_1_2_3 : S8x4096x4x128.ReducesTo [0, 1, 2, 3] S_
  bcast_S_S8x256x4x128 : S_.BroadcastsInDim S8x256x4x128 (![] : Fin 0 → Fin S8x256x4x128.rank)
  reducesTo_S8x256x4x128_S_d0_1_2_3 : S8x256x4x128.ReducesTo [0, 1, 2, 3] S_

variable [Facts]

def fn {F : FTy → Type} [FloatOps F] (main_arg0 : FVec F S8x4096x4x4x128 .f32) (main_arg1 : FVec F S8x4096x4x128 .f32) (main_arg2 : FVec F S8x4096x4x128 .f32) (main_arg3 : FVec F S8x256x4x128 .f32) (main_arg4 : FVec F S8x256x4x128 .f32) : IVec S_ 1 :=
  let main_v0 : FVec F S8x4096x4x4x128 .f32 := Host.absf main_arg0
  let main_cst : FVec F S_ .f32 := constant S_ .f32 0x7F800000#32
  let main_v1 : FVec F S8x4096x4x4x128 .f32 := broadcastInDim S8x4096x4x4x128 ![] bcast_S_S8x4096x4x4x128 main_cst
  let main_v2 : IVec S8x4096x4x4x128 1 := cmpf .olt main_v0 main_v1
  let main_c : IVec S_ 1 := constantI S_ 1 1#1
  let main_v3 : IVec S_ 1 := (fun x v => Host.reduce IntOp.andi x v reducesTo_S8x4096x4x4x128_S_d0_1_2_3_4 h_S_) main_v2 main_c
  let main_v4 : FVec F S8x4096x4x128 .f32 := Host.absf main_arg1
  let main_cst_0 : FVec F S_ .f32 := constant S_ .f32 0x7F800000#32
  let main_v5 : FVec F S8x4096x4x128 .f32 := broadcastInDim S8x4096x4x128 ![] bcast_S_S8x4096x4x128 main_cst_0
  let main_v6 : IVec S8x4096x4x128 1 := cmpf .olt main_v4 main_v5
  let main_c_1 : IVec S_ 1 := constantI S_ 1 1#1
  let main_v7 : IVec S_ 1 := (fun x v => Host.reduce IntOp.andi x v reducesTo_S8x4096x4x128_S_d0_1_2_3 h_S_) main_v6 main_c_1
  let main_v8 : IVec S_ 1 := andi main_v3 main_v7
  let main_v9 : FVec F S8x256x4x128 .f32 := Host.absf main_arg3
  let main_cst_2 : FVec F S_ .f32 := constant S_ .f32 0x7F800000#32
  let main_v10 : FVec F S8x256x4x128 .f32 := broadcastInDim S8x256x4x128 ![] bcast_S_S8x256x4x128 main_cst_2
  let main_v11 : IVec S8x256x4x128 1 := cmpf .olt main_v9 main_v10
  let main_c_3 : IVec S_ 1 := constantI S_ 1 1#1
  let main_v12 : IVec S_ 1 := (fun x v => Host.reduce IntOp.andi x v reducesTo_S8x256x4x128_S_d0_1_2_3 h_S_) main_v11 main_c_3
  let main_v13 : IVec S_ 1 := andi main_v8 main_v12
  main_v13
-- ==== Pre_finite_scores2.lean ====
abbrev S8x4096x8x1x192 : Shape := ⟨5, ![8, 4096, 8, 1, 192]⟩
abbrev S8x4096x8x192 : Shape := ⟨4, ![8, 4096, 8, 192]⟩
abbrev S8x4096x8x128 : Shape := ⟨4, ![8, 4096, 8, 128]⟩
abbrev S8x256x8x192 : Shape := ⟨4, ![8, 256, 8, 192]⟩
abbrev S8x256x8x128 : Shape := ⟨4, ![8, 256, 8, 128]⟩
abbrev S_ : Shape := ⟨0, ![]⟩

class Facts : Prop where
  bcast_S_S8x4096x8x1x192 : S_.BroadcastsInDim S8x4096x8x1x192 (![] : Fin 0 → Fin S8x4096x8x1x192.rank)
  reducesTo_S8x4096x8x1x192_S_d0_1_2_3_4 : S8x4096x8x1x192.ReducesTo [0, 1, 2, 3, 4] S_
  h_S_ : 0 < S_.numel
  bcast_S_S8x4096x8x192 : S_.BroadcastsInDim S8x4096x8x192 (![] : Fin 0 → Fin S8x4096x8x192.rank)
  reducesTo_S8x4096x8x192_S_d0_1_2_3 : S8x4096x8x192.ReducesTo [0, 1, 2, 3] S_
  bcast_S_S8x256x8x192 : S_.BroadcastsInDim S8x256x8x192 (![] : Fin 0 → Fin S8x256x8x192.rank)
  reducesTo_S8x256x8x192_S_d0_1_2_3 : S8x256x8x192.ReducesTo [0, 1, 2, 3] S_

variable [Facts]

def fn {F : FTy → Type} [FloatOps F] (main_arg0 : FVec F S8x4096x8x1x192 .f32) (main_arg1 : FVec F S8x4096x8x192 .f32) (main_arg2 : FVec F S8x4096x8x128 .f32) (main_arg3 : FVec F S8x256x8x192 .f32) (main_arg4 : FVec F S8x256x8x128 .f32) : IVec S_ 1 :=
  let main_v0 : FVec F S8x4096x8x1x192 .f32 := Host.absf main_arg0
  let main_cst : FVec F S_ .f32 := constant S_ .f32 0x7F800000#32
  let main_v1 : FVec F S8x4096x8x1x192 .f32 := broadcastInDim S8x4096x8x1x192 ![] bcast_S_S8x4096x8x1x192 main_cst
  let main_v2 : IVec S8x4096x8x1x192 1 := cmpf .olt main_v0 main_v1
  let main_c : IVec S_ 1 := constantI S_ 1 1#1
  let main_v3 : IVec S_ 1 := (fun x v => Host.reduce IntOp.andi x v reducesTo_S8x4096x8x1x192_S_d0_1_2_3_4 h_S_) main_v2 main_c
  let main_v4 : FVec F S8x4096x8x192 .f32 := Host.absf main_arg1
  let main_cst_0 : FVec F S_ .f32 := constant S_ .f32 0x7F800000#32
  let main_v5 : FVec F S8x4096x8x192 .f32 := broadcastInDim S8x4096x8x192 ![] bcast_S_S8x4096x8x192 main_cst_0
  let main_v6 : IVec S8x4096x8x192 1 := cmpf .olt main_v4 main_v5
  let main_c_1 : IVec S_ 1 := constantI S_ 1 1#1
  let main_v7 : IVec S_ 1 := (fun x v => Host.reduce IntOp.andi x v reducesTo_S8x4096x8x192_S_d0_1_2_3 h_S_) main_v6 main_c_1
  let main_v8 : IVec S_ 1 := andi main_v3 main_v7
  let main_v9 : FVec F S8x256x8x192 .f32 := Host.absf main_arg3
  let main_cst_2 : FVec F S_ .f32 := constant S_ .f32 0x7F800000#32
  let main_v10 : FVec F S8x256x8x192 .f32 := broadcastInDim S8x256x8x192 ![] bcast_S_S8x256x8x192 main_cst_2
  let main_v11 : IVec S8x256x8x192 1 := cmpf .olt main_v9 main_v10
  let main_c_3 : IVec S_ 1 := constantI S_ 1 1#1
  let main_v12 : IVec S_ 1 := (fun x v => Host.reduce IntOp.andi x v reducesTo_S8x256x8x192_S_d0_1_2_3 h_S_) main_v11 main_c_3
  let main_v13 : IVec S_ 1 := andi main_v8 main_v12
  main_v13
-- ==== Kernel.lean ====
abbrev S8x4096x4x4x128 : Shape := ⟨5, ![8, 4096, 4, 4, 128]⟩
abbrev S8x4096x4x128 : Shape := ⟨4, ![8, 4096, 4, 128]⟩
abbrev S8x256x4x128 : Shape := ⟨4, ![8, 256, 4, 128]⟩
abbrev S32768x2048 : Shape := ⟨2, ![32768, 2048]⟩
abbrev S2048x32768 : Shape := ⟨2, ![2048, 32768]⟩
abbrev S32768x512 : Shape := ⟨2, ![32768, 512]⟩
abbrev S512x32768 : Shape := ⟨2, ![512, 32768]⟩
abbrev S2048x512 : Shape := ⟨2, ![2048, 512]⟩
abbrev S512x2048 : Shape := ⟨2, ![512, 2048]⟩
abbrev S512x4096 : Shape := ⟨2, ![512, 4096]⟩
abbrev S4096x128 : Shape := ⟨2, ![4096, 128]⟩
abbrev S128x4096 : Shape := ⟨2, ![128, 4096]⟩
abbrev S256x128 : Shape := ⟨2, ![256, 128]⟩
abbrev S128x256 : Shape := ⟨2, ![128, 256]⟩
abbrev S4096x512 : Shape := ⟨2, ![4096, 512]⟩
abbrev S4352x512 : Shape := ⟨2, ![4352, 512]⟩
abbrev S8x512 : Shape := ⟨2, ![8, 512]⟩
abbrev S128x512 : Shape := ⟨2, ![128, 512]⟩
abbrev S256x512 : Shape := ⟨2, ![256, 512]⟩
abbrev S32x8x512 : Shape := ⟨3, ![32, 8, 512]⟩
abbrev S512 : Shape := ⟨1, ![512]⟩
abbrev S1x512 : Shape := ⟨2, ![1, 512]⟩
abbrev S512x128 : Shape := ⟨2, ![512, 128]⟩

abbrev nBuf : Space → Nat
  | .hbm => 18
  | .vmem => 14
  | .smem => 0
  | _ => 0

abbrev bufTy : (tb : Table) → Fin (tcTables nBuf tb) → BufTy
  | .hbm, ⟨0, _⟩ => ⟨S8x4096x4x4x128, .f32⟩
  | .hbm, ⟨1, _⟩ => ⟨S8x4096x4x128, .f32⟩
  | .hbm, ⟨2, _⟩ => ⟨S8x4096x4x128, .f32⟩
  | .hbm, ⟨3, _⟩ => ⟨S8x256x4x128, .f32⟩
  | .hbm, ⟨4, _⟩ => ⟨S8x256x4x128, .f32⟩
  | .hbm, ⟨5, _⟩ => ⟨S32768x2048, .f32⟩
  | .hbm, ⟨6, _⟩ => ⟨S2048x32768, .f32⟩
  | .hbm, ⟨7, _⟩ => ⟨S32768x512, .f32⟩
  | .hbm, ⟨8, _⟩ => ⟨S32768x512, .bf16⟩
  | .hbm, ⟨9, _⟩ => ⟨S32768x512, .f32⟩
  | .hbm, ⟨10, _⟩ => ⟨S512x32768, .f32⟩
  | .hbm, ⟨11, _⟩ => ⟨S512x32768, .bf16⟩
  | .hbm, ⟨12, _⟩ => ⟨S2048x512, .f32⟩
  | .hbm, ⟨13, _⟩ => ⟨S2048x512, .bf16⟩
  | .hbm, ⟨14, _⟩ => ⟨S2048x512, .f32⟩
  | .hbm, ⟨15, _⟩ => ⟨S512x2048, .f32⟩
  | .hbm, ⟨16, _⟩ => ⟨S512x2048, .bf16⟩
  | .hbm, ⟨17, _⟩ => ⟨S32768x2048, .bf16⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S256x128, .bf16⟩
  | .local _ .vmem, ⟨7, _⟩ => ⟨S256x128, .bf16⟩
  | .local _ .vmem, ⟨8, _⟩ => ⟨S128x256, .bf16⟩
  | .local _ .vmem, ⟨9, _⟩ => ⟨S128x256, .bf16⟩
  | .local _ .vmem, ⟨10, _⟩ => ⟨S4096x512, .bf16⟩
  | .local _ .vmem, ⟨11, _⟩ => ⟨S4096x512, .bf16⟩
  | .local _ .vmem, ⟨12, _⟩ => ⟨S4352x512, .f32⟩
  | .local _ .vmem, ⟨13, _⟩ => ⟨S4352x512, .f32⟩
  | _, _ => ⟨S8x4096x4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c5_i32 : BitVec 32 := 5#32
  let v161 : BitVec 32 := Scalar.addi c0_i32 c5_i32
  let c1_i32 : BitVec 32 := 1#32
  ⟨c0_i32, v161, c1_i32⟩
def k0_off1 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c128_i32 : BitVec 32 := 128#32
  let v756 : BitVec 32 := Scalar.muli v751 c128_i32
  let v758 : Index := Scalar.indexCast v756
  let c7_i32_411 : BitVec 32 := 7#32
  let v753 : BitVec 32 := Scalar.andi v750 c7_i32_411
  let c512_i32 : BitVec 32 := 512#32
  let v757 : BitVec 32 := Scalar.muli v753 c512_i32
  let v759 : Index := Scalar.indexCast v757
  ![v758.toNat, v759.toNat]
def k0_off2 (k0_t1 : Fin k0_t1_loop.trips) (c1_i32_408 : BitVec 32) : Fin 2 → Nat :=
  let c0_416 : Index := 0#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_415 : BitVec 32 := 128#32
  let v765 : BitVec 32 := Scalar.muli v752 c128_i32_415
  let v766 : Index := Scalar.indexCast v765
  ![0, v766.toNat]
def k0_off3 (k0_t1 : Fin k0_t1_loop.trips) (c1_i32_408 : BitVec 32) : Fin 2 → Nat :=
  let c256_422 : Index := 256#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_421 : BitVec 32 := 128#32
  let v776 : BitVec 32 := Scalar.muli v752 c128_i32_421
  let v777 : Index := Scalar.indexCast v776
  ![256, v777.toNat]
def k0_off4 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_427 : BitVec 32 := 128#32
  let v787 : BitVec 32 := Scalar.muli v748 c128_i32_427
  let v788 : Index := Scalar.indexCast v787
  let c0_428 : Index := 0#32
  ![v788.toNat, 0]
def k0_off5 (k0_t1 : Fin k0_t1_loop.trips) (c1_i32_408 : BitVec 32) : Fin 2 → Nat :=
  let c512_434 : Index := 512#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_433 : BitVec 32 := 128#32
  let v800 : BitVec 32 := Scalar.muli v752 c128_i32_433
  let v801 : Index := Scalar.indexCast v800
  ![512, v801.toNat]
def k0_off6 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_439 : BitVec 32 := 128#32
  let v811 : BitVec 32 := Scalar.muli v748 c128_i32_439
  let v812 : Index := Scalar.indexCast v811
  let c256_440 : Index := 256#32
  ![v812.toNat, 256]
def k0_off7 (k0_t1 : Fin k0_t1_loop.trips) (c1_i32_408 : BitVec 32) : Fin 2 → Nat :=
  let c768_446 : Index := 768#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_445 : BitVec 32 := 128#32
  let v825 : BitVec 32 := Scalar.muli v752 c128_i32_445
  let v826 : Index := Scalar.indexCast v825
  ![768, v826.toNat]
def k0_off8 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_451 : BitVec 32 := 128#32
  let v836 : BitVec 32 := Scalar.muli v748 c128_i32_451
  let v837 : Index := Scalar.indexCast v836
  let c512_452 : Index := 512#32
  ![v837.toNat, 512]
def k0_off9 (k0_t1 : Fin k0_t1_loop.trips) (c1_i32_408 : BitVec 32) : Fin 2 → Nat :=
  let c1024_458 : Index := 1024#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_457 : BitVec 32 := 128#32
  let v850 : BitVec 32 := Scalar.muli v752 c128_i32_457
  let v851 : Index := Scalar.indexCast v850
  ![1024, v851.toNat]
def k0_off10 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_463 : BitVec 32 := 128#32
  let v861 : BitVec 32 := Scalar.muli v748 c128_i32_463
  let v862 : Index := Scalar.indexCast v861
  let c768_464 : Index := 768#32
  ![v862.toNat, 768]
def k0_off11 (k0_t1 : Fin k0_t1_loop.trips) (c1_i32_408 : BitVec 32) : Fin 2 → Nat :=
  let c1280_470 : Index := 1280#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_469 : BitVec 32 := 128#32
  let v875 : BitVec 32 := Scalar.muli v752 c128_i32_469
  let v876 : Index := Scalar.indexCast v875
  ![1280, v876.toNat]
def k0_off12 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_475 : BitVec 32 := 128#32
  let v886 : BitVec 32 := Scalar.muli v748 c128_i32_475
  let v887 : Index := Scalar.indexCast v886
  let c1024_476 : Index := 1024#32
  ![v887.toNat, 1024]
def k0_off13 (k0_t1 : Fin k0_t1_loop.trips) (c1_i32_408 : BitVec 32) : Fin 2 → Nat :=
  let c1536_482 : Index := 1536#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_481 : BitVec 32 := 128#32
  let v900 : BitVec 32 := Scalar.muli v752 c128_i32_481
  let v901 : Index := Scalar.indexCast v900
  ![1536, v901.toNat]
def k0_off14 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_487 : BitVec 32 := 128#32
  let v911 : BitVec 32 := Scalar.muli v748 c128_i32_487
  let v912 : Index := Scalar.indexCast v911
  let c1280_488 : Index := 1280#32
  ![v912.toNat, 1280]
def k0_off15 (k0_t1 : Fin k0_t1_loop.trips) (c1_i32_408 : BitVec 32) : Fin 2 → Nat :=
  let c1792_494 : Index := 1792#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_493 : BitVec 32 := 128#32
  let v925 : BitVec 32 := Scalar.muli v752 c128_i32_493
  let v926 : Index := Scalar.indexCast v925
  ![1792, v926.toNat]
def k0_off16 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_499 : BitVec 32 := 128#32
  let v936 : BitVec 32 := Scalar.muli v748 c128_i32_499
  let v937 : Index := Scalar.indexCast v936
  let c1536_500 : Index := 1536#32
  ![v937.toNat, 1536]
def k0_off17 (k0_t1 : Fin k0_t1_loop.trips) (c1_i32_408 : BitVec 32) : Fin 2 → Nat :=
  let c2048_506 : Index := 2048#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_505 : BitVec 32 := 128#32
  let v950 : BitVec 32 := Scalar.muli v752 c128_i32_505
  let v951 : Index := Scalar.indexCast v950
  ![2048, v951.toNat]
def k0_off18 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_511 : BitVec 32 := 128#32
  let v961 : BitVec 32 := Scalar.muli v748 c128_i32_511
  let v962 : Index := Scalar.indexCast v961
  let c1792_512 : Index := 1792#32
  ![v962.toNat, 1792]
def k0_off19 (k0_t1 : Fin k0_t1_loop.trips) (c1_i32_408 : BitVec 32) : Fin 2 → Nat :=
  let c2304_518 : Index := 2304#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_517 : BitVec 32 := 128#32
  let v975 : BitVec 32 := Scalar.muli v752 c128_i32_517
  let v976 : Index := Scalar.indexCast v975
  ![2304, v976.toNat]
def k0_off20 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_523 : BitVec 32 := 128#32
  let v986 : BitVec 32 := Scalar.muli v748 c128_i32_523
  let v987 : Index := Scalar.indexCast v986
  let c2048_524 : Index := 2048#32
  ![v987.toNat, 2048]
def k0_off21 (k0_t1 : Fin k0_t1_loop.trips) (c1_i32_408 : BitVec 32) : Fin 2 → Nat :=
  let c2560_530 : Index := 2560#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_529 : BitVec 32 := 128#32
  let v1000 : BitVec 32 := Scalar.muli v752 c128_i32_529
  let v1001 : Index := Scalar.indexCast v1000
  ![2560, v1001.toNat]
def k0_off22 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_535 : BitVec 32 := 128#32
  let v1011 : BitVec 32 := Scalar.muli v748 c128_i32_535
  let v1012 : Index := Scalar.indexCast v1011
  let c2304_536 : Index := 2304#32
  ![v1012.toNat, 2304]
def k0_off23 (k0_t1 : Fin k0_t1_loop.trips) (c1_i32_408 : BitVec 32) : Fin 2 → Nat :=
  let c2816_542 : Index := 2816#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_541 : BitVec 32 := 128#32
  let v1025 : BitVec 32 := Scalar.muli v752 c128_i32_541
  let v1026 : Index := Scalar.indexCast v1025
  ![2816, v1026.toNat]
def k0_off24 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_547 : BitVec 32 := 128#32
  let v1036 : BitVec 32 := Scalar.muli v748 c128_i32_547
  let v1037 : Index := Scalar.indexCast v1036
  let c2560_548 : Index := 2560#32
  ![v1037.toNat, 2560]
def k0_off25 (k0_t1 : Fin k0_t1_loop.trips) (c1_i32_408 : BitVec 32) : Fin 2 → Nat :=
  let c3072_554 : Index := 3072#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_553 : BitVec 32 := 128#32
  let v1050 : BitVec 32 := Scalar.muli v752 c128_i32_553
  let v1051 : Index := Scalar.indexCast v1050
  ![3072, v1051.toNat]
def k0_off26 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_559 : BitVec 32 := 128#32
  let v1061 : BitVec 32 := Scalar.muli v748 c128_i32_559
  let v1062 : Index := Scalar.indexCast v1061
  let c2816_560 : Index := 2816#32
  ![v1062.toNat, 2816]
def k0_off27 (k0_t1 : Fin k0_t1_loop.trips) (c1_i32_408 : BitVec 32) : Fin 2 → Nat :=
  let c3328_566 : Index := 3328#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_565 : BitVec 32 := 128#32
  let v1075 : BitVec 32 := Scalar.muli v752 c128_i32_565
  let v1076 : Index := Scalar.indexCast v1075
  ![3328, v1076.toNat]
def k0_off28 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_571 : BitVec 32 := 128#32
  let v1086 : BitVec 32 := Scalar.muli v748 c128_i32_571
  let v1087 : Index := Scalar.indexCast v1086
  let c3072_572 : Index := 3072#32
  ![v1087.toNat, 3072]
def k0_off29 (k0_t1 : Fin k0_t1_loop.trips) (c1_i32_408 : BitVec 32) : Fin 2 → Nat :=
  let c3584_578 : Index := 3584#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_577 : BitVec 32 := 128#32
  let v1100 : BitVec 32 := Scalar.muli v752 c128_i32_577
  let v1101 : Index := Scalar.indexCast v1100
  ![3584, v1101.toNat]
def k0_off30 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_583 : BitVec 32 := 128#32
  let v1111 : BitVec 32 := Scalar.muli v748 c128_i32_583
  let v1112 : Index := Scalar.indexCast v1111
  let c3328_584 : Index := 3328#32
  ![v1112.toNat, 3328]
def k0_off31 (k0_t1 : Fin k0_t1_loop.trips) (c1_i32_408 : BitVec 32) : Fin 2 → Nat :=
  let c3840_590 : Index := 3840#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_589 : BitVec 32 := 128#32
  let v1125 : BitVec 32 := Scalar.muli v752 c128_i32_589
  let v1126 : Index := Scalar.indexCast v1125
  ![3840, v1126.toNat]
def k0_off32 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_595 : BitVec 32 := 128#32
  let v1136 : BitVec 32 := Scalar.muli v748 c128_i32_595
  let v1137 : Index := Scalar.indexCast v1136
  let c3584_596 : Index := 3584#32
  ![v1137.toNat, 3584]
def k0_off33 (k0_t1 : Fin k0_t1_loop.trips) (c1_i32_408 : BitVec 32) : Fin 2 → Nat :=
  let c0_602 : Index := 0#32
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_601 : BitVec 32 := 128#32
  let v1150 : BitVec 32 := Scalar.muli v752 c128_i32_601
  let v1151 : Index := Scalar.indexCast v1150
  ![0, v1151.toNat]
def k0_off34 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_607 : BitVec 32 := 128#32
  let v1161 : BitVec 32 := Scalar.muli v748 c128_i32_607
  let v1162 : Index := Scalar.indexCast v1161
  let c3840_608 : Index := 3840#32
  ![v1162.toNat, 3840]
def k0_off35 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c3_i32 : BitVec 32 := 3#32
  let v747 : BitVec 32 := Scalar.shrui v746 c3_i32
  let c2_i32 : BitVec 32 := 2#32
  let v748 : BitVec 32 := Scalar.shrui v747 c2_i32
  let c128_i32_613 : BitVec 32 := 128#32
  let v1175 : BitVec 32 := Scalar.muli v748 c128_i32_613
  let v1176 : Index := Scalar.indexCast v1175
  let c0_614 : Index := 0#32
  ![v1176.toNat, 0]
def k0_off36 (k0_t1 : Fin k0_t1_loop.trips) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let c7_i32 : BitVec 32 := 7#32
  let v749 : BitVec 32 := Scalar.andi v746 c7_i32
  let c512_i32_620 : BitVec 32 := 512#32
  let v1195 : BitVec 32 := Scalar.muli v749 c512_i32_620
  let v1197 : Index := Scalar.indexCast v1195
  let c3_i32 : BitVec 32 := 3#32
  let v747 : BitVec 32 := Scalar.shrui v746 c3_i32
  let c128_i32_621 : BitVec 32 := 128#32
  let v1196 : BitVec 32 := Scalar.muli v747 c128_i32_621
  let v1198 : Index := Scalar.indexCast v1196
  ![v1197.toNat, v1198.toNat]
def k0_off37 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_644 : BitVec 32 := 128#32
  let v1239 : BitVec 32 := Scalar.muli v752 c128_i32_644
  let v1240 : Index := Scalar.indexCast v1239
  let c0_645 : Index := 0#32
  ![v1240.toNat, 0]
def k0_off38 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_656 : BitVec 32 := 128#32
  let v1263 : BitVec 32 := Scalar.muli v752 c128_i32_656
  let v1264 : Index := Scalar.indexCast v1263
  let c256_657 : Index := 256#32
  ![v1264.toNat, 256]
def k0_off39 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_668 : BitVec 32 := 128#32
  let v1288 : BitVec 32 := Scalar.muli v752 c128_i32_668
  let v1289 : Index := Scalar.indexCast v1288
  let c512_669 : Index := 512#32
  ![v1289.toNat, 512]
def k0_off40 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_680 : BitVec 32 := 128#32
  let v1313 : BitVec 32 := Scalar.muli v752 c128_i32_680
  let v1314 : Index := Scalar.indexCast v1313
  let c768_681 : Index := 768#32
  ![v1314.toNat, 768]
def k0_off41 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_692 : BitVec 32 := 128#32
  let v1338 : BitVec 32 := Scalar.muli v752 c128_i32_692
  let v1339 : Index := Scalar.indexCast v1338
  let c1024_693 : Index := 1024#32
  ![v1339.toNat, 1024]
def k0_off42 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_704 : BitVec 32 := 128#32
  let v1363 : BitVec 32 := Scalar.muli v752 c128_i32_704
  let v1364 : Index := Scalar.indexCast v1363
  let c1280_705 : Index := 1280#32
  ![v1364.toNat, 1280]
def k0_off43 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_716 : BitVec 32 := 128#32
  let v1388 : BitVec 32 := Scalar.muli v752 c128_i32_716
  let v1389 : Index := Scalar.indexCast v1388
  let c1536_717 : Index := 1536#32
  ![v1389.toNat, 1536]
def k0_off44 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_728 : BitVec 32 := 128#32
  let v1413 : BitVec 32 := Scalar.muli v752 c128_i32_728
  let v1414 : Index := Scalar.indexCast v1413
  let c1792_729 : Index := 1792#32
  ![v1414.toNat, 1792]
def k0_off45 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_740 : BitVec 32 := 128#32
  let v1438 : BitVec 32 := Scalar.muli v752 c128_i32_740
  let v1439 : Index := Scalar.indexCast v1438
  let c2048_741 : Index := 2048#32
  ![v1439.toNat, 2048]
def k0_off46 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_752 : BitVec 32 := 128#32
  let v1463 : BitVec 32 := Scalar.muli v752 c128_i32_752
  let v1464 : Index := Scalar.indexCast v1463
  let c2304_753 : Index := 2304#32
  ![v1464.toNat, 2304]
def k0_off47 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_764 : BitVec 32 := 128#32
  let v1488 : BitVec 32 := Scalar.muli v752 c128_i32_764
  let v1489 : Index := Scalar.indexCast v1488
  let c2560_765 : Index := 2560#32
  ![v1489.toNat, 2560]
def k0_off48 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_776 : BitVec 32 := 128#32
  let v1513 : BitVec 32 := Scalar.muli v752 c128_i32_776
  let v1514 : Index := Scalar.indexCast v1513
  let c2816_777 : Index := 2816#32
  ![v1514.toNat, 2816]
def k0_off49 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_788 : BitVec 32 := 128#32
  let v1538 : BitVec 32 := Scalar.muli v752 c128_i32_788
  let v1539 : Index := Scalar.indexCast v1538
  let c3072_789 : Index := 3072#32
  ![v1539.toNat, 3072]
def k0_off50 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_800 : BitVec 32 := 128#32
  let v1563 : BitVec 32 := Scalar.muli v752 c128_i32_800
  let v1564 : Index := Scalar.indexCast v1563
  let c3328_801 : Index := 3328#32
  ![v1564.toNat, 3328]
def k0_off51 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_812 : BitVec 32 := 128#32
  let v1588 : BitVec 32 := Scalar.muli v752 c128_i32_812
  let v1589 : Index := Scalar.indexCast v1588
  let c3584_813 : Index := 3584#32
  ![v1589.toNat, 3584]
def k0_off52 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_824 : BitVec 32 := 128#32
  let v1613 : BitVec 32 := Scalar.muli v752 c128_i32_824
  let v1614 : Index := Scalar.indexCast v1613
  let c3840_825 : Index := 3840#32
  ![v1614.toNat, 3840]
def k0_off53 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c3_i32_409 : BitVec 32 := 3#32
  let v751 : BitVec 32 := Scalar.shrui v750 c3_i32_409
  let c2_i32_410 : BitVec 32 := 2#32
  let v752 : BitVec 32 := Scalar.shrui v751 c2_i32_410
  let c128_i32_830 : BitVec 32 := 128#32
  let v1627 : BitVec 32 := Scalar.muli v752 c128_i32_830
  let v1628 : Index := Scalar.indexCast v1627
  let c0_831 : Index := 0#32
  ![v1628.toNat, 0]
def k0_off54 (k0_t1 : Fin k0_t1_loop.trips) (c1_i32_408 : BitVec 32) : Fin 2 → Nat :=
  let c6_i32 : BitVec 32 := 6#32
  let c0_i32 : BitVec 32 := 0#32
  let c1_i32 : BitVec 32 := 1#32
  let arg10 : BitVec 32 := Scf.iv c0_i32 c1_i32 k0_t1
  let v746 : BitVec 32 := Scalar.muli c6_i32 arg10
  let v750 : BitVec 32 := Scalar.addi v746 c1_i32_408
  let c7_i32_411 : BitVec 32 := 7#32
  let v753 : BitVec 32 := Scalar.andi v750 c7_i32_411
  let c512_i32_837 : BitVec 32 := 512#32
  let v1647 : BitVec 32 := Scalar.muli v753 c512_i32_837
  let v1649 : Index := Scalar.indexCast v1647
  let c3_i32_409 : BitVec 32 := 3#32
  let v751 : BitVec 32 := Scalar.shrui v750 c3_i32_409
  let c128_i32_838 : BitVec 32 := 128#32
  let v1648 : BitVec 32 := Scalar.muli v751 c128_i32_838
  let v1650 : Index := Scalar.indexCast v1648
  ![v1649.toNat, v1650.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg0.toNat, v17.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v17.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg0.toNat, v17.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v17.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S8x4096x4x4x128 : Shape := ⟨5, ![8, 4096, 4, 4, 128]⟩
abbrev S8x4096x4x128 : Shape := ⟨4, ![8, 4096, 4, 128]⟩
abbrev S8x256x4x128 : Shape := ⟨4, ![8, 256, 4, 128]⟩
abbrev S8x4352x4x128 : Shape := ⟨4, ![8, 4352, 4, 128]⟩
abbrev S8x4x4352x4096x4 : Shape := ⟨5, ![8, 4, 4352, 4096, 4]⟩
abbrev S8x4x4x4096x4352 : Shape := ⟨5, ![8, 4, 4, 4096, 4352]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x4x4x128, .f32⟩
  | .hbm, ⟨1, _⟩ => ⟨S8x4096x4x128, .f32⟩
  | .hbm, ⟨2, _⟩ => ⟨S8x4096x4x128, .f32⟩
  | .hbm, ⟨3, _⟩ => ⟨S8x256x4x128, .f32⟩
  | .hbm, ⟨4, _⟩ => ⟨S8x256x4x128, .f32⟩
  | .hbm, ⟨5, _⟩ => ⟨S8x4352x4x128, .f32⟩
  | .hbm, ⟨6, _⟩ => ⟨S8x4352x4x128, .f32⟩
  | .hbm, ⟨7, _⟩ => ⟨S8x4x4352x4096x4, .f32⟩
  | .hbm, ⟨8, _⟩ => ⟨S8x4x4x4096x4352, .f32⟩
  | .hbm, ⟨9, _⟩ => ⟨S_, .f32⟩
  | .hbm, ⟨10, _⟩ => ⟨S_, .f32⟩
  | .hbm, ⟨11, _⟩ => ⟨S8x4x4x4096x4352, .f32⟩
  | .hbm, ⟨12, _⟩ => ⟨S8x4x4x4096x4352, .f32⟩
  | .hbm, ⟨13, _⟩ => ⟨S_, .f32⟩
  | .hbm, ⟨14, _⟩ => ⟨S8x4x4x4096, .f32⟩
  | .hbm, ⟨15, _⟩ => ⟨S_, .f32⟩
  | .hbm, ⟨16, _⟩ => ⟨S8x4x4x4096, .f32⟩
  | .hbm, ⟨17, _⟩ => ⟨S8x4x4x4096, .f32⟩
  | .hbm, ⟨18, _⟩ => ⟨S8x4x4x4096x1, .f32⟩
  | .hbm, ⟨19, _⟩ => ⟨S8x4x4x4096x4352, .f32⟩
  | .hbm, ⟨20, _⟩ => ⟨S8x4x4x4096x4352, .f32⟩
  | .hbm, ⟨21, _⟩ => ⟨S8x4x4x4096x4352, .f32⟩
  | .hbm, ⟨22, _⟩ => ⟨S_, .f32⟩
  | .hbm, ⟨23, _⟩ => ⟨S8x4x4x4096, .f32⟩
  | .hbm, ⟨24, _⟩ => ⟨S8x4x4x4096x1, .f32⟩
  | .hbm, ⟨25, _⟩ => ⟨S8x4x4x4096x4352, .f32⟩
  | .hbm, ⟨26, _⟩ => ⟨S8x4x4x4096x4352, .f32⟩
  | .hbm, ⟨27, _⟩ => ⟨S8x4x128x4x4096, .f32⟩
  | .hbm, ⟨28, _⟩ => ⟨S8x4096x4x4x128, .f32⟩
  | .hbm, ⟨29, _⟩ => ⟨S32768x2048, .f32⟩
  | .hbm, ⟨30, _⟩ => ⟨S32768x2048, .bf16⟩
  | _, _ => ⟨S8x4096x4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S8x4096x8x1x192 : Shape := ⟨5, ![8, 4096, 8, 1, 192]⟩
abbrev S8x4096x8x192 : Shape := ⟨4, ![8, 4096, 8, 192]⟩
abbrev S8x4096x8x128 : Shape := ⟨4, ![8, 4096, 8, 128]⟩
abbrev S8x256x8x192 : Shape := ⟨4, ![8, 256, 8, 192]⟩
abbrev S8x256x8x128 : Shape := ⟨4, ![8, 256, 8, 128]⟩
abbrev S_ : Shape := ⟨0, ![]⟩
abbrev S8x4096x8x1x256 : Shape := ⟨5, ![8, 4096, 8, 1, 256]⟩
abbrev S32768x2048 : Shape := ⟨2, ![32768, 2048]⟩
abbrev S2048x32768 : Shape := ⟨2, ![2048, 32768]⟩
abbrev S8x4096x8x256 : Shape := ⟨4, ![8, 4096, 8, 256]⟩
abbrev S32768x1024 : Shape := ⟨2, ![32768, 1024]⟩
abbrev S1024x32768 : Shape := ⟨2, ![1024, 32768]⟩
abbrev S8x256x8x256 : Shape := ⟨4, ![8, 256, 8, 256]⟩
abbrev S2048x2048 : Shape := ⟨2, ![2048, 2048]⟩
abbrev S2048x1024 : Shape := ⟨2, ![2048, 1024]⟩
abbrev S1024x2048 : Shape := ⟨2, ![1024, 2048]⟩
abbrev S512x4096 : Shape := ⟨2, ![512, 4096]⟩
abbrev S4096x512 : Shape := ⟨2, ![4096, 512]⟩
abbrev S256x4096 : Shape := ⟨2, ![256, 4096]⟩
abbrev S256x512 : Shape := ⟨2, ![256, 512]⟩
abbrev S256x256 : Shape := ⟨2, ![256, 256]⟩
abbrev S4096x256 : Shape := ⟨2, ![4096, 256]⟩
abbrev S4352x512 : Shape := ⟨2, ![4352, 512]⟩
abbrev S8x512 : Shape := ⟨2, ![8, 512]⟩
abbrev S32x8x512 : Shape := ⟨3, ![32, 8, 512]⟩
abbrev S512 : Shape := ⟨1, ![512]⟩
abbrev S1x512 : Shape := ⟨2, ![1, 512]⟩
abbrev S128x256 : Shape := ⟨2, ![128, 256]⟩
abbrev S128x512 : Shape := ⟨2, ![128, 512]⟩
abbrev S512x128 : Shape := ⟨2, ![512, 128]⟩

abbrev nBuf : Space → Nat
  | .hbm => 27
  | .vmem => 14
  | .smem => 0
  | _ => 0

abbrev bufTy : (tb : Table) → Fin (tcTables nBuf tb) → BufTy
  | .hbm, ⟨0, _⟩ => ⟨S8x4096x8x1x192, .f32⟩
  | .hbm, ⟨1, _⟩ => ⟨S8x4096x8x192, .f32⟩
  | .hbm, ⟨2, _⟩ => ⟨S8x4096x8x128, .f32⟩
  | .hbm, ⟨3, _⟩ => ⟨S8x256x8x192, .f32⟩
  | .hbm, ⟨4, _⟩ => ⟨S8x256x8x128, .f32⟩
  | .hbm, ⟨5, _⟩ => ⟨S_, .i32⟩
  | .hbm, ⟨6, _⟩ => ⟨S_, .f32⟩
  | .hbm, ⟨7, _⟩ => ⟨S8x4096x8x1x256, .f32⟩
  | .hbm, ⟨8, _⟩ => ⟨S32768x2048, .f32⟩
  | .hbm, ⟨9, _⟩ => ⟨S2048x32768, .f32⟩
  | .hbm, ⟨10, _⟩ => ⟨S_, .i32⟩
  | .hbm, ⟨11, _⟩ => ⟨S_, .f32⟩
  | .hbm, ⟨12, _⟩ => ⟨S8x4096x8x256, .f32⟩
  | .hbm, ⟨13, _⟩ => ⟨S32768x2048, .f32⟩
  | .hbm, ⟨14, _⟩ => ⟨S32768x2048, .bf16⟩
  | .hbm, ⟨15, _⟩ => ⟨S32768x1024, .f32⟩
  | .hbm, ⟨16, _⟩ => ⟨S1024x32768, .f32⟩
  | .hbm, ⟨17, _⟩ => ⟨S1024x32768, .bf16⟩
  | .hbm, ⟨18, _⟩ => ⟨S_, .i32⟩
  | .hbm, ⟨19, _⟩ => ⟨S_, .f32⟩
  | .hbm, ⟨20, _⟩ => ⟨S8x256x8x256, .f32⟩
  | .hbm, ⟨21, _⟩ => ⟨S2048x2048, .f32⟩
  | .hbm, ⟨22, _⟩ => ⟨S2048x2048, .bf16⟩
  | .hbm, ⟨23, _⟩ => ⟨S2048x1024, .f32⟩
  | .hbm, ⟨24, _⟩ => ⟨S1024x2048, .f32⟩
  | .hbm, ⟨25, _⟩ => ⟨S1024x2048, .bf16⟩
  | .hbm, ⟨26, _⟩ => ⟨S32768x1024, .bf16⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S256x4096, .bf16⟩
  | .local _ .vmem, ⟨5, _⟩ => ⟨S256x4096, .bf16⟩
  | .local _ .vmem, ⟨6, _⟩ => ⟨S256x512, .bf16⟩
  | .local _ .vmem, ⟨7, _⟩ => ⟨S256x512, .bf16⟩
  | .local _ .vmem, ⟨8, _⟩ => ⟨S256x256, .bf16⟩
  | .local _ .vmem, ⟨9, _⟩ => ⟨S256x256, .bf16⟩
  | .local _ .vmem, ⟨10, _⟩ => ⟨S4096x256, .bf16⟩
  | .local _ .vmem, ⟨11, _⟩ => ⟨S4096x256, .bf16⟩
  | .local _ .vmem, ⟨12, _⟩ => ⟨S4352x512, .f32⟩
  | .local _ .vmem, ⟨13, _⟩ => ⟨S4352x512, .f32⟩
  | _, _ => ⟨S8x4096x8x1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c3_i32 : BitVec 32 := 3#32
  let v161 : BitVec 32 := Scalar.addi c0_i32 c3_i32
  let c1_i32 : BitVec 32 := 1#32
  ⟨c0_i32, v161, c1_i32⟩
def k0_off1 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c256_i32 : BitVec 32 := 256#32
  let v1500 : BitVec 32 := Scalar.muli v1495 c256_i32
  let v1502 : Index := Scalar.indexCast v1500
  let c7_i32_839 : BitVec 32 := 7#32
  let v1497 : BitVec 32 := Scalar.andi v1494 c7_i32_839
  let c512_i32 : BitVec 32 := 512#32
  let v1501 : BitVec 32 := Scalar.muli v1497 c512_i32
  let v1503 : Index := Scalar.indexCast v1501
  ![v1502.toNat, v1503.toNat]
def k0_off2 (k0_t1 : Fin k0_t1_loop.trips) (c1_i32_836 : BitVec 32) : Fin 2 → Nat :=
  let c0_844 : Index := 0#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_843 : BitVec 32 := 256#32
  let v1509 : BitVec 32 := Scalar.muli v1496 c256_i32_843
  let v1510 : Index := Scalar.indexCast v1509
  ![0, v1510.toNat]
def k0_off3 (k0_t1 : Fin k0_t1_loop.trips) (c1_i32_836 : BitVec 32) : Fin 2 → Nat :=
  let c256_850 : Index := 256#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_849 : BitVec 32 := 256#32
  let v1520 : BitVec 32 := Scalar.muli v1496 c256_i32_849
  let v1521 : Index := Scalar.indexCast v1520
  ![256, v1521.toNat]
def k0_off4 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32 : BitVec 32 := 128#32
  let v1531 : BitVec 32 := Scalar.muli v1492 c128_i32
  let v1532 : Index := Scalar.indexCast v1531
  let c0_855 : Index := 0#32
  ![v1532.toNat, 0]
def k0_off5 (k0_t1 : Fin k0_t1_loop.trips) (c1_i32_836 : BitVec 32) : Fin 2 → Nat :=
  let c512_861 : Index := 512#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_860 : BitVec 32 := 256#32
  let v1544 : BitVec 32 := Scalar.muli v1496 c256_i32_860
  let v1545 : Index := Scalar.indexCast v1544
  ![512, v1545.toNat]
def k0_off6 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_866 : BitVec 32 := 128#32
  let v1555 : BitVec 32 := Scalar.muli v1492 c128_i32_866
  let v1556 : Index := Scalar.indexCast v1555
  let c256_867 : Index := 256#32
  ![v1556.toNat, 256]
def k0_off7 (k0_t1 : Fin k0_t1_loop.trips) (c1_i32_836 : BitVec 32) : Fin 2 → Nat :=
  let c768_873 : Index := 768#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_872 : BitVec 32 := 256#32
  let v1569 : BitVec 32 := Scalar.muli v1496 c256_i32_872
  let v1570 : Index := Scalar.indexCast v1569
  ![768, v1570.toNat]
def k0_off8 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_878 : BitVec 32 := 128#32
  let v1580 : BitVec 32 := Scalar.muli v1492 c128_i32_878
  let v1581 : Index := Scalar.indexCast v1580
  let c512_879 : Index := 512#32
  ![v1581.toNat, 512]
def k0_off9 (k0_t1 : Fin k0_t1_loop.trips) (c1_i32_836 : BitVec 32) : Fin 2 → Nat :=
  let c1024_885 : Index := 1024#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_884 : BitVec 32 := 256#32
  let v1594 : BitVec 32 := Scalar.muli v1496 c256_i32_884
  let v1595 : Index := Scalar.indexCast v1594
  ![1024, v1595.toNat]
def k0_off10 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_890 : BitVec 32 := 128#32
  let v1605 : BitVec 32 := Scalar.muli v1492 c128_i32_890
  let v1606 : Index := Scalar.indexCast v1605
  let c768_891 : Index := 768#32
  ![v1606.toNat, 768]
def k0_off11 (k0_t1 : Fin k0_t1_loop.trips) (c1_i32_836 : BitVec 32) : Fin 2 → Nat :=
  let c1280_897 : Index := 1280#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_896 : BitVec 32 := 256#32
  let v1619 : BitVec 32 := Scalar.muli v1496 c256_i32_896
  let v1620 : Index := Scalar.indexCast v1619
  ![1280, v1620.toNat]
def k0_off12 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_902 : BitVec 32 := 128#32
  let v1630 : BitVec 32 := Scalar.muli v1492 c128_i32_902
  let v1631 : Index := Scalar.indexCast v1630
  let c1024_903 : Index := 1024#32
  ![v1631.toNat, 1024]
def k0_off13 (k0_t1 : Fin k0_t1_loop.trips) (c1_i32_836 : BitVec 32) : Fin 2 → Nat :=
  let c1536_909 : Index := 1536#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_908 : BitVec 32 := 256#32
  let v1644 : BitVec 32 := Scalar.muli v1496 c256_i32_908
  let v1645 : Index := Scalar.indexCast v1644
  ![1536, v1645.toNat]
def k0_off14 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_914 : BitVec 32 := 128#32
  let v1655 : BitVec 32 := Scalar.muli v1492 c128_i32_914
  let v1656 : Index := Scalar.indexCast v1655
  let c1280_915 : Index := 1280#32
  ![v1656.toNat, 1280]
def k0_off15 (k0_t1 : Fin k0_t1_loop.trips) (c1_i32_836 : BitVec 32) : Fin 2 → Nat :=
  let c1792_921 : Index := 1792#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_920 : BitVec 32 := 256#32
  let v1669 : BitVec 32 := Scalar.muli v1496 c256_i32_920
  let v1670 : Index := Scalar.indexCast v1669
  ![1792, v1670.toNat]
def k0_off16 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_926 : BitVec 32 := 128#32
  let v1680 : BitVec 32 := Scalar.muli v1492 c128_i32_926
  let v1681 : Index := Scalar.indexCast v1680
  let c1536_927 : Index := 1536#32
  ![v1681.toNat, 1536]
def k0_off17 (k0_t1 : Fin k0_t1_loop.trips) (c1_i32_836 : BitVec 32) : Fin 2 → Nat :=
  let c2048_933 : Index := 2048#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_932 : BitVec 32 := 256#32
  let v1694 : BitVec 32 := Scalar.muli v1496 c256_i32_932
  let v1695 : Index := Scalar.indexCast v1694
  ![2048, v1695.toNat]
def k0_off18 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_938 : BitVec 32 := 128#32
  let v1705 : BitVec 32 := Scalar.muli v1492 c128_i32_938
  let v1706 : Index := Scalar.indexCast v1705
  let c1792_939 : Index := 1792#32
  ![v1706.toNat, 1792]
def k0_off19 (k0_t1 : Fin k0_t1_loop.trips) (c1_i32_836 : BitVec 32) : Fin 2 → Nat :=
  let c2304_945 : Index := 2304#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_944 : BitVec 32 := 256#32
  let v1719 : BitVec 32 := Scalar.muli v1496 c256_i32_944
  let v1720 : Index := Scalar.indexCast v1719
  ![2304, v1720.toNat]
def k0_off20 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_950 : BitVec 32 := 128#32
  let v1730 : BitVec 32 := Scalar.muli v1492 c128_i32_950
  let v1731 : Index := Scalar.indexCast v1730
  let c2048_951 : Index := 2048#32
  ![v1731.toNat, 2048]
def k0_off21 (k0_t1 : Fin k0_t1_loop.trips) (c1_i32_836 : BitVec 32) : Fin 2 → Nat :=
  let c2560_957 : Index := 2560#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_956 : BitVec 32 := 256#32
  let v1744 : BitVec 32 := Scalar.muli v1496 c256_i32_956
  let v1745 : Index := Scalar.indexCast v1744
  ![2560, v1745.toNat]
def k0_off22 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_962 : BitVec 32 := 128#32
  let v1755 : BitVec 32 := Scalar.muli v1492 c128_i32_962
  let v1756 : Index := Scalar.indexCast v1755
  let c2304_963 : Index := 2304#32
  ![v1756.toNat, 2304]
def k0_off23 (k0_t1 : Fin k0_t1_loop.trips) (c1_i32_836 : BitVec 32) : Fin 2 → Nat :=
  let c2816_969 : Index := 2816#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_968 : BitVec 32 := 256#32
  let v1769 : BitVec 32 := Scalar.muli v1496 c256_i32_968
  let v1770 : Index := Scalar.indexCast v1769
  ![2816, v1770.toNat]
def k0_off24 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_974 : BitVec 32 := 128#32
  let v1780 : BitVec 32 := Scalar.muli v1492 c128_i32_974
  let v1781 : Index := Scalar.indexCast v1780
  let c2560_975 : Index := 2560#32
  ![v1781.toNat, 2560]
def k0_off25 (k0_t1 : Fin k0_t1_loop.trips) (c1_i32_836 : BitVec 32) : Fin 2 → Nat :=
  let c3072_981 : Index := 3072#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_980 : BitVec 32 := 256#32
  let v1794 : BitVec 32 := Scalar.muli v1496 c256_i32_980
  let v1795 : Index := Scalar.indexCast v1794
  ![3072, v1795.toNat]
def k0_off26 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_986 : BitVec 32 := 128#32
  let v1805 : BitVec 32 := Scalar.muli v1492 c128_i32_986
  let v1806 : Index := Scalar.indexCast v1805
  let c2816_987 : Index := 2816#32
  ![v1806.toNat, 2816]
def k0_off27 (k0_t1 : Fin k0_t1_loop.trips) (c1_i32_836 : BitVec 32) : Fin 2 → Nat :=
  let c3328_993 : Index := 3328#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_992 : BitVec 32 := 256#32
  let v1819 : BitVec 32 := Scalar.muli v1496 c256_i32_992
  let v1820 : Index := Scalar.indexCast v1819
  ![3328, v1820.toNat]
def k0_off28 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_998 : BitVec 32 := 128#32
  let v1830 : BitVec 32 := Scalar.muli v1492 c128_i32_998
  let v1831 : Index := Scalar.indexCast v1830
  let c3072_999 : Index := 3072#32
  ![v1831.toNat, 3072]
def k0_off29 (k0_t1 : Fin k0_t1_loop.trips) (c1_i32_836 : BitVec 32) : Fin 2 → Nat :=
  let c3584_1005 : Index := 3584#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_1004 : BitVec 32 := 256#32
  let v1844 : BitVec 32 := Scalar.muli v1496 c256_i32_1004
  let v1845 : Index := Scalar.indexCast v1844
  ![3584, v1845.toNat]
def k0_off30 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_1010 : BitVec 32 := 128#32
  let v1855 : BitVec 32 := Scalar.muli v1492 c128_i32_1010
  let v1856 : Index := Scalar.indexCast v1855
  let c3328_1011 : Index := 3328#32
  ![v1856.toNat, 3328]
def k0_off31 (k0_t1 : Fin k0_t1_loop.trips) (c1_i32_836 : BitVec 32) : Fin 2 → Nat :=
  let c3840_1017 : Index := 3840#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_1016 : BitVec 32 := 256#32
  let v1869 : BitVec 32 := Scalar.muli v1496 c256_i32_1016
  let v1870 : Index := Scalar.indexCast v1869
  ![3840, v1870.toNat]
def k0_off32 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_1022 : BitVec 32 := 128#32
  let v1880 : BitVec 32 := Scalar.muli v1492 c128_i32_1022
  let v1881 : Index := Scalar.indexCast v1880
  let c3584_1023 : Index := 3584#32
  ![v1881.toNat, 3584]
def k0_off33 (k0_t1 : Fin k0_t1_loop.trips) (c1_i32_836 : BitVec 32) : Fin 2 → Nat :=
  let c0_1029 : Index := 0#32
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c256_i32_1028 : BitVec 32 := 256#32
  let v1894 : BitVec 32 := Scalar.muli v1496 c256_i32_1028
  let v1895 : Index := Scalar.indexCast v1894
  ![0, v1895.toNat]
def k0_off34 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_1034 : BitVec 32 := 128#32
  let v1905 : BitVec 32 := Scalar.muli v1492 c128_i32_1034
  let v1906 : Index := Scalar.indexCast v1905
  let c3840_1035 : Index := 3840#32
  ![v1906.toNat, 3840]
def k0_off35 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c3_i32_834 : BitVec 32 := 3#32
  let v1491 : BitVec 32 := Scalar.shrui v1490 c3_i32_834
  let c0_i32_835 : BitVec 32 := 0#32
  let v1492 : BitVec 32 := Scalar.shrui v1491 c0_i32_835
  let c128_i32_1040 : BitVec 32 := 128#32
  let v1919 : BitVec 32 := Scalar.muli v1492 c128_i32_1040
  let v1920 : Index := Scalar.indexCast v1919
  let c0_1041 : Index := 0#32
  ![v1920.toNat, 0]
def k0_off36 (k0_t1 : Fin k0_t1_loop.trips) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let c7_i32 : BitVec 32 := 7#32
  let v1493 : BitVec 32 := Scalar.andi v1490 c7_i32
  let c512_i32_1047 : BitVec 32 := 512#32
  let v1939 : BitVec 32 := Scalar.muli v1493 c512_i32_1047
  let v1941 : Index := Scalar.indexCast v1939
  let c3_i32_834 : BitVec 32 := 3#32
  let v1491 : BitVec 32 := Scalar.shrui v1490 c3_i32_834
  let c128_i32_1048 : BitVec 32 := 128#32
  let v1940 : BitVec 32 := Scalar.muli v1491 c128_i32_1048
  let v1942 : Index := Scalar.indexCast v1940
  ![v1941.toNat, v1942.toNat]
def k0_off37 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1070 : BitVec 32 := 128#32
  let v1983 : BitVec 32 := Scalar.muli v1496 c128_i32_1070
  let v1984 : Index := Scalar.indexCast v1983
  let c0_1071 : Index := 0#32
  ![v1984.toNat, 0]
def k0_off38 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1082 : BitVec 32 := 128#32
  let v2007 : BitVec 32 := Scalar.muli v1496 c128_i32_1082
  let v2008 : Index := Scalar.indexCast v2007
  let c256_1083 : Index := 256#32
  ![v2008.toNat, 256]
def k0_off39 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1094 : BitVec 32 := 128#32
  let v2032 : BitVec 32 := Scalar.muli v1496 c128_i32_1094
  let v2033 : Index := Scalar.indexCast v2032
  let c512_1095 : Index := 512#32
  ![v2033.toNat, 512]
def k0_off40 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1106 : BitVec 32 := 128#32
  let v2057 : BitVec 32 := Scalar.muli v1496 c128_i32_1106
  let v2058 : Index := Scalar.indexCast v2057
  let c768_1107 : Index := 768#32
  ![v2058.toNat, 768]
def k0_off41 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1118 : BitVec 32 := 128#32
  let v2082 : BitVec 32 := Scalar.muli v1496 c128_i32_1118
  let v2083 : Index := Scalar.indexCast v2082
  let c1024_1119 : Index := 1024#32
  ![v2083.toNat, 1024]
def k0_off42 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1130 : BitVec 32 := 128#32
  let v2107 : BitVec 32 := Scalar.muli v1496 c128_i32_1130
  let v2108 : Index := Scalar.indexCast v2107
  let c1280_1131 : Index := 1280#32
  ![v2108.toNat, 1280]
def k0_off43 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1142 : BitVec 32 := 128#32
  let v2132 : BitVec 32 := Scalar.muli v1496 c128_i32_1142
  let v2133 : Index := Scalar.indexCast v2132
  let c1536_1143 : Index := 1536#32
  ![v2133.toNat, 1536]
def k0_off44 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1154 : BitVec 32 := 128#32
  let v2157 : BitVec 32 := Scalar.muli v1496 c128_i32_1154
  let v2158 : Index := Scalar.indexCast v2157
  let c1792_1155 : Index := 1792#32
  ![v2158.toNat, 1792]
def k0_off45 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1166 : BitVec 32 := 128#32
  let v2182 : BitVec 32 := Scalar.muli v1496 c128_i32_1166
  let v2183 : Index := Scalar.indexCast v2182
  let c2048_1167 : Index := 2048#32
  ![v2183.toNat, 2048]
def k0_off46 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1178 : BitVec 32 := 128#32
  let v2207 : BitVec 32 := Scalar.muli v1496 c128_i32_1178
  let v2208 : Index := Scalar.indexCast v2207
  let c2304_1179 : Index := 2304#32
  ![v2208.toNat, 2304]
def k0_off47 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1190 : BitVec 32 := 128#32
  let v2232 : BitVec 32 := Scalar.muli v1496 c128_i32_1190
  let v2233 : Index := Scalar.indexCast v2232
  let c2560_1191 : Index := 2560#32
  ![v2233.toNat, 2560]
def k0_off48 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1202 : BitVec 32 := 128#32
  let v2257 : BitVec 32 := Scalar.muli v1496 c128_i32_1202
  let v2258 : Index := Scalar.indexCast v2257
  let c2816_1203 : Index := 2816#32
  ![v2258.toNat, 2816]
def k0_off49 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1214 : BitVec 32 := 128#32
  let v2282 : BitVec 32 := Scalar.muli v1496 c128_i32_1214
  let v2283 : Index := Scalar.indexCast v2282
  let c3072_1215 : Index := 3072#32
  ![v2283.toNat, 3072]
def k0_off50 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1226 : BitVec 32 := 128#32
  let v2307 : BitVec 32 := Scalar.muli v1496 c128_i32_1226
  let v2308 : Index := Scalar.indexCast v2307
  let c3328_1227 : Index := 3328#32
  ![v2308.toNat, 3328]
def k0_off51 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1238 : BitVec 32 := 128#32
  let v2332 : BitVec 32 := Scalar.muli v1496 c128_i32_1238
  let v2333 : Index := Scalar.indexCast v2332
  let c3584_1239 : Index := 3584#32
  ![v2333.toNat, 3584]
def k0_off52 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1250 : BitVec 32 := 128#32
  let v2357 : BitVec 32 := Scalar.muli v1496 c128_i32_1250
  let v2358 : Index := Scalar.indexCast v2357
  let c3840_1251 : Index := 3840#32
  ![v2358.toNat, 3840]
def k0_off53 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c3_i32_837 : BitVec 32 := 3#32
  let v1495 : BitVec 32 := Scalar.shrui v1494 c3_i32_837
  let c0_i32_838 : BitVec 32 := 0#32
  let v1496 : BitVec 32 := Scalar.shrui v1495 c0_i32_838
  let c128_i32_1256 : BitVec 32 := 128#32
  let v2371 : BitVec 32 := Scalar.muli v1496 c128_i32_1256
  let v2372 : Index := Scalar.indexCast v2371
  let c0_1257 : Index := 0#32
  ![v2372.toNat, 0]
def k0_off54 (k0_t1 : Fin k0_t1_loop.trips) (c1_i32_836 : BitVec 32) : Fin 2 → Nat :=
  let c4_i32 : BitVec 32 := 4#32
  let c0_i32 : BitVec 32 := 0#32
  let c1_i32 : BitVec 32 := 1#32
  let arg10 : BitVec 32 := Scf.iv c0_i32 c1_i32 k0_t1
  let v1490 : BitVec 32 := Scalar.muli c4_i32 arg10
  let v1494 : BitVec 32 := Scalar.addi v1490 c1_i32_836
  let c7_i32_839 : BitVec 32 := 7#32
  let v1497 : BitVec 32 := Scalar.andi v1494 c7_i32_839
  let c512_i32_1263 : BitVec 32 := 512#32
  let v2391 : BitVec 32 := Scalar.muli v1497 c512_i32_1263
  let v2393 : Index := Scalar.indexCast v2391
  let c3_i32_837 : BitVec 32 := 3#32
  let v1495 : BitVec 32 := Scalar.shrui v1494 c3_i32_837
  let c128_i32_1264 : BitVec 32 := 128#32
  let v2392 : BitVec 32 := Scalar.muli v1495 c128_i32_1264
  let v2394 : Index := Scalar.indexCast v2392
  ![v2393.toNat, v2394.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg0.toNat, v17.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v17.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![arg0.toNat, v17.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v17.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel2Ideal.lean ====
variable {F : FTy → Type} [FloatOps F] [Named F]
def κ : String → Option EReal := fun
  | "scale_log2e" => some (((Real.sqrt 192)⁻¹ * (Real.log 2)⁻¹ : ℝ) : EReal)
  | _ => none
-- ==== Reference2Ideal.lean ====
abbrev S8x4096x8x1x192 : Shape := ⟨5, ![8, 4096, 8, 1, 192]⟩
abbrev S8x4096x8x192 : Shape := ⟨4, ![8, 4096, 8, 192]⟩
abbrev S8x4096x8x128 : Shape := ⟨4, ![8, 4096, 8, 128]⟩
abbrev S8x256x8x192 : Shape := ⟨4, ![8, 256, 8, 192]⟩
abbrev S8x256x8x128 : Shape := ⟨4, ![8, 256, 8, 128]⟩
abbrev S8x4352x8x192 : Shape := ⟨4, ![8, 4352, 8, 192]⟩
abbrev S8x4352x8x128 : Shape := ⟨4, ![8, 4352, 8, 128]⟩
abbrev S8x8x4352x4096x1 : Shape := ⟨5, ![8, 8, 4352, 4096, 1]⟩
abbrev S8x8x1x4096x4352 : Shape := ⟨5, ![8, 8, 1, 4096, 4352]⟩
abbrev S_ : Shape := ⟨0, ![]⟩
abbrev S8x8x1x4096 : Shape := ⟨4, ![8, 8, 1, 4096]⟩
abbrev S8x8x1x4096x1 : Shape := ⟨5, ![8, 8, 1, 4096, 1]⟩
abbrev S8x8x128x1x4096 : Shape := ⟨5, ![8, 8, 128, 1, 4096]⟩
abbrev S8x4096x8x1x128 : Shape := ⟨5, ![8, 4096, 8, 1, 128]⟩
abbrev S32768x1024 : Shape := ⟨2, ![32768, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x8x1x192, .f32⟩
  | .hbm, ⟨1, _⟩ => ⟨S8x4096x8x192, .f32⟩
  | .hbm, ⟨2, _⟩ => ⟨S8x4096x8x128, .f32⟩
  | .hbm, ⟨3, _⟩ => ⟨S8x256x8x192, .f32⟩
  | .hbm, ⟨4, _⟩ => ⟨S8x256x8x128, .f32⟩
  | .hbm, ⟨5, _⟩ => ⟨S8x4352x8x192, .f32⟩
  | .hbm, ⟨6, _⟩ => ⟨S8x4352x8x128, .f32⟩
  | .hbm, ⟨7, _⟩ => ⟨S8x8x4352x4096x1, .f32⟩
  | .hbm, ⟨8, _⟩ => ⟨S8x8x1x4096x4352, .f32⟩
  | .hbm, ⟨9, _⟩ => ⟨S_, .f32⟩
  | .hbm, ⟨10, _⟩ => ⟨S_, .f32⟩
  | .hbm, ⟨11, _⟩ => ⟨S8x8x1x4096x4352, .f32⟩
  | .hbm, ⟨12, _⟩ => ⟨S8x8x1x4096x4352, .f32⟩
  | .hbm, ⟨13, _⟩ => ⟨S_, .f32⟩
  | .hbm, ⟨14, _⟩ => ⟨S8x8x1x4096, .f32⟩
  | .hbm, ⟨15, _⟩ => ⟨S_, .f32⟩
  | .hbm, ⟨16, _⟩ => ⟨S8x8x1x4096, .f32⟩
  | .hbm, ⟨17, _⟩ => ⟨S8x8x1x4096, .f32⟩
  | .hbm, ⟨18, _⟩ => ⟨S8x8x1x4096x1, .f32⟩
  | .hbm, ⟨19, _⟩ => ⟨S8x8x1x4096x4352, .f32⟩
  | .hbm, ⟨20, _⟩ => ⟨S8x8x1x4096x4352, .f32⟩
  | .hbm, ⟨21, _⟩ => ⟨S8x8x1x4096x4352, .f32⟩
  | .hbm, ⟨22, _⟩ => ⟨S_, .f32⟩
  | .hbm, ⟨23, _⟩ => ⟨S8x8x1x4096, .f32⟩
  | .hbm, ⟨24, _⟩ => ⟨S8x8x1x4096x1, .f32⟩
  | .hbm, ⟨25, _⟩ => ⟨S8x8x1x4096x4352, .f32⟩
  | .hbm, ⟨26, _⟩ => ⟨S8x8x1x4096x4352, .f32⟩
  | .hbm, ⟨27, _⟩ => ⟨S8x8x128x1x4096, .f32⟩
  | .hbm, ⟨28, _⟩ => ⟨S8x4096x8x1x128, .f32⟩
  | .hbm, ⟨29, _⟩ => ⟨S32768x1024, .f32⟩
  | .hbm, ⟨30, _⟩ => ⟨S32768x1024, .bf16⟩
  | _, _ => ⟨S8x4096x8x1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S32768x2048 : Shape := ⟨2, ![32768, 2048]⟩
abbrev S16x1x6144 : Shape := ⟨3, ![16, 1, 6144]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .f32⟩
  | .hbm, ⟨3, _⟩ => ⟨S16x1x6144, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  ![v17.toNat, c0_i32_5.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x2048 : Shape := ⟨2, ![32768, 2048]⟩
abbrev S16x1x6144 : Shape := ⟨3, ![16, 1, 6144]⟩
abbrev S2048x2048 : Shape := ⟨2, ![2048, 2048]⟩
abbrev S2048 : Shape := ⟨1, ![2048]⟩
abbrev S8x4096x2048 : Shape := ⟨3, ![8, 4096, 2048]⟩
abbrev S8x1x2048 : Shape := ⟨3, ![8, 1, 2048]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .f32⟩
  | .hbm, ⟨3, _⟩ => ⟨S16x1x6144, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S8x4096x2048, .f32⟩
  | .hbm, ⟨12, _⟩ => ⟨S8x1x2048, .f32⟩
  | .hbm, ⟨13, _⟩ => ⟨S8x2048, .f32⟩
  | .hbm, ⟨14, _⟩ => ⟨S8x4096x2048, .f32⟩
  | .hbm, ⟨15, _⟩ => ⟨S_, .f32⟩
  | .hbm, ⟨16, _⟩ => ⟨S8x4096x2048, .f32⟩
  | .hbm, ⟨17, _⟩ => ⟨S8x4096x2048, .f32⟩
  | .hbm, ⟨18, _⟩ => ⟨S8x1x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x2048, .f32⟩
  | .hbm, ⟨38, _⟩ => ⟨S8x4096x2048, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x2048, .f32⟩
  | .hbm, ⟨44, _⟩ => ⟨S8x4096x2048, .f32⟩
  | .hbm, ⟨45, _⟩ => ⟨S1x1x2048, .f32⟩
  | .hbm, ⟨46, _⟩ => ⟨S8x4096x2048, .f32⟩
  | .hbm, ⟨47, _⟩ => ⟨S8x4096x2048, .f32⟩
  | .hbm, ⟨48, _⟩ => ⟨S1x1x2048, .f32⟩
  | .hbm, ⟨49, _⟩ => ⟨S8x4096x2048, .f32⟩
  | .hbm, ⟨50, _⟩ => ⟨S8x4096x2048, .f32⟩
  | .hbm, ⟨51, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S16x1x6144 : Shape := ⟨3, ![16, 1, 6144]⟩
abbrev S2048x2048 : Shape := ⟨2, ![2048, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x2048, .f32⟩
  | .hbm, ⟨4, _⟩ => ⟨S16x1x6144, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c2_i32 : BitVec 32 := 2#32
  let c0_i32_6 : BitVec 32 := 0#32
  ![v17.toNat, c0_i32_5.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x1024 : Shape := ⟨2, ![32768, 1024]⟩
abbrev S32768x2048 : Shape := ⟨2, ![32768, 2048]⟩
abbrev S16x1x6144 : Shape := ⟨3, ![16, 1, 6144]⟩
abbrev S2048x2048 : Shape := ⟨2, ![2048, 2048]⟩
abbrev S2048 : Shape := ⟨1, ![2048]⟩
abbrev S8x4096x2048 : Shape := ⟨3, ![8, 4096, 2048]⟩
abbrev S8x1x2048 : Shape := ⟨3, ![8, 1, 2048]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x2048, .f32⟩
  | .hbm, ⟨4, _⟩ => ⟨S16x1x6144, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S32768x1024, .f32⟩
  | .hbm, ⟨9, _⟩ => ⟨S32768x1024, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S8x4096x2048, .f32⟩
  | .hbm, ⟨15, _⟩ => ⟨S8x1x2048, .f32⟩
  | .hbm, ⟨16, _⟩ => ⟨S8x2048, .f32⟩
  | .hbm, ⟨17, _⟩ => ⟨S8x4096x2048, .f32⟩
  | .hbm, ⟨18, _⟩ => ⟨S_, .f32⟩
  | .hbm, ⟨19, _⟩ => ⟨S8x4096x2048, .f32⟩
  | .hbm, ⟨20, _⟩ => ⟨S8x4096x2048, .f32⟩
  | .hbm, ⟨21, _⟩ => ⟨S8x1x2048, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x2048, .f32⟩
  | .hbm, ⟨47, _⟩ => ⟨S8x4096x2048, .f32⟩
  | .hbm, ⟨48, _⟩ => ⟨S1x1x2048, .f32⟩
  | .hbm, ⟨49, _⟩ => ⟨S8x4096x2048, .f32⟩
  | .hbm, ⟨50, _⟩ => ⟨S8x4096x2048, .f32⟩
  | .hbm, ⟨51, _⟩ => ⟨S1x1x2048, .f32⟩
  | .hbm, ⟨52, _⟩ => ⟨S8x4096x2048, .f32⟩
  | .hbm, ⟨53, _⟩ => ⟨S8x4096x2048, .f32⟩
  | .hbm, ⟨54, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S32768x2048 : Shape := ⟨2, ![32768, 2048]⟩
abbrev S16x1x6144 : Shape := ⟨3, ![16, 1, 6144]⟩
abbrev S2048x2048 : Shape := ⟨2, ![2048, 2048]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1x2048 : Shape := ⟨2, ![1, 2048]⟩
abbrev S512x2048 : Shape := ⟨2, ![512, 2048]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S16x1x6144, .f32⟩
  | .hbm, ⟨2, _⟩ => ⟨S2048x2048, .f32⟩
  | .hbm, ⟨3, _⟩ => ⟨S2048x2048, .bf16⟩
  | .hbm, ⟨4, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  ![v17.toNat, c0_i32_5.toNat, c1_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32768x2048 : Shape := ⟨2, ![32768, 2048]⟩
abbrev S16x1x6144 : Shape := ⟨3, ![16, 1, 6144]⟩
abbrev S2048x2048 : Shape := ⟨2, ![2048, 2048]⟩
abbrev S8x1x2048 : Shape := ⟨3, ![8, 1, 2048]⟩
abbrev S8x2048 : Shape := ⟨2, ![8, 2048]⟩
abbrev S8x4096x2048 : Shape := ⟨3, ![8, 4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x1x6144, .f32⟩
  | .hbm, ⟨2, _⟩ => ⟨S2048x2048, .f32⟩
  | .hbm, ⟨3, _⟩ => ⟨S8x1x2048, .f32⟩
  | .hbm, ⟨4, _⟩ => ⟨S8x2048, .f32⟩
  | .hbm, ⟨5, _⟩ => ⟨S8x1x2048, .f32⟩
  | .hbm, ⟨6, _⟩ => ⟨S8x2048, .f32⟩
  | .hbm, ⟨7, _⟩ => ⟨S8x4096x2048, .f32⟩
  | .hbm, ⟨8, _⟩ => ⟨S8x1x2048, .f32⟩
  | .hbm, ⟨9, _⟩ => ⟨S_, .f32⟩
  | .hbm, ⟨10, _⟩ => ⟨S8x1x2048, .f32⟩
  | .hbm, ⟨11, _⟩ => ⟨S8x1x2048, .f32⟩
  | .hbm, ⟨12, _⟩ => ⟨S8x4096x2048, .f32⟩
  | .hbm, ⟨13, _⟩ => ⟨S8x4096x2048, .f32⟩
  | .hbm, ⟨14, _⟩ => ⟨S8x1x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .bf16⟩
  | .hbm, ⟨28, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel6.lean ====
abbrev S32768x2048 : Shape := ⟨2, ![32768, 2048]⟩
abbrev S16x1x6144 : Shape := ⟨3, ![16, 1, 6144]⟩
abbrev S2048x3072 : Shape := ⟨2, ![2048, 3072]⟩
abbrev S32768x3072 : Shape := ⟨2, ![32768, 3072]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1x2048 : Shape := ⟨2, ![1, 2048]⟩
abbrev S512x2048 : Shape := ⟨2, ![512, 2048]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S16x1x6144, .f32⟩
  | .hbm, ⟨2, _⟩ => ⟨S2048x3072, .f32⟩
  | .hbm, ⟨3, _⟩ => ⟨S2048x3072, .bf16⟩
  | .hbm, ⟨4, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c1_i32_6 : BitVec 32 := 1#32
  let c0_i32_7 : BitVec 32 := 0#32
  ![v17.toNat, c0_i32_5.toNat, c1_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S32768x2048 : Shape := ⟨2, ![32768, 2048]⟩
abbrev S16x1x6144 : Shape := ⟨3, ![16, 1, 6144]⟩
abbrev S2048x3072 : Shape := ⟨2, ![2048, 3072]⟩
abbrev S8x1x2048 : Shape := ⟨3, ![8, 1, 2048]⟩
abbrev S8x2048 : Shape := ⟨2, ![8, 2048]⟩
abbrev S8x4096x2048 : Shape := ⟨3, ![8, 4096, 2048]⟩
abbrev S_ : Shape := ⟨0, ![]⟩
abbrev S8x4096x3072 : Shape := ⟨3, ![8, 4096, 3072]⟩
abbrev S32768x3072 : Shape := ⟨2, ![32768, 3072]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x1x6144, .f32⟩
  | .hbm, ⟨2, _⟩ => ⟨S2048x3072, .f32⟩
  | .hbm, ⟨3, _⟩ => ⟨S8x1x2048, .f32⟩
  | .hbm, ⟨4, _⟩ => ⟨S8x2048, .f32⟩
  | .hbm, ⟨5, _⟩ => ⟨S8x1x2048, .f32⟩
  | .hbm, ⟨6, _⟩ => ⟨S8x2048, .f32⟩
  | .hbm, ⟨7, _⟩ => ⟨S8x4096x2048, .f32⟩
  | .hbm, ⟨8, _⟩ => ⟨S8x1x2048, .f32⟩
  | .hbm, ⟨9, _⟩ => ⟨S_, .f32⟩
  | .hbm, ⟨10, _⟩ => ⟨S8x1x2048, .f32⟩
  | .hbm, ⟨11, _⟩ => ⟨S8x1x2048, .f32⟩
  | .hbm, ⟨12, _⟩ => ⟨S8x4096x2048, .f32⟩
  | .hbm, ⟨13, _⟩ => ⟨S8x4096x2048, .f32⟩
  | .hbm, ⟨14, _⟩ => ⟨S8x1x2048, .f32⟩
  | .hbm, ⟨15, _⟩ => ⟨S8x4096x2048, .f32⟩
  | .hbm, ⟨16, _⟩ => ⟨S8x4096x2048, .f32⟩
  | .hbm, ⟨17, _⟩ => ⟨S8x4096x3072, .f32⟩
  | .hbm, ⟨18, _⟩ => ⟨S8x4096x3072, .bf16⟩
  | .hbm, ⟨19, _⟩ => ⟨S32768x3072, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Attn.Form.lean ====
/- One stage of the attention kernel as functions of vectors: the running maximum over the seventeen score pieces of a
   block of queries, and the block's result from its score pieces, its value pieces and a maximum. Both attention calls
   (the grouped one and the latent one) have these shapes. -/
module

public import Idealize.ShloMosaic.Lib.MatmulPlain
public import Idealize.ShloMosaic.Lib.Tactic

@[expose] public section

noncomputable section

namespace Cert.Attn

open Idealize.ShloMosaic

variable {F : FTy → Type} [FloatOps F]

/-- The shapes of a stage: a score piece, the same in groups of eight rows, eight rows, one row, a row as a vector, … -/
abbrev Sp : Shape := ⟨2, ![256, 512]⟩
abbrev Sg : Shape := ⟨3, ![32, 8, 512]⟩
abbrev S8 : Shape := ⟨2, ![8, 512]⟩
abbrev S1 : Shape := ⟨2, ![1, 512]⟩
abbrev Sv : Shape := ⟨1, ![512]⟩
abbrev Svt : Shape := ⟨2, ![128, 256]⟩
abbrev Sa : Shape := ⟨2, ![128, 512]⟩
abbrev So : Shape := ⟨2, ![512, 128]⟩

theorem hpp : Sp.ShapeCasts Sp := by decide
theorem hpg : Sp.ShapeCasts Sg := by decide
theorem hg8 : Sg.Reduces [0] S8 := by decide
theorem h8v : S8.Reduces [0] Sv := by decide
theorem hv1 : Sv.ShapeCasts S1 := by decide
theorem h1p : S1.Broadcasts Sp := by decide
theorem h1a : S1.Broadcasts Sa := by decide
theorem hvt : Svt.ShapeCasts Svt := by decide
theorem hao : Sa.Transposes [1, 0] So := by decide
theorem hbits : FTy.bits .bf16 < FTy.bits .f32 := by decide

/-- The maximum of each of the eight rows modulo eight of a score piece. -/
def foldMax (s : FVec F Sp .f32) : FVec F S8 .f32 :=
  multiReduction .maximumf [0] S8 (shapeCast Sg s hpg) 0xFF800000#32 hg8 (.inl rfl) rfl

/-- The sum of each of the eight rows modulo eight of a piece. -/
def foldSum (p : FVec F Sp .f32) : FVec F S8 .f32 :=
  multiReduction .add [0] S8 (shapeCast Sg p hpg) 0x00000000#32 hg8 (.inl rfl) rfl

/-- The running maximum after piece `n`. -/
def mxRun (s : ℕ → FVec F Sp .f32) : ℕ → FVec F S8 .f32
  | 0 => maximumf (broadcast S8 (Scalar.ofBits .f32 0xFF800000#32)) (foldMax (s 0))
  | n + 1 => maximumf (mxRun s n) (foldMax (s (n + 1)))

/-- The maximum of each query's scores over the seventeen pieces. -/
def mx (s : ℕ → FVec F Sp .f32) : FVec F S1 .f32 :=
  shapeCast S1 (multiReduction .maximumf [0] Sv (mxRun s 16) 0xFF800000#32 h8v (.inl rfl) rfl) hv1

/-- A score piece's weights against a maximum. -/
def wt (s : FVec F Sp .f32) (m : FVec F S1 .f32) : FVec F Sp .f32 := exp2 (subf s (broadcastTo Sp m h1p))

/-- A value piece against a weight piece. -/
def dotv (v : FVec F Svt .bf16) (p : FVec F Sp .f32) : FVec F Sa .f32 :=
  matmul (DotDims.plain 128 256 512) none (shapeCast Svt v hvt) (truncf .bf16 p hbits) (constant Sa .f32 0x00000000#32)

/-- The weighted values summed up to piece `n`. -/
def accRun (v : ℕ → FVec F Svt .bf16) (s : ℕ → FVec F Sp .f32) (m : FVec F S1 .f32) : ℕ → FVec F Sa .f32
  | 0 => dotv (v 0) (wt (s 0) m)
  | n + 1 => addf (accRun v s m n) (dotv (v (n + 1)) (wt (s (n + 1)) m))

/-- The weights summed up to piece `n`, by rows modulo eight. -/
def lRun (s : ℕ → FVec F Sp .f32) (m : FVec F S1 .f32) : ℕ → FVec F S8 .f32
  | 0 => addf (broadcast S8 (Scalar.ofBits .f32 0x00000000#32)) (foldSum (wt (s 0) m))
  | n + 1 => addf (lRun s m n) (foldSum (wt (s (n + 1)) m))

/-- The result of a block of queries: weighted values over summed weights, turned. -/
def out (v : ℕ → FVec F Svt .bf16) (s : ℕ → FVec F Sp .f32) (m : FVec F S1 .f32) : FVec F So .bf16 :=
  truncf .bf16 (transpose So [1, 0] (divf (accRun v s m 16)
    (broadcastTo Sa (shapeCast S1 (multiReduction .add [0] Sv (lRun s m 16) 0x00000000#32 h8v (.inl rfl) rfl) hv1) h1a)) hao) hbits

end Cert.Attn

end
-- ==== Proof.Gqa.Run.lean ====
/- One trip of the grouped attention kernel: what it yields and what it stores. -/
module

public import proofs.«01_k».proof.Proof.Gen.KernelIdeal.Skeleton
public import proofs.«01_k».proof.Proof.Gen.KernelIdeal.Frame
public import proofs.«01_k».proof.Proof.Attn.Form
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Attn

variable {F : FTy → Type} [FloatOps F] [Named F]

local notation "𝕄" => MT nD τ sig Unit (Elt F) ℕ (UR sig nD τ) ℕ

/-- The scores of a block of queries against a piece of keys. -/
def score (q : Vec F S128x512 .f32) (kv : Vec F S256x128 .bf16) : FVec F S256x512 .f32 :=
  matmul dot_S256x128_S128x512_S256x512_1_0_0_1_n_n none (shapeCast S256x128 kv shapeCasts_S256x128_S256x128) (k0_pay3 q)
    (constant S256x512 .f32 0x00000000#32)

section

variable (arg2 : Memref sig .tc .vmem S512x4096 .f32) (arg3 : Memref sig .tc .vmem S4096x128 .bf16)
  (arg4 : Memref sig .tc .vmem S128x4096 .bf16) (arg5 : Memref sig .tc .vmem S256x128 .bf16)
  (arg6 : Memref sig .tc .vmem S128x256 .bf16) (arg7 : Memref sig .tc .vmem S4096x512 .bf16)
  (arg8 : Memref sig .tc .vmem S4352x512 .f32) (arg9 : Memref sig .tc .vmem S4352x512 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (f7 : BufTy.Contents (Elt F) arg7.view.ty) (f8 : BufTy.Contents (Elt F) arg8.view.ty) (f9 : BufTy.Contents (Elt F) arg9.view.ty)

/-- The block of queries read at an offset, and a piece of the keys or of the values. -/
def rdq (off : Fin 2 → ℕ) (inb : ∀ a, off a + S128x512.size a ≤ S512x4096.size a) : Vec F S128x512 .f32 :=
  View.readAt (Elt F) arg2.view (Rect.unit (s := S512x4096) off S128x512.size inb).toLoadRect X2
def rdk (off : Fin 2 → ℕ) (inb : ∀ a, off a + S256x128.size a ≤ S4096x128.size a) : Vec F S256x128 .bf16 :=
  View.readAt (Elt F) arg3.view (Rect.unit (s := S4096x128) off S256x128.size inb).toLoadRect X3
def rdv (off : Fin 2 → ℕ) (inb : ∀ a, off a + S128x256.size a ≤ S128x4096.size a) : Vec F S128x256 .bf16 :=
  View.readAt (Elt F) arg4.view (Rect.unit (s := S128x4096) off S128x256.size inb).toLoadRect X4
def rdkc (off : Fin 2 → ℕ) (inb : ∀ a, off a + S256x128.size a ≤ S256x128.size a) : Vec F S256x128 .bf16 :=
  View.readAt (Elt F) arg5.view (Rect.unit (s := S256x128) off S256x128.size inb).toLoadRect X5
def rdvc (off : Fin 2 → ℕ) (inb : ∀ a, off a + S128x256.size a ≤ S128x256.size a) : Vec F S128x256 .bf16 :=
  View.readAt (Elt F) arg6.view (Rect.unit (s := S128x256) off S128x256.size inb).toLoadRect X6

theorem hslot (c : ℕ) (hc : c < 17) : ∀ a, (![256 * c, 0] : Fin 2 → ℕ) a + S256x512.size a ≤ S4352x512.size a := by
  intro a; fin_cases a
  · show 256 * c + 256 ≤ 4352; omega
  · show 0 + 512 ≤ 512; omega

/-- The seventeen pieces a stage stores into a slot, the last first. -/
def slotL (S : ℕ → FVec F S256x512 .f32) : List (View.Piece (Elt F) S4352x512 .f32) :=
  [⟨Rect.unit (s := S4352x512) ![4096, 0] S256x512.size (hslot 16 (by decide)), shapeCast S256x512 (S 16) shapeCasts_S256x512_S256x512⟩,
   ⟨Rect.unit (s := S4352x512) ![3840, 0] S256x512.size (hslot 15 (by decide)), shapeCast S256x512 (S 15) shapeCasts_S256x512_S256x512⟩,
   ⟨Rect.unit (s := S4352x512) ![3584, 0] S256x512.size (hslot 14 (by decide)), shapeCast S256x512 (S 14) shapeCasts_S256x512_S256x512⟩,
   ⟨Rect.unit (s := S4352x512) ![3328, 0] S256x512.size (hslot 13 (by decide)), shapeCast S256x512 (S 13) shapeCasts_S256x512_S256x512⟩,
   ⟨Rect.unit (s := S4352x512) ![3072, 0] S256x512.size (hslot 12 (by decide)), shapeCast S256x512 (S 12) shapeCasts_S256x512_S256x512⟩,
   ⟨Rect.unit (s := S4352x512) ![2816, 0] S256x512.size (hslot 11 (by decide)), shapeCast S256x512 (S 11) shapeCasts_S256x512_S256x512⟩,
   ⟨Rect.unit (s := S4352x512) ![2560, 0] S256x512.size (hslot 10 (by decide)), shapeCast S256x512 (S 10) shapeCasts_S256x512_S256x512⟩,
   ⟨Rect.unit (s := S4352x512) ![2304, 0] S256x512.size (hslot 9 (by decide)), shapeCast S256x512 (S 9) shapeCasts_S256x512_S256x512⟩,
   ⟨Rect.unit (s := S4352x512) ![2048, 0] S256x512.size (hslot 8 (by decide)), shapeCast S256x512 (S 8) shapeCasts_S256x512_S256x512⟩,
   ⟨Rect.unit (s := S4352x512) ![1792, 0] S256x512.size (hslot 7 (by decide)), shapeCast S256x512 (S 7) shapeCasts_S256x512_S256x512⟩,
   ⟨Rect.unit (s := S4352x512) ![1536, 0] S256x512.size (hslot 6 (by decide)), shapeCast S256x512 (S 6) shapeCasts_S256x512_S256x512⟩,
   ⟨Rect.unit (s := S4352x512) ![1280, 0] S256x512.size (hslot 5 (by decide)), shapeCast S256x512 (S 5) shapeCasts_S256x512_S256x512⟩,
   ⟨Rect.unit (s := S4352x512) ![1024, 0] S256x512.size (hslot 4 (by decide)), shapeCast S256x512 (S 4) shapeCasts_S256x512_S256x512⟩,
   ⟨Rect.unit (s := S4352x512) ![768, 0] S256x512.size (hslot 3 (by decide)), shapeCast S256x512 (S 3) shapeCasts_S256x512_S256x512⟩,
   ⟨Rect.unit (s := S4352x512) ![512, 0] S256x512.size (hslot 2 (by decide)), shapeCast S256x512 (S 2) shapeCasts_S256x512_S256x512⟩,
   ⟨Rect.unit (s := S4352x512) ![256, 0] S256x512.size (hslot 1 (by decide)), shapeCast S256x512 (S 1) shapeCasts_S256x512_S256x512⟩,
   ⟨Rect.unit (s := S4352x512) ![0, 0] S256x512.size (hslot 0 (by decide)), shapeCast S256x512 (S 0) shapeCasts_S256x512_S256x512⟩]

/-- A slot's pieces read out of a buffer's contents. -/
def rd8 (c : ℕ) : FVec F S256x512 .f32 :=
  if h : c < 17 then View.readAt (Elt F) arg8.view (Rect.unit (s := S4352x512) ![256 * c, 0] S256x512.size (hslot c h)).toLoadRect f8
  else constant S256x512 .f32 0x00000000#32
/-- A slot's pieces read out of what a list of stores leaves. -/
def rdL8 (L : List (View.Piece (Elt F) S4352x512 .f32)) (c : ℕ) : FVec F S256x512 .f32 :=
  if h : c < 17 then arg8.view.readCov L (Rect.unit (s := S4352x512) ![256 * c, 0] S256x512.size (hslot c h)).toLoadRect
  else constant S256x512 .f32 0x00000000#32
def rdL9 (L : List (View.Piece (Elt F) S4352x512 .f32)) (c : ℕ) : FVec F S256x512 .f32 :=
  if h : c < 17 then arg9.view.readCov L (Rect.unit (s := S4352x512) ![256 * c, 0] S256x512.size (hslot c h)).toLoadRect
  else constant S256x512 .f32 0x00000000#32

end

/-- The scores of stage `d + 1`'s own block of queries, as the trip reads them. -/
def rawS (arg2 : Memref sig .tc .vmem S512x4096 .f32) (arg3 : Memref sig .tc .vmem S4096x128 .bf16) (arg5 : Memref sig .tc .vmem S256x128 .bf16)
    (X2 : BufTy.Contents (Elt F) arg2.view.ty) (X3 : BufTy.Contents (Elt F) arg3.view.ty) (X5 : BufTy.Contents (Elt F) arg5.view.ty) (k : Fin k0_t1_loop.trips) (d : Fin 6) : ℕ → FVec F S256x512 .f32
  | 0 => score (rdq arg2 X2 (k0_off1 k (BitVec.ofNat 32 (1 + d.val))) (k0_off1_inb k d)) (rdk arg3 X3 (k0_off2 k (BitVec.ofNat 32 (1 + d.val))) (k0_off2_inb k d))
  | 1 => score (rdq arg2 X2 (k0_off1 k (BitVec.ofNat 32 (1 + d.val))) (k0_off1_inb k d)) (rdk arg3 X3 (k0_off3 k (BitVec.ofNat 32 (1 + d.val))) (k0_off3_inb k d))
  | 2 => score (rdq arg2 X2 (k0_off1 k (BitVec.ofNat 32 (1 + d.val))) (k0_off1_inb k d)) (rdk arg3 X3 (k0_off5 k (BitVec.ofNat 32 (1 + d.val))) (k0_off5_inb k d))
  | 3 => score (rdq arg2 X2 (k0_off1 k (BitVec.ofNat 32 (1 + d.val))) (k0_off1_inb k d)) (rdk arg3 X3 (k0_off7 k (BitVec.ofNat 32 (1 + d.val))) (k0_off7_inb k d))
  | 4 => score (rdq arg2 X2 (k0_off1 k (BitVec.ofNat 32 (1 + d.val))) (k0_off1_inb k d)) (rdk arg3 X3 (k0_off9 k (BitVec.ofNat 32 (1 + d.val))) (k0_off9_inb k d))
  | 5 => score (rdq arg2 X2 (k0_off1 k (BitVec.ofNat 32 (1 + d.val))) (k0_off1_inb k d)) (rdk arg3 X3 (k0_off11 k (BitVec.ofNat 32 (1 + d.val))) (k0_off11_inb k d))
  | 6 => score (rdq arg2 X2 (k0_off1 k (BitVec.ofNat 32 (1 + d.val))) (k0_off1_inb k d)) (rdk arg3 X3 (k0_off13 k (BitVec.ofNat 32 (1 + d.val))) (k0_off13_inb k d))
  | 7 => score (rdq arg2 X2 (k0_off1 k (BitVec.ofNat 32 (1 + d.val))) (k0_off1_inb k d)) (rdk arg3 X3 (k0_off15 k (BitVec.ofNat 32 (1 + d.val))) (k0_off15_inb k d))
  | 8 => score (rdq arg2 X2 (k0_off1 k (BitVec.ofNat 32 (1 + d.val))) (k0_off1_inb k d)) (rdk arg3 X3 (k0_off17 k (BitVec.ofNat 32 (1 + d.val))) (k0_off17_inb k d))
  | 9 => score (rdq arg2 X2 (k0_off1 k (BitVec.ofNat 32 (1 + d.val))) (k0_off1_inb k d)) (rdk arg3 X3 (k0_off19 k (BitVec.ofNat 32 (1 + d.val))) (k0_off19_inb k d))
  | 10 => score (rdq arg2 X2 (k0_off1 k (BitVec.ofNat 32 (1 + d.val))) (k0_off1_inb k d)) (rdk arg3 X3 (k0_off21 k (BitVec.ofNat 32 (1 + d.val))) (k0_off21_inb k d))
  | 11 => score (rdq arg2 X2 (k0_off1 k (BitVec.ofNat 32 (1 + d.val))) (k0_off1_inb k d)) (rdk arg3 X3 (k0_off23 k (BitVec.ofNat 32 (1 + d.val))) (k0_off23_inb k d))
  | 12 => score (rdq arg2 X2 (k0_off1 k (BitVec.ofNat 32 (1 + d.val))) (k0_off1_inb k d)) (rdk arg3 X3 (k0_off25 k (BitVec.ofNat 32 (1 + d.val))) (k0_off25_inb k d))
  | 13 => score (rdq arg2 X2 (k0_off1 k (BitVec.ofNat 32 (1 + d.val))) (k0_off1_inb k d)) (rdk arg3 X3 (k0_off27 k (BitVec.ofNat 32 (1 + d.val))) (k0_off27_inb k d))
  | 14 => score (rdq arg2 X2 (k0_off1 k (BitVec.ofNat 32 (1 + d.val))) (k0_off1_inb k d)) (rdk arg3 X3 (k0_off29 k (BitVec.ofNat 32 (1 + d.val))) (k0_off29_inb k d))
  | 15 => score (rdq arg2 X2 (k0_off1 k (BitVec.ofNat 32 (1 + d.val))) (k0_off1_inb k d)) (rdk arg3 X3 (k0_off31 k (BitVec.ofNat 32 (1 + d.val))) (k0_off31_inb k d))
  | _ => score (rdq arg2 X2 (k0_off1 k (BitVec.ofNat 32 (1 + d.val))) (k0_off1_inb k d)) (rdkc arg5 X5 (k0_off33 k (BitVec.ofNat 32 (1 + d.val))) (k0_off33_inb k d))

/-- The values of the first stage's block, of the trip before. -/
def rawV1 (arg4 : Memref sig .tc .vmem S128x4096 .bf16) (arg6 : Memref sig .tc .vmem S128x256 .bf16)
    (X4 : BufTy.Contents (Elt F) arg4.view.ty) (X6 : BufTy.Contents (Elt F) arg6.view.ty) (k : Fin k0_t1_loop.trips) : ℕ → FVec F S128x256 .bf16
  | 0 => rdv arg4 X4 (k0_off4 k) (k0_off4_inb k)
  | 1 => rdv arg4 X4 (k0_off6 k) (k0_off6_inb k)
  | 2 => rdv arg4 X4 (k0_off8 k) (k0_off8_inb k)
  | 3 => rdv arg4 X4 (k0_off10 k) (k0_off10_inb k)
  | 4 => rdv arg4 X4 (k0_off12 k) (k0_off12_inb k)
  | 5 => rdv arg4 X4 (k0_off14 k) (k0_off14_inb k)
  | 6 => rdv arg4 X4 (k0_off16 k) (k0_off16_inb k)
  | 7 => rdv arg4 X4 (k0_off18 k) (k0_off18_inb k)
  | 8 => rdv arg4 X4 (k0_off20 k) (k0_off20_inb k)
  | 9 => rdv arg4 X4 (k0_off22 k) (k0_off22_inb k)
  | 10 => rdv arg4 X4 (k0_off24 k) (k0_off24_inb k)
  | 11 => rdv arg4 X4 (k0_off26 k) (k0_off26_inb k)
  | 12 => rdv arg4 X4 (k0_off28 k) (k0_off28_inb k)
  | 13 => rdv arg4 X4 (k0_off30 k) (k0_off30_inb k)
  | 14 => rdv arg4 X4 (k0_off32 k) (k0_off32_inb k)
  | 15 => rdv arg4 X4 (k0_off34 k) (k0_off34_inb k)
  | _ => rdvc arg6 X6 (k0_off35 k) (k0_off35_inb k)

/-- The values of stage `d + 2`'s block, the one stage `d + 1` scored. -/
def rawV (arg4 : Memref sig .tc .vmem S128x4096 .bf16) (arg6 : Memref sig .tc .vmem S128x256 .bf16)
    (X4 : BufTy.Contents (Elt F) arg4.view.ty) (X6 : BufTy.Contents (Elt F) arg6.view.ty) (k : Fin k0_t1_loop.trips) (d : Fin 5) : ℕ → FVec F S128x256 .bf16
  | 0 => rdv arg4 X4 (k0_off37 k (BitVec.ofNat 32 (1 + d.val))) (k0_off37_inb k d)
  | 1 => rdv arg4 X4 (k0_off38 k (BitVec.ofNat 32 (1 + d.val))) (k0_off38_inb k d)
  | 2 => rdv arg4 X4 (k0_off39 k (BitVec.ofNat 32 (1 + d.val))) (k0_off39_inb k d)
  | 3 => rdv arg4 X4 (k0_off40 k (BitVec.ofNat 32 (1 + d.val))) (k0_off40_inb k d)
  | 4 => rdv arg4 X4 (k0_off41 k (BitVec.ofNat 32 (1 + d.val))) (k0_off41_inb k d)
  | 5 => rdv arg4 X4 (k0_off42 k (BitVec.ofNat 32 (1 + d.val))) (k0_off42_inb k d)
  | 6 => rdv arg4 X4 (k0_off43 k (BitVec.ofNat 32 (1 + d.val))) (k0_off43_inb k d)
  | 7 => rdv arg4 X4 (k0_off44 k (BitVec.ofNat 32 (1 + d.val))) (k0_off44_inb k d)
  | 8 => rdv arg4 X4 (k0_off45 k (BitVec.ofNat 32 (1 + d.val))) (k0_off45_inb k d)
  | 9 => rdv arg4 X4 (k0_off46 k (BitVec.ofNat 32 (1 + d.val))) (k0_off46_inb k d)
  | 10 => rdv arg4 X4 (k0_off47 k (BitVec.ofNat 32 (1 + d.val))) (k0_off47_inb k d)
  | 11 => rdv arg4 X4 (k0_off48 k (BitVec.ofNat 32 (1 + d.val))) (k0_off48_inb k d)
  | 12 => rdv arg4 X4 (k0_off49 k (BitVec.ofNat 32 (1 + d.val))) (k0_off49_inb k d)
  | 13 => rdv arg4 X4 (k0_off50 k (BitVec.ofNat 32 (1 + d.val))) (k0_off50_inb k d)
  | 14 => rdv arg4 X4 (k0_off51 k (BitVec.ofNat 32 (1 + d.val))) (k0_off51_inb k d)
  | 15 => rdv arg4 X4 (k0_off52 k (BitVec.ofNat 32 (1 + d.val))) (k0_off52_inb k d)
  | _ => rdvc arg6 X6 (k0_off53 k (BitVec.ofNat 32 (1 + d.val))) (k0_off53_inb k d)

/-- What a trip needs: the five inputs at their contents, the output block and the two slots at any. -/
abbrev Res (cd : Dev nD) (arg2 : Memref sig .tc .vmem S512x4096 .f32) (arg3 : Memref sig .tc .vmem S4096x128 .bf16)
    (arg4 : Memref sig .tc .vmem S128x4096 .bf16) (arg5 : Memref sig .tc .vmem S256x128 .bf16)
    (arg6 : Memref sig .tc .vmem S128x256 .bf16) (arg7 : Memref sig .tc .vmem S4096x512 .bf16)
    (arg8 : Memref sig .tc .vmem S4352x512 .f32) (arg9 : Memref sig .tc .vmem S4352x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (f7 : BufTy.Contents (Elt F) arg7.view.ty) (f8 : BufTy.Contents (Elt F) arg8.view.ty) (f9 : BufTy.Contents (Elt F) arg9.view.ty) : sProp 𝕄 :=
  iprop((arg2.view.loc (cd : Thread nD τ) ↦[arg2.view.set]{fullShare} X2) ∗ (arg3.view.loc (cd : Thread nD τ) ↦[arg3.view.set]{fullShare} X3) ∗ (arg4.view.loc (cd : Thread nD τ) ↦[arg4.view.set]{fullShare} X4) ∗ (arg5.view.loc (cd : Thread nD τ) ↦[arg5.view.set]{fullShare} X5) ∗ (arg6.view.loc (cd : Thread nD τ) ↦[arg6.view.set]{fullShare} X6) ∗ (arg7.view.loc (cd : Thread nD τ) ↦[arg7.view.set]{fullShare} f7) ∗ (arg8.view.loc (cd : Thread nD τ) ↦[arg8.view.set]{fullShare} f8) ∗ (arg9.view.loc (cd : Thread nD τ) ↦[arg9.view.set]{fullShare} f9))

/-- One trip run at a symbolic trip number and carried maximum: its yield and the pieces it stores into the output block
    and the two slots are what the run finds. -/
def trip (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (v5 : FVec F S128x512 .bf16) (v131 : FVec F S8x512 .f32) (v133 : FVec F S256x128 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips) :
    Σ' (R : (FVec F S1x512 .f32 → BufTy.Contents (Elt F) arg7.view.ty → BufTy.Contents (Elt F) arg8.view.ty → BufTy.Contents (Elt F) arg9.view.ty →  FVec F S1x512 .f32)) (L7 : (FVec F S1x512 .f32 → BufTy.Contents (Elt F) arg7.view.ty → BufTy.Contents (Elt F) arg8.view.ty → BufTy.Contents (Elt F) arg9.view.ty →  List (View.Piece (Elt F) S4096x512 .bf16)))
      (L8 : (FVec F S1x512 .f32 → BufTy.Contents (Elt F) arg7.view.ty → BufTy.Contents (Elt F) arg8.view.ty → BufTy.Contents (Elt F) arg9.view.ty →  List (View.Piece (Elt F) S4352x512 .f32))), { L9 : (FVec F S1x512 .f32 → BufTy.Contents (Elt F) arg7.view.ty → BufTy.Contents (Elt F) arg8.view.ty → BufTy.Contents (Elt F) arg9.view.ty →  List (View.Piece (Elt F) S4352x512 .f32)) //
      ∀ (E : Set ℕ) (m : FVec F S1x512 .f32) (f7 : BufTy.Contents (Elt F) arg7.view.ty) (f8 : BufTy.Contents (Elt F) arg8.view.ty) (f9 : BufTy.Contents (Elt F) arg9.view.ty),
        Res (F := F) cd arg2 arg3 arg4 arg5 arg6 arg7 arg8 arg9 X2 X3 X4 X5 X6 f7 f8 f9
        ⊢ wp frame (wpE (defs₀ (F := F)) 𝒱 (cd : Thread nD τ) bd) E (k0_t1_body (F := F) i arg2 harg2 arg3 harg3 arg4 harg4 arg5 harg5 arg6 harg6 arg7 harg7 arg8 harg8 arg9 harg9 v5 v131 v133 k m)
            (fun y => iprop(⌜y = R m f7 f8 f9⌝ ∗ Res (F := F) cd arg2 arg3 arg4 arg5 arg6 arg7 arg8 arg9 X2 X3 X4 X5 X6 (arg7.view.writes (Elt F) f7 (L7 m f7 f8 f9)) (arg8.view.writes (Elt F) f8 (L8 m f7 f8 f9)) (arg9.view.writes (Elt F) f9 (L9 m f7 f8 f9)))) } := by
  have hk : k.val < 5 := Nat.lt_of_lt_of_le k.isLt k0_t1_abs.2.1
  refine ⟨?_, ?_, ?_, ?_, fun E m f7 f8 f9 => ?run⟩
  case run =>
    unfold k0_t1_body
    iintro ⟨H2, H3, H4, H5, H6, H7, H8, H9⟩
    sl_exec
    sl_step
    sl_close

section
variable (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (v5 : FVec F S128x512 .bf16) (v131 : FVec F S8x512 .f32) (v133 : FVec F S256x128 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips)
variable (m : FVec F S1x512 .f32) (f7 : BufTy.Contents (Elt F) arg7.view.ty) (f8 : BufTy.Contents (Elt F) arg8.view.ty) (f9 : BufTy.Contents (Elt F) arg9.view.ty)

/-- The trip yields the maximum of its last block's scores; -/
theorem trip_R : (trip 𝒱 cd bd i arg2 harg2 arg3 harg3 arg4 harg4 arg5 harg5 arg6 harg6 arg7 harg7 arg8 harg8 arg9 harg9 v5 v131 v133 X2 X3 X4 X5 X6 k).1 m f7 f8 f9 = mx (rawS arg2 arg3 arg5 X2 X3 X5 k 5) := rfl

/-- its odd stages store their scores into the second slot, -/
theorem trip_L9 : (trip 𝒱 cd bd i arg2 harg2 arg3 harg3 arg4 harg4 arg5 harg5 arg6 harg6 arg7 harg7 arg8 harg8 arg9 harg9 v5 v131 v133 X2 X3 X4 X5 X6 k).2.2.2.1 m f7 f8 f9 = slotL (rawS arg2 arg3 arg5 X2 X3 X5 k 4) ++ slotL (rawS arg2 arg3 arg5 X2 X3 X5 k 2) ++ slotL (rawS arg2 arg3 arg5 X2 X3 X5 k 0) := rfl

/-- its even stages into the first, -/
theorem trip_L8 : (trip 𝒱 cd bd i arg2 harg2 arg3 harg3 arg4 harg4 arg5 harg5 arg6 harg6 arg7 harg7 arg8 harg8 arg9 harg9 v5 v131 v133 X2 X3 X4 X5 X6 k).2.2.1 m f7 f8 f9 = slotL (rawS arg2 arg3 arg5 X2 X3 X5 k 5) ++ slotL (rawS arg2 arg3 arg5 X2 X3 X5 k 3) ++ slotL (rawS arg2 arg3 arg5 X2 X3 X5 k 1) := rfl

end

end Cert.KernelIdeal.Attn

end
-- ==== Proof.Gqa.Body.lean ====
/- The body of the grouped attention kernel over an invariant of its loop. -/
module

public import proofs.«01_k».proof.Proof.Gqa.Run

@[expose] public section

set_option maxRecDepth 16384
set_option maxHeartbeats 400000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Attn

variable {F : FTy → Type} [FloatOps F] [Named F]

local notation "𝕄" => MT nD τ sig Unit (Elt F) ℕ (UR sig nD τ) ℕ

/-- Where block `t` of the queries, its keys, its values and its results lie. -/
theorem hq (t : ℕ) : ∀ a, (![128 * (t / 8 % 4), 512 * (t % 8)] : Fin 2 → ℕ) a + S128x512.size a ≤ S512x4096.size a := by
  intro a; fin_cases a
  · show 128 * (t / 8 % 4) + 128 ≤ 512; omega
  · show 512 * (t % 8) + 512 ≤ 4096; omega
theorem hk (t c : ℕ) (hc : c < 16) : ∀ a, (![256 * c, 0] : Fin 2 → ℕ) a + S256x128.size a ≤ S4096x128.size a := by
  intro a; fin_cases a
  · show 256 * c + 256 ≤ 4096; omega
  · show 0 + 128 ≤ 128; omega
theorem hkc (t : ℕ) : ∀ a, (![0, 0] : Fin 2 → ℕ) a + S256x128.size a ≤ S256x128.size a := by
  intro a; fin_cases a
  · show 0 + 256 ≤ 256; omega
  · show 0 + 128 ≤ 128; omega
theorem hv (t c : ℕ) (hc : c < 16) : ∀ a, (![0, 256 * c] : Fin 2 → ℕ) a + S128x256.size a ≤ S128x4096.size a := by
  intro a; fin_cases a
  · show 0 + 128 ≤ 128; omega
  · show 256 * c + 256 ≤ 4096; omega
theorem hvc (t : ℕ) : ∀ a, (![0, 0] : Fin 2 → ℕ) a + S128x256.size a ≤ S128x256.size a := by
  intro a; fin_cases a
  · show 0 + 128 ≤ 128; omega
  · show 0 + 256 ≤ 256; omega
theorem ho (t : ℕ) : ∀ a, (![512 * (t % 8), 128 * (t / 8 % 4)] : Fin 2 → ℕ) a + S512x128.size a ≤ S4096x512.size a := by
  intro a; fin_cases a
  · show 512 * (t % 8) + 512 ≤ 4096; omega
  · show 128 * (t / 8 % 4) + 128 ≤ 512; omega

/-- Block `t`'s scores, piece by piece. -/
def sc (arg2 : Memref sig .tc .vmem S512x4096 .f32) (arg3 : Memref sig .tc .vmem S4096x128 .bf16) (arg5 : Memref sig .tc .vmem S256x128 .bf16)
    (X2 : BufTy.Contents (Elt F) arg2.view.ty) (X3 : BufTy.Contents (Elt F) arg3.view.ty) (X5 : BufTy.Contents (Elt F) arg5.view.ty) (t c : ℕ) : FVec F S256x512 .f32 :=
  score (rdq arg2 X2 ![128 * (t / 8 % 4), 512 * (t % 8)] (hq t))
    (if h : c < 16 then rdk arg3 X3 ![256 * c, 0] (hk t c h) else rdkc arg5 X5 ![0, 0] (hkc t))

/-- Block `t`'s values, piece by piece. -/
def vl (arg4 : Memref sig .tc .vmem S128x4096 .bf16) (arg6 : Memref sig .tc .vmem S128x256 .bf16)
    (X4 : BufTy.Contents (Elt F) arg4.view.ty) (X6 : BufTy.Contents (Elt F) arg6.view.ty) (t c : ℕ) : FVec F S128x256 .bf16 :=
  if h : c < 16 then rdv arg4 X4 ![0, 256 * c] (hv t c h) else rdvc arg6 X6 ![0, 0] (hvc t)

/-- Where block `t`'s result goes. -/
abbrev orect (t : ℕ) : Rect S4096x512 := Rect.unit (s := S4096x512) ![512 * (t % 8), 128 * (t / 8 % 4)] S512x128.size (ho t)

/-- A trip keeps what an invariant says of the carried maximum and of the three buffers the kernel writes. -/
theorem trip_step (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (v5 : FVec F S128x512 .bf16) (v131 : FVec F S8x512 .f32) (v133 : FVec F S256x128 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (P : ℕ → FVec F S1x512 .f32 → BufTy.Contents (Elt F) arg7.view.ty → BufTy.Contents (Elt F) arg8.view.ty → BufTy.Contents (Elt F) arg9.view.ty → Prop) (E : Set ℕ) (k : Fin k0_t1_loop.trips) (m : FVec F S1x512 .f32)
    (hstep : ∀ (m : FVec F S1x512 .f32) (f7 : BufTy.Contents (Elt F) arg7.view.ty) (f8 : BufTy.Contents (Elt F) arg8.view.ty) (f9 : BufTy.Contents (Elt F) arg9.view.ty), P k.val m f7 f8 f9 → P (k.val + 1) ((trip 𝒱 cd bd i arg2 harg2 arg3 harg3 arg4 harg4 arg5 harg5 arg6 harg6 arg7 harg7 arg8 harg8 arg9 harg9 v5 v131 v133 X2 X3 X4 X5 X6 k).1 m f7 f8 f9)
      (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) (arg9.view.writes (Elt F) f9 ((trip 𝒱 cd bd i arg2 harg2 arg3 harg3 arg4 harg4 arg5 harg5 arg6 harg6 arg7 harg7 arg8 harg8 arg9 harg9 v5 v131 v133 X2 X3 X4 X5 X6 k).2.2.2.1 m f7 f8 f9))) :
    iprop(∃ f7 f8 f9, ⌜P k.val m f7 f8 f9⌝ ∗ Res (F := F) cd arg2 arg3 arg4 arg5 arg6 arg7 arg8 arg9 X2 X3 X4 X5 X6 f7 f8 f9)
      ⊢ wp frame (wpE (defs₀ (F := F)) 𝒱 (cd : Thread nD τ) bd) E (k0_t1_body (F := F) i arg2 harg2 arg3 harg3 arg4 harg4 arg5 harg5 arg6 harg6 arg7 harg7 arg8 harg8 arg9 harg9 v5 v131 v133 k m)
          (fun y => iprop(∃ f7 f8 f9, ⌜P (k.val + 1) y f7 f8 f9⌝ ∗ Res (F := F) cd arg2 arg3 arg4 arg5 arg6 arg7 arg8 arg9 X2 X3 X4 X5 X6 f7 f8 f9)) := by
  iintro ⟨%f7, %f8, %f9, %hP, H⟩
  have hpost : ∀ y, iprop(⌜y = (trip 𝒱 cd bd i arg2 harg2 arg3 harg3 arg4 harg4 arg5 harg5 arg6 harg6 arg7 harg7 arg8 harg8 arg9 harg9 v5 v131 v133 X2 X3 X4 X5 X6 k).1 m f7 f8 f9⌝ ∗ Res (F := F) cd arg2 arg3 arg4 arg5 arg6 arg7 arg8 arg9 X2 X3 X4 X5 X6 (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) (arg9.view.writes (Elt F) f9 ((trip 𝒱 cd bd i arg2 harg2 arg3 harg3 arg4 harg4 arg5 harg5 arg6 harg6 arg7 harg7 arg8 harg8 arg9 harg9 v5 v131 v133 X2 X3 X4 X5 X6 k).2.2.2.1 m f7 f8 f9)))
      ⊢ iprop(∃ f7 f8 f9, ⌜P (k.val + 1) y f7 f8 f9⌝ ∗ Res (F := F) cd arg2 arg3 arg4 arg5 arg6 arg7 arg8 arg9 X2 X3 X4 X5 X6 f7 f8 f9) := by
    intro y
    iintro ⟨%e, H⟩
    iexists _, _, _
    isplitr
    swap
    · iexact H
    · ipureintro
      subst e
      exact hstep m f7 f8 f9 hP
  iapply (((trip 𝒱 cd bd i arg2 harg2 arg3 harg3 arg4 harg4 arg5 harg5 arg6 harg6 arg7 harg7 arg8 harg8 arg9 harg9 v5 v131 v133 X2 X3 X4 X5 X6 k).2.2.2.2 E m f7 f8 f9).trans (wp_mono _ _ _ hpost))
  iexact H

/-- The whole body over any invariant of the loop: what it stores before the loop and after it is what the run finds. -/
def body (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    Σ' (M0 : FVec F S1x512 .f32) (L80 : List (View.Piece (Elt F) S4352x512 .f32))
      (L7 : (FVec F S1x512 .f32 → BufTy.Contents (Elt F) arg7.view.ty → BufTy.Contents (Elt F) arg8.view.ty → BufTy.Contents (Elt F) arg9.view.ty →  List (View.Piece (Elt F) S4096x512 .bf16)))
, { L9 : (FVec F S1x512 .f32 → BufTy.Contents (Elt F) arg7.view.ty → BufTy.Contents (Elt F) arg8.view.ty → BufTy.Contents (Elt F) arg9.view.ty →  List (View.Piece (Elt F) S4352x512 .f32)) //
      ∀ (E : Set ℕ) (K : PUnit → sProp 𝕄) (P : ℕ → FVec F S1x512 .f32 → BufTy.Contents (Elt F) arg7.view.ty → BufTy.Contents (Elt F) arg8.view.ty → BufTy.Contents (Elt F) arg9.view.ty → Prop) (f7 : BufTy.Contents (Elt F) arg7.view.ty) (f8 : BufTy.Contents (Elt F) arg8.view.ty) (f9 : BufTy.Contents (Elt F) arg9.view.ty),
        (∀ g9, P 0 M0 f7 (arg8.view.writes (Elt F) arg8.view.junk L80) g9) →
        (∀ (v5 : FVec F S128x512 .bf16) (v131 : FVec F S8x512 .f32) (v133 : FVec F S256x128 .bf16) (k : Fin k0_t1_loop.trips) (m : FVec F S1x512 .f32) (f7 : BufTy.Contents (Elt F) arg7.view.ty) (f8 : BufTy.Contents (Elt F) arg8.view.ty) (f9 : BufTy.Contents (Elt F) arg9.view.ty), P k.val m f7 f8 f9 → P (k.val + 1) ((trip 𝒱 cd bd i arg2 harg2 arg3 harg3 arg4 harg4 arg5 harg5 arg6 harg6 arg7 harg7 arg8 harg8 arg9 harg9 v5 v131 v133 X2 X3 X4 X5 X6 k).1 m f7 f8 f9)
          (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) (arg9.view.writes (Elt F) f9 ((trip 𝒱 cd bd i arg2 harg2 arg3 harg3 arg4 harg4 arg5 harg5 arg6 harg6 arg7 harg7 arg8 harg8 arg9 harg9 v5 v131 v133 X2 X3 X4 X5 X6 k).2.2.2.1 m f7 f8 f9))) →
        iprop(Res (F := F) cd arg2 arg3 arg4 arg5 arg6 arg7 arg8 arg9 X2 X3 X4 X5 X6 f7 f8 f9
          ∗ (∀ m f7 f8 f9, ⌜P k0_t1_loop.trips m f7 f8 f9⌝ -∗ Res (F := F) cd arg2 arg3 arg4 arg5 arg6 arg7 arg8 arg9 X2 X3 X4 X5 X6 (arg7.view.writes (Elt F) f7 (L7 m f7 f8 f9)) f8 (arg9.view.writes (Elt F) f9 (L9 m f7 f8 f9)) -∗ K ⟨⟩))
        ⊢ wp frame (wpE (defs₀ (F := F)) 𝒱 (cd : Thread nD τ) bd) E (cc0_attention (F := F) i arg2 harg2 arg3 harg3 arg4 harg4 arg5 harg5 arg6 harg6 arg7 harg7 arg8 harg8 arg9 harg9) K } := by
  refine ⟨?_, ?_, ?_, ?_, fun E K P f7 f8 f9 hP0 hstep => ?run⟩
  case run =>
    simp only [cc0_attention_eq_skeleton]; unfold cc0_attention_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    iintro ⟨⟨H2, H3, H4, H5, H6, H7, H8, H9⟩, Hk⟩
    sl_exec
    sl_for (fun k m => iprop(∃ f7 f8 f9, ⌜P k m f7 f8 f9⌝ ∗ Res (F := F) cd arg2 arg3 arg4 arg5 arg6 arg7 arg8 arg9 X2 X3 X4 X5 X6 f7 f8 f9)) $$ [H2 H3 H4 H5 H6 H7 H8 H9]
    case region =>
      intro k m
      exact trip_step 𝒱 cd bd i arg2 harg2 arg3 harg3 arg4 harg4 arg5 harg5 arg6 harg6 arg7 harg7 arg8 harg8 arg9 harg9 _ _ _ X2 X3 X4 X5 X6 P E k m (fun m f7 f8 f9 => hstep _ _ _ k m f7 f8 f9)
    swap
    · clear hP0
      iintro %m ⟨%g7, %g8, %g9, %hP, H2, H3, H4, H5, H6, H7, H8, H9⟩
      sl_exec
      sl_step
      ispecialize Hk $$ %m %g7 %g8 %g9 %hP
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexists _, _, _
    isplitr
    swap
    isplitl [H2]; iexact H2; isplitl [H3]; iexact H3; isplitl [H4]; iexact H4; isplitl [H5]; iexact H5; isplitl [H6]; iexact H6; isplitl [H7]; iexact H7; isplitl [H8]; iexact H8; iexact H9
    rotate_left 14
    ipureintro
    exact hP0 _

section
variable (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
variable (m : FVec F S1x512 .f32) (f7 : BufTy.Contents (Elt F) arg7.view.ty) (f8 : BufTy.Contents (Elt F) arg8.view.ty) (f9 : BufTy.Contents (Elt F) arg9.view.ty)

theorem body_M0 : (body 𝒱 cd bd i arg2 harg2 arg3 harg3 arg4 harg4 arg5 harg5 arg6 harg6 arg7 harg7 arg8 harg8 arg9 harg9 X2 X3 X4 X5 X6).1 = mx (sc arg2 arg3 arg5 X2 X3 X5 0) := rfl
theorem body_L80 : (body 𝒱 cd bd i arg2 harg2 arg3 harg3 arg4 harg4 arg5 harg5 arg6 harg6 arg7 harg7 arg8 harg8 arg9 harg9 X2 X3 X4 X5 X6).2.1 = slotL (sc arg2 arg3 arg5 X2 X3 X5 0) := rfl

end

end Cert.KernelIdeal.Attn

end
-- ==== Proof.Gqa.Run7.lean ====
/- One trip of the grouped attention kernel: what it stores into the output block. -/
module

public import proofs.«01_k».proof.Proof.Gqa.Run

@[expose] public section

set_option maxRecDepth 16384
set_option maxHeartbeats 400000

noncomputable section

namespace Cert.KernelIdeal.Attn

open Idealize.ShloMosaic Idealize.ShloMosaic.TcCoe
open Cert.KernelIdeal Cert.KernelIdeal.Gen Cert.Attn

variable {F : FTy → Type} [FloatOps F] [Named F]
variable (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (v5 : FVec F S128x512 .bf16) (v131 : FVec F S8x512 .f32) (v133 : FVec F S256x128 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips)
variable (m : FVec F S1x512 .f32) (f7 : BufTy.Contents (Elt F) arg7.view.ty) (f8 : BufTy.Contents (Elt F) arg8.view.ty) (f9 : BufTy.Contents (Elt F) arg9.view.ty)

theorem trip_m5 : (trip.sl.r_18 arg2 arg3 arg5 X2 X3 X5 k) = mx (rawS arg2 arg3 arg5 X2 X3 X5 k 4) := rfl

theorem trip_l5 : (trip.sl.H9_51 arg2 arg3 arg5 X2 X3 X5 k) = slotL (rawS arg2 arg3 arg5 X2 X3 X5 k 4) ++ slotL (rawS arg2 arg3 arg5 X2 X3 X5 k 2) ++ slotL (rawS arg2 arg3 arg5 X2 X3 X5 k 0) := rfl

theorem trip_m4 : (trip.sl.v2557 arg2 arg3 arg5 X2 X3 X5 k) = mx (rawS arg2 arg3 arg5 X2 X3 X5 k 3) := rfl

theorem trip_l4 : (trip.sl.H8_34 arg2 arg3 arg5 X2 X3 X5 k) = slotL (rawS arg2 arg3 arg5 X2 X3 X5 k 3) ++ slotL (rawS arg2 arg3 arg5 X2 X3 X5 k 1) := rfl

theorem trip_m3 : (trip.sl.r_12 arg2 arg3 arg5 X2 X3 X5 k) = mx (rawS arg2 arg3 arg5 X2 X3 X5 k 2) := rfl

theorem trip_l3 : (trip.sl.H9_34 arg2 arg3 arg5 X2 X3 X5 k) = slotL (rawS arg2 arg3 arg5 X2 X3 X5 k 2) ++ slotL (rawS arg2 arg3 arg5 X2 X3 X5 k 0) := rfl

theorem trip_m2 : (trip.sl.r_8 arg2 arg3 arg5 X2 X3 X5 k) = mx (rawS arg2 arg3 arg5 X2 X3 X5 k 1) := rfl

theorem trip_l2 : (trip.sl.H8_17 arg2 arg3 arg5 X2 X3 X5 k) = slotL (rawS arg2 arg3 arg5 X2 X3 X5 k 1) := rfl

theorem trip_m1 : (trip.sl.r_4 arg2 arg3 arg5 X2 X3 X5 k) = mx (rawS arg2 arg3 arg5 X2 X3 X5 k 0) := rfl

theorem trip_l1 : (trip.sl.H9_17 arg2 arg3 arg5 X2 X3 X5 k) = slotL (rawS arg2 arg3 arg5 X2 X3 X5 k 0) := rfl

theorem trip_L7w : (trip 𝒱 cd bd i arg2 harg2 arg3 harg3 arg4 harg4 arg5 harg5 arg6 harg6 arg7 harg7 arg8 harg8 arg9 harg9 v5 v131 v133 X2 X3 X4 X5 X6 k).2.1 m f7 f8 f9 =
    [⟨Rect.unit (s := S4096x512) (k0_off54 k 5#32) S512x128.size (k0_off54_inb k 4), Attn.out (rawV arg4 arg6 X4 X6 k 4) (rdL9 arg9 (trip.sl.H9_51 arg2 arg3 arg5 X2 X3 X5 k)) (trip.sl.r_18 arg2 arg3 arg5 X2 X3 X5 k)⟩,
     ⟨Rect.unit (s := S4096x512) (k0_off54 k 4#32) S512x128.size (k0_off54_inb k 3), Attn.out (rawV arg4 arg6 X4 X6 k 3) (rdL8 arg8 (trip.sl.H8_34 arg2 arg3 arg5 X2 X3 X5 k)) (trip.sl.v2557 arg2 arg3 arg5 X2 X3 X5 k)⟩,
     ⟨Rect.unit (s := S4096x512) (k0_off54 k 3#32) S512x128.size (k0_off54_inb k 2), Attn.out (rawV arg4 arg6 X4 X6 k 2) (rdL9 arg9 (trip.sl.H9_34 arg2 arg3 arg5 X2 X3 X5 k)) (trip.sl.r_12 arg2 arg3 arg5 X2 X3 X5 k)⟩,
     ⟨Rect.unit (s := S4096x512) (k0_off54 k 2#32) S512x128.size (k0_off54_inb k 1), Attn.out (rawV arg4 arg6 X4 X6 k 1) (rdL8 arg8 (trip.sl.H8_17 arg2 arg3 arg5 X2 X3 X5 k)) (trip.sl.r_8 arg2 arg3 arg5 X2 X3 X5 k)⟩,
     ⟨Rect.unit (s := S4096x512) (k0_off54 k 1#32) S512x128.size (k0_off54_inb k 0), Attn.out (rawV arg4 arg6 X4 X6 k 0) (rdL9 arg9 (trip.sl.H9_17 arg2 arg3 arg5 X2 X3 X5 k)) (trip.sl.r_4 arg2 arg3 arg5 X2 X3 X5 k)⟩,
     ⟨Rect.unit (s := S4096x512) (k0_off36 k) S512x128.size (k0_off36_inb k), Attn.out (rawV1 arg4 arg6 X4 X6 k) (rd8 arg8 f8) m⟩] := rfl

/-- Every stage stores the result of the block scored a stage before. -/
theorem trip_L7 : (trip 𝒱 cd bd i arg2 harg2 arg3 harg3 arg4 harg4 arg5 harg5 arg6 harg6 arg7 harg7 arg8 harg8 arg9 harg9 v5 v131 v133 X2 X3 X4 X5 X6 k).2.1 m f7 f8 f9 =
    [⟨Rect.unit (s := S4096x512) (k0_off54 k 5#32) S512x128.size (k0_off54_inb k 4), Attn.out (rawV arg4 arg6 X4 X6 k 4) (rdL9 arg9 (slotL (rawS arg2 arg3 arg5 X2 X3 X5 k 4) ++ slotL (rawS arg2 arg3 arg5 X2 X3 X5 k 2) ++ slotL (rawS arg2 arg3 arg5 X2 X3 X5 k 0))) (mx (rawS arg2 arg3 arg5 X2 X3 X5 k 4))⟩,
     ⟨Rect.unit (s := S4096x512) (k0_off54 k 4#32) S512x128.size (k0_off54_inb k 3), Attn.out (rawV arg4 arg6 X4 X6 k 3) (rdL8 arg8 (slotL (rawS arg2 arg3 arg5 X2 X3 X5 k 3) ++ slotL (rawS arg2 arg3 arg5 X2 X3 X5 k 1))) (mx (rawS arg2 arg3 arg5 X2 X3 X5 k 3))⟩,
     ⟨Rect.unit (s := S4096x512) (k0_off54 k 3#32) S512x128.size (k0_off54_inb k 2), Attn.out (rawV arg4 arg6 X4 X6 k 2) (rdL9 arg9 (slotL (rawS arg2 arg3 arg5 X2 X3 X5 k 2) ++ slotL (rawS arg2 arg3 arg5 X2 X3 X5 k 0))) (mx (rawS arg2 arg3 arg5 X2 X3 X5 k 2))⟩,
     ⟨Rect.unit (s := S4096x512) (k0_off54 k 2#32) S512x128.size (k0_off54_inb k 1), Attn.out (rawV arg4 arg6 X4 X6 k 1) (rdL8 arg8 (slotL (rawS arg2 arg3 arg5 X2 X3 X5 k 1))) (mx (rawS arg2 arg3 arg5 X2 X3 X5 k 1))⟩,
     ⟨Rect.unit (s := S4096x512) (k0_off54 k 1#32) S512x128.size (k0_off54_inb k 0), Attn.out (rawV arg4 arg6 X4 X6 k 0) (rdL9 arg9 (slotL (rawS arg2 arg3 arg5 X2 X3 X5 k 0))) (mx (rawS arg2 arg3 arg5 X2 X3 X5 k 0))⟩,
     ⟨Rect.unit (s := S4096x512) (k0_off36 k) S512x128.size (k0_off36_inb k), Attn.out (rawV1 arg4 arg6 X4 X6 k) (rd8 arg8 f8) m⟩] := by
  rw [trip_L7w, trip_m5, trip_l5, trip_m4, trip_l4, trip_m3, trip_l3, trip_m2, trip_l2, trip_m1, trip_l1]

end Cert.KernelIdeal.Attn

end
-- ==== Proof.Gqa.Epi.lean ====
/- The body of the grouped attention kernel over an invariant of its loop. -/
module

public import proofs.«01_k».proof.Proof.Gqa.Body
public import proofs.«01_k».proof.Proof.Gqa.Run7

@[expose] public section

set_option maxRecDepth 16384
set_option maxHeartbeats 400000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Attn

variable {F : FTy → Type} [FloatOps F] [Named F]

local notation "𝕄" => MT nD τ sig Unit (Elt F) ℕ (UR sig nD τ) ℕ

section
variable (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
variable (m : FVec F S1x512 .f32) (f7 : BufTy.Contents (Elt F) arg7.view.ty) (f8 : BufTy.Contents (Elt F) arg8.view.ty) (f9 : BufTy.Contents (Elt F) arg9.view.ty)

/-- The last block's scores are what the slot holds at the end. -/
theorem body_L9 : (body 𝒱 cd bd i arg2 harg2 arg3 harg3 arg4 harg4 arg5 harg5 arg6 harg6 arg7 harg7 arg8 harg8 arg9 harg9 X2 X3 X4 X5 X6).2.2.2.1 m f7 f8 f9 = slotL (sc arg2 arg3 arg5 X2 X3 X5 31) := rfl
/-- The last two results stored. -/
theorem body_L7 : (body 𝒱 cd bd i arg2 harg2 arg3 harg3 arg4 harg4 arg5 harg5 arg6 harg6 arg7 harg7 arg8 harg8 arg9 harg9 X2 X3 X4 X5 X6).2.2.1 m f7 f8 f9 = [⟨orect 31, Attn.out (vl arg4 arg6 X4 X6 31) (rdL9 arg9 (slotL (sc arg2 arg3 arg5 X2 X3 X5 31))) (mx (sc arg2 arg3 arg5 X2 X3 X5 31))⟩, ⟨orect 30, Attn.out (vl arg4 arg6 X4 X6 30) (rd8 arg8 f8) m⟩] := rfl
end

end Cert.KernelIdeal.Attn

end
-- ==== Proof.Attn.Congr.lean ====
/- A block's result depends only on its seventeen pieces; and what a load reads after stores. -/
module

public import proofs.«01_k».proof.Proof.Attn.Form
public import Idealize.ShloMosaic.Lib.Pipeline.FrameBody

@[expose] public section

noncomputable section

namespace Cert.Attn

open Idealize.ShloMosaic

variable {F : FTy → Type} [FloatOps F]

/-- The running maximum depends only on the pieces it saw. -/
theorem mxRun_congr {s s' : ℕ → FVec F Sp .f32} (n : ℕ) (h : ∀ c, c ≤ n → s c = s' c) : mxRun s n = mxRun s' n := by
  induction n with
  | zero => rw [mxRun, mxRun, h 0 le_rfl]
  | succ n ih => rw [mxRun, mxRun, h (n + 1) le_rfl, ih fun c hc => h c (by omega)]

/-- So does the maximum of a block. -/
theorem mx_congr {s s' : ℕ → FVec F Sp .f32} (h : ∀ c, c < 17 → s c = s' c) : mx s = mx s' := by
  rw [mx, mx, mxRun_congr 16 fun c hc => h c (by omega)]

/-- The weighted values depend only on the pieces summed. -/
theorem accRun_congr {v v' : ℕ → FVec F Svt .bf16} {s s' : ℕ → FVec F Sp .f32} (m : FVec F S1 .f32) (n : ℕ)
    (hv : ∀ c, c ≤ n → v c = v' c) (h : ∀ c, c ≤ n → s c = s' c) : accRun v s m n = accRun v' s' m n := by
  induction n with
  | zero => rw [accRun, accRun, h 0 le_rfl, hv 0 le_rfl]
  | succ n ih => rw [accRun, accRun, h (n + 1) le_rfl, hv (n + 1) le_rfl, ih (fun c hc => hv c (by omega)) fun c hc => h c (by omega)]

/-- The summed weights depend only on the pieces summed. -/
theorem lRun_congr {s s' : ℕ → FVec F Sp .f32} (m : FVec F S1 .f32) (n : ℕ) (h : ∀ c, c ≤ n → s c = s' c) :
    lRun s m n = lRun s' m n := by
  induction n with
  | zero => rw [lRun, lRun, h 0 le_rfl]
  | succ n ih => rw [lRun, lRun, h (n + 1) le_rfl, ih fun c hc => h c (by omega)]

/-- So does the result of a block. -/
theorem out_congr {v v' : ℕ → FVec F Svt .bf16} {s s' : ℕ → FVec F Sp .f32} {m m' : FVec F S1 .f32}
    (hv : ∀ c, c < 17 → v c = v' c) (h : ∀ c, c < 17 → s c = s' c) (hm : m = m') : out v s m = out v' s' m' := by
  subst hm
  rw [out, out, accRun_congr m 16 (fun c hc => hv c (by omega)) fun c hc => h c (by omega), lRun_congr m 16 fun c hc => h c (by omega)]

section
variable {sig : RefSig} {κ : Kind} {sp : Space} {s : Shape} {e : EltTy} {Val : EltTy → Type}

/-- A load of what was stored last reads it. -/
theorem load_same (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load apart from what was stored last reads what was there before. -/
theorem load_apart (v : View sig κ sp s e) (f : v.ty.Contents Val) (p : View.Piece Val s e) (r : Rect s) (L : List (View.Piece Val s e))
    (h : Disjoint p.1.set r.set) :
    v.readAt Val r.toLoadRect (v.writes Val f (p :: L)) = v.readAt Val r.toLoadRect (v.writes Val f L) := by
  rw [← List.singleton_append, View.writes_append]
  refine View.readAt_writes_of_forall_not_mem v _ [p] r.toLoadRect ?_
  intro j q hq
  rw [List.mem_singleton] at hq
  subst hq
  exact Finset.disjoint_right.mp h (r.toLoadRect.idx_mem j)

/-- Two stores of the same words through rectangles at the same offsets are the same piece. -/
theorem piece_eq {off off' size : Fin s.rank → ℕ} {inb : ∀ a, off a + size a ≤ s.size a} {inb' : ∀ a, off' a + size a ≤ s.size a}
    {w w' : (⟨s.rank, size⟩ : Shape).Idx → Val e} (h : off = off') (hw : w = w') :
    (⟨Rect.unit off size inb, w⟩ : View.Piece Val s e) = ⟨Rect.unit off' size inb', w'⟩ := by
  subst h; subst hw; rfl
end

end Cert.Attn

end
-- ==== Proof.Gqa.Inv.lean ====
/- What the loop of the grouped attention kernel keeps: the scores in the slot and the finished blocks. -/
module

public import proofs.«01_k».proof.Proof.Gqa.Epi
public import proofs.«01_k».proof.Proof.Attn.Congr
public import Idealize.ShloMosaic.Lib.Pointwise.Reshape

@[expose] public section

set_option maxRecDepth 16384
set_option maxHeartbeats 400000

noncomputable section

namespace Cert.KernelIdeal.Attn

open Idealize.ShloMosaic Idealize.ShloMosaic.TcCoe Idealize.ShloMosaic.Tactic
open Cert.KernelIdeal Cert.KernelIdeal.Gen Cert.Attn

variable {F : FTy → Type} [FloatOps F] [Named F]

/-- Where the trips read and write, as the number of the block they work on. -/
theorem off_q : ∀ (k : Fin k0_t1_loop.trips) (d : Fin 6), k0_off1 k (BitVec.ofNat 32 (1 + d.val)) = ![128 * ((6 * k.val + d.val + 1) / 8 % 4), 512 * ((6 * k.val + d.val + 1) % 8)] := by decide +kernel
theorem off_k0 : ∀ (k : Fin k0_t1_loop.trips) (d : Fin 6), k0_off2 k (BitVec.ofNat 32 (1 + d.val)) = ![256 * 0, 0] := by decide +kernel
theorem off_k1 : ∀ (k : Fin k0_t1_loop.trips) (d : Fin 6), k0_off3 k (BitVec.ofNat 32 (1 + d.val)) = ![256 * 1, 0] := by decide +kernel
theorem off_k2 : ∀ (k : Fin k0_t1_loop.trips) (d : Fin 6), k0_off5 k (BitVec.ofNat 32 (1 + d.val)) = ![256 * 2, 0] := by decide +kernel
theorem off_k3 : ∀ (k : Fin k0_t1_loop.trips) (d : Fin 6), k0_off7 k (BitVec.ofNat 32 (1 + d.val)) = ![256 * 3, 0] := by decide +kernel
theorem off_k4 : ∀ (k : Fin k0_t1_loop.trips) (d : Fin 6), k0_off9 k (BitVec.ofNat 32 (1 + d.val)) = ![256 * 4, 0] := by decide +kernel
theorem off_k5 : ∀ (k : Fin k0_t1_loop.trips) (d : Fin 6), k0_off11 k (BitVec.ofNat 32 (1 + d.val)) = ![256 * 5, 0] := by decide +kernel
theorem off_k6 : ∀ (k : Fin k0_t1_loop.trips) (d : Fin 6), k0_off13 k (BitVec.ofNat 32 (1 + d.val)) = ![256 * 6, 0] := by decide +kernel
theorem off_k7 : ∀ (k : Fin k0_t1_loop.trips) (d : Fin 6), k0_off15 k (BitVec.ofNat 32 (1 + d.val)) = ![256 * 7, 0] := by decide +kernel
theorem off_k8 : ∀ (k : Fin k0_t1_loop.trips) (d : Fin 6), k0_off17 k (BitVec.ofNat 32 (1 + d.val)) = ![256 * 8, 0] := by decide +kernel
theorem off_k9 : ∀ (k : Fin k0_t1_loop.trips) (d : Fin 6), k0_off19 k (BitVec.ofNat 32 (1 + d.val)) = ![256 * 9, 0] := by decide +kernel
theorem off_k10 : ∀ (k : Fin k0_t1_loop.trips) (d : Fin 6), k0_off21 k (BitVec.ofNat 32 (1 + d.val)) = ![256 * 10, 0] := by decide +kernel
theorem off_k11 : ∀ (k : Fin k0_t1_loop.trips) (d : Fin 6), k0_off23 k (BitVec.ofNat 32 (1 + d.val)) = ![256 * 11, 0] := by decide +kernel
theorem off_k12 : ∀ (k : Fin k0_t1_loop.trips) (d : Fin 6), k0_off25 k (BitVec.ofNat 32 (1 + d.val)) = ![256 * 12, 0] := by decide +kernel
theorem off_k13 : ∀ (k : Fin k0_t1_loop.trips) (d : Fin 6), k0_off27 k (BitVec.ofNat 32 (1 + d.val)) = ![256 * 13, 0] := by decide +kernel
theorem off_k14 : ∀ (k : Fin k0_t1_loop.trips) (d : Fin 6), k0_off29 k (BitVec.ofNat 32 (1 + d.val)) = ![256 * 14, 0] := by decide +kernel
theorem off_k15 : ∀ (k : Fin k0_t1_loop.trips) (d : Fin 6), k0_off31 k (BitVec.ofNat 32 (1 + d.val)) = ![256 * 15, 0] := by decide +kernel
theorem off_k16 : ∀ (k : Fin k0_t1_loop.trips) (d : Fin 6), k0_off33 k (BitVec.ofNat 32 (1 + d.val)) = ![0, 0] := by decide +kernel
theorem off_v0 : ∀ (k : Fin k0_t1_loop.trips) (d : Fin 5), k0_off37 k (BitVec.ofNat 32 (1 + d.val)) = ![0, 256 * 0] := by decide +kernel
theorem off_v1 : ∀ (k : Fin k0_t1_loop.trips) (d : Fin 5), k0_off38 k (BitVec.ofNat 32 (1 + d.val)) = ![0, 256 * 1] := by decide +kernel
theorem off_v2 : ∀ (k : Fin k0_t1_loop.trips) (d : Fin 5), k0_off39 k (BitVec.ofNat 32 (1 + d.val)) = ![0, 256 * 2] := by decide +kernel
theorem off_v3 : ∀ (k : Fin k0_t1_loop.trips) (d : Fin 5), k0_off40 k (BitVec.ofNat 32 (1 + d.val)) = ![0, 256 * 3] := by decide +kernel
theorem off_v4 : ∀ (k : Fin k0_t1_loop.trips) (d : Fin 5), k0_off41 k (BitVec.ofNat 32 (1 + d.val)) = ![0, 256 * 4] := by decide +kernel
theorem off_v5 : ∀ (k : Fin k0_t1_loop.trips) (d : Fin 5), k0_off42 k (BitVec.ofNat 32 (1 + d.val)) = ![0, 256 * 5] := by decide +kernel
theorem off_v6 : ∀ (k : Fin k0_t1_loop.trips) (d : Fin 5), k0_off43 k (BitVec.ofNat 32 (1 + d.val)) = ![0, 256 * 6] := by decide +kernel
theorem off_v7 : ∀ (k : Fin k0_t1_loop.trips) (d : Fin 5), k0_off44 k (BitVec.ofNat 32 (1 + d.val)) = ![0, 256 * 7] := by decide +kernel
theorem off_v8 : ∀ (k : Fin k0_t1_loop.trips) (d : Fin 5), k0_off45 k (BitVec.ofNat 32 (1 + d.val)) = ![0, 256 * 8] := by decide +kernel
theorem off_v9 : ∀ (k : Fin k0_t1_loop.trips) (d : Fin 5), k0_off46 k (BitVec.ofNat 32 (1 + d.val)) = ![0, 256 * 9] := by decide +kernel
theorem off_v10 : ∀ (k : Fin k0_t1_loop.trips) (d : Fin 5), k0_off47 k (BitVec.ofNat 32 (1 + d.val)) = ![0, 256 * 10] := by decide +kernel
theorem off_v11 : ∀ (k : Fin k0_t1_loop.trips) (d : Fin 5), k0_off48 k (BitVec.ofNat 32 (1 + d.val)) = ![0, 256 * 11] := by decide +kernel
theorem off_v12 : ∀ (k : Fin k0_t1_loop.trips) (d : Fin 5), k0_off49 k (BitVec.ofNat 32 (1 + d.val)) = ![0, 256 * 12] := by decide +kernel
theorem off_v13 : ∀ (k : Fin k0_t1_loop.trips) (d : Fin 5), k0_off50 k (BitVec.ofNat 32 (1 + d.val)) = ![0, 256 * 13] := by decide +kernel
theorem off_v14 : ∀ (k : Fin k0_t1_loop.trips) (d : Fin 5), k0_off51 k (BitVec.ofNat 32 (1 + d.val)) = ![0, 256 * 14] := by decide +kernel
theorem off_v15 : ∀ (k : Fin k0_t1_loop.trips) (d : Fin 5), k0_off52 k (BitVec.ofNat 32 (1 + d.val)) = ![0, 256 * 15] := by decide +kernel
theorem off_v16 : ∀ (k : Fin k0_t1_loop.trips) (d : Fin 5), k0_off53 k (BitVec.ofNat 32 (1 + d.val)) = ![0, 0] := by decide +kernel
theorem off_w0 : ∀ (k : Fin k0_t1_loop.trips), k0_off4 k = ![0, 256 * 0] := by decide +kernel
theorem off_w1 : ∀ (k : Fin k0_t1_loop.trips), k0_off6 k = ![0, 256 * 1] := by decide +kernel
theorem off_w2 : ∀ (k : Fin k0_t1_loop.trips), k0_off8 k = ![0, 256 * 2] := by decide +kernel
theorem off_w3 : ∀ (k : Fin k0_t1_loop.trips), k0_off10 k = ![0, 256 * 3] := by decide +kernel
theorem off_w4 : ∀ (k : Fin k0_t1_loop.trips), k0_off12 k = ![0, 256 * 4] := by decide +kernel
theorem off_w5 : ∀ (k : Fin k0_t1_loop.trips), k0_off14 k = ![0, 256 * 5] := by decide +kernel
theorem off_w6 : ∀ (k : Fin k0_t1_loop.trips), k0_off16 k = ![0, 256 * 6] := by decide +kernel
theorem off_w7 : ∀ (k : Fin k0_t1_loop.trips), k0_off18 k = ![0, 256 * 7] := by decide +kernel
theorem off_w8 : ∀ (k : Fin k0_t1_loop.trips), k0_off20 k = ![0, 256 * 8] := by decide +kernel
theorem off_w9 : ∀ (k : Fin k0_t1_loop.trips), k0_off22 k = ![0, 256 * 9] := by decide +kernel
theorem off_w10 : ∀ (k : Fin k0_t1_loop.trips), k0_off24 k = ![0, 256 * 10] := by decide +kernel
theorem off_w11 : ∀ (k : Fin k0_t1_loop.trips), k0_off26 k = ![0, 256 * 11] := by decide +kernel
theorem off_w12 : ∀ (k : Fin k0_t1_loop.trips), k0_off28 k = ![0, 256 * 12] := by decide +kernel
theorem off_w13 : ∀ (k : Fin k0_t1_loop.trips), k0_off30 k = ![0, 256 * 13] := by decide +kernel
theorem off_w14 : ∀ (k : Fin k0_t1_loop.trips), k0_off32 k = ![0, 256 * 14] := by decide +kernel
theorem off_w15 : ∀ (k : Fin k0_t1_loop.trips), k0_off34 k = ![0, 256 * 15] := by decide +kernel
theorem off_w16 : ∀ (k : Fin k0_t1_loop.trips), k0_off35 k = ![0, 0] := by decide +kernel
theorem off_o : ∀ (k : Fin k0_t1_loop.trips) (d : Fin 5), k0_off54 k (BitVec.ofNat 32 (1 + d.val)) = ![512 * ((6 * k.val + d.val + 1) % 8), 128 * ((6 * k.val + d.val + 1) / 8 % 4)] := by decide +kernel
theorem off_o0 : ∀ (k : Fin k0_t1_loop.trips), k0_off36 k = ![512 * ((6 * k.val) % 8), 128 * ((6 * k.val) / 8 % 4)] := by decide +kernel

section
variable {arg2 : Memref sig .tc .vmem S512x4096 .f32} {arg3 : Memref sig .tc .vmem S4096x128 .bf16} {arg4 : Memref sig .tc .vmem S128x4096 .bf16} {arg5 : Memref sig .tc .vmem S256x128 .bf16} {arg6 : Memref sig .tc .vmem S128x256 .bf16} {arg7 : Memref sig .tc .vmem S4096x512 .bf16} {arg8 : Memref sig .tc .vmem S4352x512 .f32} {arg9 : Memref sig .tc .vmem S4352x512 .f32} {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty}

/-- A score read at the places of block `t`. -/
theorem sc_of (t c : ℕ) (hc : c < 16) {oq ok : Fin 2 → ℕ} (iq : ∀ a, oq a + S128x512.size a ≤ S512x4096.size a) (ik : ∀ a, ok a + S256x128.size a ≤ S4096x128.size a)
    (e1 : oq = ![128 * (t / 8 % 4), 512 * (t % 8)]) (e2 : ok = ![256 * c, 0]) :
    score (rdq arg2 X2 oq iq) (rdk arg3 X3 ok ik) = sc arg2 arg3 arg5 X2 X3 X5 t c := by
  subst e1; subst e2; rw [sc, dif_pos hc]
theorem sc_of16 (t : ℕ) {oq ok : Fin 2 → ℕ} (iq : ∀ a, oq a + S128x512.size a ≤ S512x4096.size a) (ik : ∀ a, ok a + S256x128.size a ≤ S256x128.size a)
    (e1 : oq = ![128 * (t / 8 % 4), 512 * (t % 8)]) (e2 : ok = ![0, 0]) :
    score (rdq arg2 X2 oq iq) (rdkc arg5 X5 ok ik) = sc arg2 arg3 arg5 X2 X3 X5 t 16 := by
  subst e1; subst e2; rw [sc, dif_neg (by decide)]
/-- A value piece read at the places of block `t`. -/
theorem vl_of (t c : ℕ) (hc : c < 16) {ok : Fin 2 → ℕ} (ik : ∀ a, ok a + S128x256.size a ≤ S128x4096.size a)
    (e2 : ok = ![0, 256 * c]) : rdv arg4 X4 ok ik = vl arg4 arg6 X4 X6 t c := by
  subst e2; rw [vl, dif_pos hc]
theorem vl_of16 (t : ℕ) {ok : Fin 2 → ℕ} (ik : ∀ a, ok a + S128x256.size a ≤ S128x256.size a)
    (e2 : ok = ![0, 0]) : rdvc arg6 X6 ok ik = vl arg4 arg6 X4 X6 t 16 := by
  subst e2; rw [vl, dif_neg (by decide)]

/-- What a trip scores is the scores of the blocks it works on. -/
theorem rawS_eq (k : Fin k0_t1_loop.trips) (d : Fin 6) : ∀ c, c < 17 →
    rawS arg2 arg3 arg5 X2 X3 X5 k d c = sc arg2 arg3 arg5 X2 X3 X5 (6 * k.val + d.val + 1) c
  | 0, _ => sc_of _ 0 (by decide) _ _ (off_q k d) (off_k0 k d)
  | 1, _ => sc_of _ 1 (by decide) _ _ (off_q k d) (off_k1 k d)
  | 2, _ => sc_of _ 2 (by decide) _ _ (off_q k d) (off_k2 k d)
  | 3, _ => sc_of _ 3 (by decide) _ _ (off_q k d) (off_k3 k d)
  | 4, _ => sc_of _ 4 (by decide) _ _ (off_q k d) (off_k4 k d)
  | 5, _ => sc_of _ 5 (by decide) _ _ (off_q k d) (off_k5 k d)
  | 6, _ => sc_of _ 6 (by decide) _ _ (off_q k d) (off_k6 k d)
  | 7, _ => sc_of _ 7 (by decide) _ _ (off_q k d) (off_k7 k d)
  | 8, _ => sc_of _ 8 (by decide) _ _ (off_q k d) (off_k8 k d)
  | 9, _ => sc_of _ 9 (by decide) _ _ (off_q k d) (off_k9 k d)
  | 10, _ => sc_of _ 10 (by decide) _ _ (off_q k d) (off_k10 k d)
  | 11, _ => sc_of _ 11 (by decide) _ _ (off_q k d) (off_k11 k d)
  | 12, _ => sc_of _ 12 (by decide) _ _ (off_q k d) (off_k12 k d)
  | 13, _ => sc_of _ 13 (by decide) _ _ (off_q k d) (off_k13 k d)
  | 14, _ => sc_of _ 14 (by decide) _ _ (off_q k d) (off_k14 k d)
  | 15, _ => sc_of _ 15 (by decide) _ _ (off_q k d) (off_k15 k d)
  | 16, _ => sc_of16 _ _ _ (off_q k d) (off_k16 k d)
  | c + 17, h => absurd h (by omega)
/-- The values a trip reads are the values of the blocks it finishes. -/
theorem rawV_eq (k : Fin k0_t1_loop.trips) (d : Fin 5) : ∀ c, c < 17 →
    rawV arg4 arg6 X4 X6 k d c = vl arg4 arg6 X4 X6 (6 * k.val + d.val + 1) c
  | 0, _ => vl_of _ 0 (by decide) _ (off_v0 k d)
  | 1, _ => vl_of _ 1 (by decide) _ (off_v1 k d)
  | 2, _ => vl_of _ 2 (by decide) _ (off_v2 k d)
  | 3, _ => vl_of _ 3 (by decide) _ (off_v3 k d)
  | 4, _ => vl_of _ 4 (by decide) _ (off_v4 k d)
  | 5, _ => vl_of _ 5 (by decide) _ (off_v5 k d)
  | 6, _ => vl_of _ 6 (by decide) _ (off_v6 k d)
  | 7, _ => vl_of _ 7 (by decide) _ (off_v7 k d)
  | 8, _ => vl_of _ 8 (by decide) _ (off_v8 k d)
  | 9, _ => vl_of _ 9 (by decide) _ (off_v9 k d)
  | 10, _ => vl_of _ 10 (by decide) _ (off_v10 k d)
  | 11, _ => vl_of _ 11 (by decide) _ (off_v11 k d)
  | 12, _ => vl_of _ 12 (by decide) _ (off_v12 k d)
  | 13, _ => vl_of _ 13 (by decide) _ (off_v13 k d)
  | 14, _ => vl_of _ 14 (by decide) _ (off_v14 k d)
  | 15, _ => vl_of _ 15 (by decide) _ (off_v15 k d)
  | 16, _ => vl_of16 _ _ (off_v16 k d)
  | c + 17, h => absurd h (by omega)
theorem rawV1_eq (k : Fin k0_t1_loop.trips) : ∀ c, c < 17 →
    rawV1 arg4 arg6 X4 X6 k c = vl arg4 arg6 X4 X6 (6 * k.val) c
  | 0, _ => vl_of _ 0 (by decide) _ (off_w0 k)
  | 1, _ => vl_of _ 1 (by decide) _ (off_w1 k)
  | 2, _ => vl_of _ 2 (by decide) _ (off_w2 k)
  | 3, _ => vl_of _ 3 (by decide) _ (off_w3 k)
  | 4, _ => vl_of _ 4 (by decide) _ (off_w4 k)
  | 5, _ => vl_of _ 5 (by decide) _ (off_w5 k)
  | 6, _ => vl_of _ 6 (by decide) _ (off_w6 k)
  | 7, _ => vl_of _ 7 (by decide) _ (off_w7 k)
  | 8, _ => vl_of _ 8 (by decide) _ (off_w8 k)
  | 9, _ => vl_of _ 9 (by decide) _ (off_w9 k)
  | 10, _ => vl_of _ 10 (by decide) _ (off_w10 k)
  | 11, _ => vl_of _ 11 (by decide) _ (off_w11 k)
  | 12, _ => vl_of _ 12 (by decide) _ (off_w12 k)
  | 13, _ => vl_of _ 13 (by decide) _ (off_w13 k)
  | 14, _ => vl_of _ 14 (by decide) _ (off_w14 k)
  | 15, _ => vl_of _ 15 (by decide) _ (off_w15 k)
  | 16, _ => vl_of16 _ _ (off_w16 k)
  | c + 17, h => absurd h (by omega)
end

/-- The first `n` pieces of a slot, the last first. -/
def slotN (S : ℕ → FVec F S256x512 .f32) : (n : ℕ) → n ≤ 17 → List (View.Piece (Elt F) S4352x512 .f32)
  | 0, _ => []
  | n + 1, h => ⟨Rect.unit (s := S4352x512) ![256 * n, 0] S256x512.size (hslot n (by omega)), shapeCast S256x512 (S n) shapeCasts_S256x512_S256x512⟩ :: slotN S n (by omega)

theorem slotL_eq (S : ℕ → FVec F S256x512 .f32) : slotL S = slotN S 17 le_rfl := rfl

/-- Two pieces of a slot lie apart. -/
theorem slot_apart {a b : ℕ} (ha : a < 17) (hb : b < 17) (h : a ≠ b) :
    Disjoint (Rect.unit (s := S4352x512) ![256 * a, 0] S256x512.size (hslot a ha)).set (Rect.unit (s := S4352x512) ![256 * b, 0] S256x512.size (hslot b hb)).set :=
  Rect.unit_disjoint (s := S4352x512) (0 : Fin 2) (by show 256 * a + 256 ≤ 256 * b ∨ 256 * b + 256 ≤ 256 * a; omega)

/-- A piece of a slot is read as it was stored. -/
theorem slotN_read (v : View sig .tc .vmem S4352x512 .f32) (f : BufTy.Contents (Elt F) v.ty) (S : ℕ → FVec F S256x512 .f32)
    (L : List (View.Piece (Elt F) S4352x512 .f32)) (c : ℕ) (hc : c < 17) : ∀ (n : ℕ) (hn : n ≤ 17), c < n →
    v.readAt (Elt F) (Rect.unit (s := S4352x512) ![256 * c, 0] S256x512.size (hslot c hc)).toLoadRect (v.writes (Elt F) f (slotN S n hn ++ L)) = S c
  | 0, _, h => absurd h (by omega)
  | n + 1, hn, h => by
    by_cases e : c = n
    · subst e
      rw [slotN, List.cons_append, load_same]
      exact Idealize.ShloMosaic.shapeCast_id _ _
    · have hn' : n < 17 := hn
      have hd := slot_apart hn' hc (Ne.symm e)
      exact (load_apart v f ⟨Rect.unit (s := S4352x512) ![256 * n, 0] S256x512.size (hslot n hn'), shapeCast S256x512 (S n) shapeCasts_S256x512_S256x512⟩ _ (slotN S n (by omega) ++ L) hd).trans
        (slotN_read v f S L c hc n (by omega) (by omega))
theorem slotL_read (v : View sig .tc .vmem S4352x512 .f32) (f : BufTy.Contents (Elt F) v.ty) (S : ℕ → FVec F S256x512 .f32)
    (L : List (View.Piece (Elt F) S4352x512 .f32)) (c : ℕ) (hc : c < 17) :
    v.readAt (Elt F) (Rect.unit (s := S4352x512) ![256 * c, 0] S256x512.size (hslot c hc)).toLoadRect (v.writes (Elt F) f (slotL S ++ L)) = S c := by
  rw [slotL_eq]; exact slotN_read v f S L c hc 17 le_rfl hc

theorem rd8_slotL (arg8 : Memref sig .tc .vmem S4352x512 .f32) (f8 : BufTy.Contents (Elt F) arg8.view.ty) (S : ℕ → FVec F S256x512 .f32)
    (L : List (View.Piece (Elt F) S4352x512 .f32)) (c : ℕ) (hc : c < 17) : rd8 arg8 (arg8.view.writes (Elt F) f8 (slotL S ++ L)) c = S c := by
  rw [rd8, dif_pos hc]; exact slotL_read _ _ _ _ _ hc
theorem rdL8_slotL (arg8 : Memref sig .tc .vmem S4352x512 .f32) (S : ℕ → FVec F S256x512 .f32)
    (L : List (View.Piece (Elt F) S4352x512 .f32)) (c : ℕ) (hc : c < 17) : rdL8 arg8 (slotL S ++ L) c = S c := by
  rw [rdL8, dif_pos hc]; exact slotL_read arg8.view arg8.view.junk S L c hc
theorem rdL9_slotL (arg9 : Memref sig .tc .vmem S4352x512 .f32) (S : ℕ → FVec F S256x512 .f32)
    (L : List (View.Piece (Elt F) S4352x512 .f32)) (c : ℕ) (hc : c < 17) : rdL9 arg9 (slotL S ++ L) c = S c := by
  rw [rdL9, dif_pos hc]; exact slotL_read arg9.view arg9.view.junk S L c hc

/-- The blocks of the result lie apart. -/
theorem orect_apart {t t' : ℕ} (h : t < 32) (h' : t' < 32) (hne : t ≠ t') : Disjoint (orect t).set (orect t').set := by
  by_cases e : t % 8 = t' % 8
  · refine Rect.unit_disjoint (s := S4096x512) (1 : Fin 2) ?_
    show 128 * (t / 8 % 4) + 128 ≤ 128 * (t' / 8 % 4) ∨ 128 * (t' / 8 % 4) + 128 ≤ 128 * (t / 8 % 4)
    omega
  · refine Rect.unit_disjoint (s := S4096x512) (0 : Fin 2) ?_
    show 512 * (t % 8) + 512 ≤ 512 * (t' % 8) ∨ 512 * (t' % 8) + 512 ≤ 512 * (t % 8)
    omega

/-- A block's result, in its place. -/
def pc (R : ℕ → FVec F S512x128 .bf16) (t : ℕ) : View.Piece (Elt F) S4096x512 .bf16 := ⟨orect t, R t⟩

/-- Two stores of the same result in the same place are the same piece. -/
theorem opiece {off off' : Fin 2 → ℕ} {inb : ∀ a, off a + S512x128.size a ≤ S4096x512.size a} {inb' : ∀ a, off' a + S512x128.size a ≤ S4096x512.size a}
    {x x' : FVec F S512x128 .bf16} (h : off = off') (hw : x = x') :
    (⟨Rect.unit (s := S4096x512) off S512x128.size inb, x⟩ : View.Piece (Elt F) S4096x512 .bf16) = ⟨Rect.unit (s := S4096x512) off' S512x128.size inb', x'⟩ := by
  subst h; subst hw; rfl

/-- Stored blocks are read as they were stored, the others as they were. -/
theorem pcs_read (v : View sig .tc .vmem S4096x512 .bf16) (f : BufTy.Contents (Elt F) v.ty) (R : ℕ → FVec F S512x128 .bf16) (t : ℕ) (ht : t < 32) :
    ∀ ts : List ℕ, (∀ x ∈ ts, x < 32) →
    v.readAt (Elt F) (orect t).toLoadRect (v.writes (Elt F) f (ts.map (pc R))) = if t ∈ ts then R t else v.readAt (Elt F) (orect t).toLoadRect f
  | [], _ => by rw [if_neg (by simp)]; rfl
  | x :: ts, h => by
    by_cases e : t = x
    · subst e
      rw [if_pos (by simp), List.map_cons]
      exact load_same _ _ _ _ _
    · rw [List.map_cons, load_apart v f (pc R x) (orect t) _ (orect_apart (h x (by simp)) ht (Ne.symm e)), pcs_read v f R t ht ts fun y hy => h y (List.mem_cons_of_mem _ hy)]
      by_cases m : t ∈ ts
      · rw [if_pos m, if_pos (List.mem_cons_of_mem _ m)]
      · rw [if_neg m, if_neg (by simp [e, m])]

section
variable {arg2 : Memref sig .tc .vmem S512x4096 .f32} {harg2 : arg2.IsWhole} {arg3 : Memref sig .tc .vmem S4096x128 .bf16} {harg3 : arg3.IsWhole} {arg4 : Memref sig .tc .vmem S128x4096 .bf16} {harg4 : arg4.IsWhole} {arg5 : Memref sig .tc .vmem S256x128 .bf16} {harg5 : arg5.IsWhole} {arg6 : Memref sig .tc .vmem S128x256 .bf16} {harg6 : arg6.IsWhole} {arg7 : Memref sig .tc .vmem S4096x512 .bf16} {harg7 : arg7.IsWhole} {arg8 : Memref sig .tc .vmem S4352x512 .f32} {harg8 : arg8.IsWhole} {arg9 : Memref sig .tc .vmem S4352x512 .f32} {harg9 : arg9.IsWhole} {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty}

/-- The result of block `t`. -/
def res (arg2 : Memref sig .tc .vmem S512x4096 .f32) (arg3 : Memref sig .tc .vmem S4096x128 .bf16) (arg4 : Memref sig .tc .vmem S128x4096 .bf16) (arg5 : Memref sig .tc .vmem S256x128 .bf16) (arg6 : Memref sig .tc .vmem S128x256 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (t : ℕ) : FVec F S512x128 .bf16 :=
  Attn.out (vl arg4 arg6 X4 X6 (t)) (sc arg2 arg3 arg5 X2 X3 X5 (t)) (mx (sc arg2 arg3 arg5 X2 X3 X5 (t)))

/-- What holds before trip `n`: the carried maximum and the first slot belong to block `6 * n`, and the blocks below it are done. -/
def Inv (arg2 : Memref sig .tc .vmem S512x4096 .f32) (arg3 : Memref sig .tc .vmem S4096x128 .bf16) (arg4 : Memref sig .tc .vmem S128x4096 .bf16) (arg5 : Memref sig .tc .vmem S256x128 .bf16) (arg6 : Memref sig .tc .vmem S128x256 .bf16) (arg7 : Memref sig .tc .vmem S4096x512 .bf16) (arg8 : Memref sig .tc .vmem S4352x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (n : ℕ) (m : FVec F S1x512 .f32) (f7 : BufTy.Contents (Elt F) arg7.view.ty) (f8 : BufTy.Contents (Elt F) arg8.view.ty) : Prop :=
  m = mx (sc arg2 arg3 arg5 X2 X3 X5 (6 * n)) ∧ (∀ c, c < 17 → rd8 arg8 f8 c = (sc arg2 arg3 arg5 X2 X3 X5 (6 * n)) c) ∧
    ∀ t, t < 6 * n → arg7.view.readAt (Elt F) (orect t).toLoadRect f7 = res arg2 arg3 arg4 arg5 arg6 X2 X3 X4 X5 X6 t

variable (𝒱 : Variants) (cd : Dev nD) (bd : Option 𝒱.V) (i : grid0.Coords) (v5 : FVec F S128x512 .bf16) (v131 : FVec F S8x512 .f32) (v133 : FVec F S256x128 .bf16) (k : Fin k0_t1_loop.trips)
variable (m : FVec F S1x512 .f32) (f7 : BufTy.Contents (Elt F) arg7.view.ty) (f8 : BufTy.Contents (Elt F) arg8.view.ty) (f9 : BufTy.Contents (Elt F) arg9.view.ty)

/-- A trip keeps it. -/
theorem inv_step (h : Inv arg2 arg3 arg4 arg5 arg6 arg7 arg8 X2 X3 X4 X5 X6 k.val m f7 f8) :
    Inv arg2 arg3 arg4 arg5 arg6 arg7 arg8 X2 X3 X4 X5 X6 (k.val + 1) ((trip 𝒱 cd bd i arg2 harg2 arg3 harg3 arg4 harg4 arg5 harg5 arg6 harg6 arg7 harg7 arg8 harg8 arg9 harg9 v5 v131 v133 X2 X3 X4 X5 X6 k).1 m f7 f8 f9)
      (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) := by
  obtain ⟨hm, h8, h7⟩ := h
  have hk : k.val < 5 := lt_of_lt_of_eq k.isLt (by decide)
  have hlast : ∀ c, c < 17 → (rawS arg2 arg3 arg5 X2 X3 X5 k 5) c = (sc arg2 arg3 arg5 X2 X3 X5 (6 * (k.val + 1))) c := fun c hc => by
    rw [rawS_eq k 5 c hc]; rfl
  refine ⟨?_, ?_, ?_⟩
  · rw [trip_R]
    exact mx_congr hlast
  · intro c hc
    rw [trip_L8, List.append_assoc, rd8_slotL _ _ _ _ _ hc]
    exact hlast c hc
  · intro t ht
    have e : (trip 𝒱 cd bd i arg2 harg2 arg3 harg3 arg4 harg4 arg5 harg5 arg6 harg6 arg7 harg7 arg8 harg8 arg9 harg9 v5 v131 v133 X2 X3 X4 X5 X6 k).2.1 m f7 f8 f9 = [6 * k.val + 5, 6 * k.val + 4, 6 * k.val + 3, 6 * k.val + 2, 6 * k.val + 1, 6 * k.val].map (pc (res arg2 arg3 arg4 arg5 arg6 X2 X3 X4 X5 X6)) := by
      rw [trip_L7]
      simp only [List.map_cons, List.map_nil, pc, res]
      refine congrArg₂ _ ?_ (congrArg₂ _ ?_ (congrArg₂ _ ?_ (congrArg₂ _ ?_ (congrArg₂ _ ?_ (congrArg₂ _ ?_ rfl)))))
      · refine opiece (off_o k 4) ?_
        refine out_congr (fun c hc => ?_) (fun c hc => ?_) (mx_congr fun c hc => ?_)
        · rw [rawV_eq k 4 c hc]; rfl
        · exact (by rw [List.append_assoc, rdL9_slotL _ _ _ c hc, rawS_eq k 4 c hc]; rfl)
        · rw [rawS_eq k 4 c hc]; rfl
      · refine opiece (off_o k 3) ?_
        refine out_congr (fun c hc => ?_) (fun c hc => ?_) (mx_congr fun c hc => ?_)
        · rw [rawV_eq k 3 c hc]; rfl
        · exact (by rw [rdL8_slotL _ _ _ c hc, rawS_eq k 3 c hc]; rfl)
        · rw [rawS_eq k 3 c hc]; rfl
      · refine opiece (off_o k 2) ?_
        refine out_congr (fun c hc => ?_) (fun c hc => ?_) (mx_congr fun c hc => ?_)
        · rw [rawV_eq k 2 c hc]; rfl
        · exact (by rw [rdL9_slotL _ _ _ c hc, rawS_eq k 2 c hc]; rfl)
        · rw [rawS_eq k 2 c hc]; rfl
      · refine opiece (off_o k 1) ?_
        refine out_congr (fun c hc => ?_) (fun c hc => ?_) (mx_congr fun c hc => ?_)
        · rw [rawV_eq k 1 c hc]; rfl
        · exact (by rw [← List.append_nil (slotL _), rdL8_slotL _ _ _ c hc, rawS_eq k 1 c hc]; rfl)
        · rw [rawS_eq k 1 c hc]; rfl
      · refine opiece (off_o k 0) ?_
        refine out_congr (fun c hc => ?_) (fun c hc => ?_) (mx_congr fun c hc => ?_)
        · rw [rawV_eq k 0 c hc]; rfl
        · exact (by rw [← List.append_nil (slotL _), rdL9_slotL _ _ _ c hc, rawS_eq k 0 c hc]; rfl)
        · rw [rawS_eq k 0 c hc]; rfl
      · refine opiece (off_o0 k) ?_
        exact out_congr (fun c hc => rawV1_eq k c hc) h8 hm
    rw [e, pcs_read _ _ _ t (by omega) _ (by simp; omega)]
    split
    · rfl
    · rename_i hn
      refine h7 t ?_
      simp at hn
      omega

/-- Before the first trip. -/
theorem inv_first (L : List (View.Piece (Elt F) S4352x512 .f32)) (hL : L = slotL (sc arg2 arg3 arg5 X2 X3 X5 (0))) (hm : m = mx (sc arg2 arg3 arg5 X2 X3 X5 (0))) :
    Inv arg2 arg3 arg4 arg5 arg6 arg7 arg8 X2 X3 X4 X5 X6 0 m f7 (arg8.view.writes (Elt F) arg8.view.junk L) := by
  subst hL; subst hm
  refine ⟨rfl, fun c hc => ?_, fun t ht => absurd ht (by omega)⟩
  rw [← List.append_nil (slotL _), rd8_slotL _ _ _ _ c hc]

/-- At the end every block is done. -/
theorem inv_last (h : Inv arg2 arg3 arg4 arg5 arg6 arg7 arg8 X2 X3 X4 X5 X6 k0_t1_loop.trips m f7 f8) (t : ℕ) (ht : t < 32) :
    arg7.view.readAt (Elt F) (orect t).toLoadRect (arg7.view.writes (Elt F) f7 ((body 𝒱 cd bd i arg2 harg2 arg3 harg3 arg4 harg4 arg5 harg5 arg6 harg6 arg7 harg7 arg8 harg8 arg9 harg9 X2 X3 X4 X5 X6).2.2.1 m f7 f8 f9)) = res arg2 arg3 arg4 arg5 arg6 X2 X3 X4 X5 X6 t := by
  obtain ⟨hm, h8, h7⟩ := h
  have e5 : k0_t1_loop.trips = 5 := by decide
  rw [e5] at hm h8 h7
  have e : (body 𝒱 cd bd i arg2 harg2 arg3 harg3 arg4 harg4 arg5 harg5 arg6 harg6 arg7 harg7 arg8 harg8 arg9 harg9 X2 X3 X4 X5 X6).2.2.1 m f7 f8 f9 = [31, 30].map (pc (res arg2 arg3 arg4 arg5 arg6 X2 X3 X4 X5 X6)) := by
    rw [body_L7]
    simp only [List.map_cons, List.map_nil, pc, res]
    refine congrArg₂ _ ?_ (congrArg₂ _ ?_ rfl)
    · refine opiece rfl ?_
      refine out_congr (fun c hc => rfl) (fun c hc => ?_) rfl
      rw [← List.append_nil (slotL _), rdL9_slotL _ _ _ c hc]
    · refine opiece rfl ?_
      exact out_congr (fun c hc => rfl) h8 hm
  rw [e, pcs_read _ _ _ t ht _ (by simp)]
  split
  · rfl
  · rename_i hn
    refine h7 t ?_
    simp at hn
    omega

end

end Cert.KernelIdeal.Attn

end
-- ==== Proof.Gqa.Block.lean ====
/- The body of the grouped attention kernel: the block it leaves, from the blocks it is given. -/
module

public import proofs.«01_k».proof.Proof.Gqa.Inv

@[expose] public section

set_option maxRecDepth 16384
set_option maxHeartbeats 400000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Attn

variable {F : FTy → Type} [FloatOps F] [Named F]

local notation "𝕄" => MT nD τ sig Unit (Elt F) ℕ (UR sig nD τ) ℕ

/-- Block `t`'s scores, piece by piece, of the arrays the kernel is given. -/
def sB (x0 : Vec F S512x4096 .f32) (x1 : Vec F S4096x128 .bf16) (x3 : Vec F S256x128 .bf16) (t c : ℕ) : FVec F S256x512 .f32 :=
  score (fun j => x0 ((Rect.unit (s := S512x4096) ![128 * (t / 8 % 4), 512 * (t % 8)] S128x512.size (hq t)).toLoadRect.idx j))
    (if h : c < 16 then (fun j => x1 ((Rect.unit (s := S4096x128) ![256 * c, 0] S256x128.size (hk t c h)).toLoadRect.idx j))
      else fun j => x3 ((Rect.unit (s := S256x128) ![0, 0] S256x128.size (hkc t)).toLoadRect.idx j))

/-- Block `t`'s values, piece by piece. -/
def vB (x2 : Vec F S128x4096 .bf16) (x4 : Vec F S128x256 .bf16) (t c : ℕ) : FVec F S128x256 .bf16 :=
  if h : c < 16 then (fun j => x2 ((Rect.unit (s := S128x4096) ![0, 256 * c] S128x256.size (hv t c h)).toLoadRect.idx j))
    else fun j => x4 ((Rect.unit (s := S128x256) ![0, 0] S128x256.size (hvc t)).toLoadRect.idx j)

/-- Block `t`'s result. -/
def rB (x0 : Vec F S512x4096 .f32) (x1 : Vec F S4096x128 .bf16) (x2 : Vec F S128x4096 .bf16) (x3 : Vec F S256x128 .bf16) (x4 : Vec F S128x256 .bf16) (t : ℕ) : FVec F S512x128 .bf16 :=
  Attn.out (vB x2 x4 t) (sB x0 x1 x3 t) (mx (sB x0 x1 x3 t))

/-- Which block a place of the result belongs to, and its place in the block. -/
def tOf (y : S4096x512.Idx) : ℕ := 8 * ((y 1).val / 128) + (y 0).val / 512
def jOf (y : S4096x512.Idx) : S512x128.Idx :=
  Shape.pair (⟨(y 0).val % 512, Nat.mod_lt _ (by decide)⟩ : Fin 512) (⟨(y 1).val % 128, Nat.mod_lt _ (by decide)⟩ : Fin 128)

/-- What the kernel leaves in its output block. -/
def blockOut (x0 : Vec F S512x4096 .f32) (x1 : Vec F S4096x128 .bf16) (x2 : Vec F S128x4096 .bf16) (x3 : Vec F S256x128 .bf16) (x4 : Vec F S128x256 .bf16) : Vec F S4096x512 .bf16 := fun y => rB x0 x1 x2 x3 x4 (tOf y) (jOf y)

theorem tOf_lt (y : S4096x512.Idx) : tOf y < 32 := by
  have h0 : (y 0).val < 4096 := (y 0).isLt
  have h1 : (y 1).val < 512 := (y 1).isLt
  unfold tOf; omega

theorem idx_jOf (y : S4096x512.Idx) : (orect (tOf y)).toLoadRect.idx (jOf y) = y := by
  have h0 : (y 0).val < 4096 := (y 0).isLt
  have h1 : (y 1).val < 512 := (y 1).isLt
  funext a
  apply Fin.ext
  fin_cases a
  · show 512 * (tOf y % 8) + 1 * ((y 0).val % 512) = (y 0).val
    unfold tOf; omega
  · show 128 * (tOf y / 8 % 4) + 1 * ((y 1).val % 128) = (y 1).val
    unfold tOf; omega

section
variable {arg2 : Memref sig .tc .vmem S512x4096 .f32} {harg2 : arg2.IsWhole} {arg3 : Memref sig .tc .vmem S4096x128 .bf16} {harg3 : arg3.IsWhole} {arg4 : Memref sig .tc .vmem S128x4096 .bf16} {harg4 : arg4.IsWhole} {arg5 : Memref sig .tc .vmem S256x128 .bf16} {harg5 : arg5.IsWhole} {arg6 : Memref sig .tc .vmem S128x256 .bf16} {harg6 : arg6.IsWhole} {arg7 : Memref sig .tc .vmem S4096x512 .bf16} {harg7 : arg7.IsWhole} {arg8 : Memref sig .tc .vmem S4352x512 .f32} {harg8 : arg8.IsWhole} {arg9 : Memref sig .tc .vmem S4352x512 .f32} {harg9 : arg9.IsWhole}

theorem unread_at {s : Shape} {e : EltTy} {m : Memref sig .tc .vmem s e} (h : m.IsWhole) (x : Vec F s e) (r : Rect s) :
    View.readAt (Elt F) m.view r.toLoadRect (h.unread x) = fun j => x (r.toLoadRect.idx j) :=
  funext fun j => by rw [View.readAt_apply, h.read_unread]

variable (x0 : Vec F S512x4096 .f32) (x1 : Vec F S4096x128 .bf16) (x2 : Vec F S128x4096 .bf16) (x3 : Vec F S256x128 .bf16) (x4 : Vec F S128x256 .bf16)

/-- The run's scores, values and results are the arrays'. -/
theorem sc_unread (t c : ℕ) : sc arg2 arg3 arg5 (harg2.unread x0) (harg3.unread x1) (harg5.unread x3) t c = sB x0 x1 x3 t c := by
  rw [sc, sB, rdq, unread_at]
  by_cases h : c < 16
  · rw [dif_pos h, dif_pos h, rdk, unread_at]; rfl
  · rw [dif_neg h, dif_neg h, rdkc, unread_at]; rfl
theorem vl_unread (t c : ℕ) : vl arg4 arg6 (harg4.unread x2) (harg6.unread x4) t c = vB x2 x4 t c := by
  rw [vl, vB]
  by_cases h : c < 16
  · rw [dif_pos h, dif_pos h, rdv, unread_at]; rfl
  · rw [dif_neg h, dif_neg h, rdvc, unread_at]; rfl
theorem res_unread (t : ℕ) : res arg2 arg3 arg4 arg5 arg6 (harg2.unread x0) (harg3.unread x1) (harg4.unread x2) (harg5.unread x3) (harg6.unread x4) t = rB x0 x1 x2 x3 x4 t := by
  rw [res, rB]
  exact out_congr (fun c _ => vl_unread x2 x4 t c) (fun c _ => sc_unread x0 x1 x3 t c) (mx_congr fun c _ => sc_unread x0 x1 x3 t c)
end

/-- The body's triple: it leaves the inputs as they are and the output block at `blockOut`. -/
theorem block_run (𝒱 : Variants) (cd : Dev nD) (bd : Option 𝒱.V) (i : grid0.Coords) (arg2 : Memref sig .tc .vmem S512x4096 .f32) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S4096x512 .bf16) (harg7 : arg7.IsWhole) (arg8 : Memref sig .tc .vmem S4352x512 .f32) (harg8 : arg8.IsWhole) (arg9 : Memref sig .tc .vmem S4352x512 .f32) (harg9 : arg9.IsWhole)
    (x0 : Vec F S512x4096 .f32) (x1 : Vec F S4096x128 .bf16) (x2 : Vec F S128x4096 .bf16) (x3 : Vec F S256x128 .bf16) (x4 : Vec F S128x256 .bf16) (E : Set ℕ) (K : PUnit → sProp 𝕄) :
    iprop(owns (cd : Thread nD τ) arg2 fullShare x0 ∗ owns (cd : Thread nD τ) arg3 fullShare x1 ∗ owns (cd : Thread nD τ) arg4 fullShare x2 ∗ owns (cd : Thread nD τ) arg5 fullShare x3 ∗ owns (cd : Thread nD τ) arg6 fullShare x4
        ∗ (∃ d, owns (cd : Thread nD τ) arg7 fullShare d) ∗ (∃ d, owns (cd : Thread nD τ) arg8 fullShare d) ∗ (∃ d, owns (cd : Thread nD τ) arg9 fullShare d)
        ∗ (iprop(owns (cd : Thread nD τ) arg2 fullShare x0 ∗ owns (cd : Thread nD τ) arg3 fullShare x1 ∗ owns (cd : Thread nD τ) arg4 fullShare x2 ∗ owns (cd : Thread nD τ) arg5 fullShare x3 ∗ owns (cd : Thread nD τ) arg6 fullShare x4
          ∗ owns (cd : Thread nD τ) arg7 fullShare (blockOut x0 x1 x2 x3 x4) ∗ (∃ d, owns (cd : Thread nD τ) arg8 fullShare d) ∗ (∃ d, owns (cd : Thread nD τ) arg9 fullShare d)) -∗ K ⟨⟩))
      ⊢ wp frame (wpE (defs₀ (F := F)) 𝒱 (cd : Thread nD τ) bd) E (cc0_attention (F := F) i arg2 harg2 arg3 harg3 arg4 harg4 arg5 harg5 arg6 harg6 arg7 harg7 arg8 harg8 arg9 harg9) K := by
  unfold owns
  iintro ⟨⟨%f0, %hf0, H2⟩, ⟨%f1, %hf1, H3⟩, ⟨%f2, %hf2, H4⟩, ⟨%f3, %hf3, H5⟩, ⟨%f4, %hf4, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  iapply ((body 𝒱 cd bd i arg2 harg2 arg3 harg3 arg4 harg4 arg5 harg5 arg6 harg6 arg7 harg7 arg8 harg8 arg9 harg9 (harg2.unread x0) (harg3.unread x1) (harg4.unread x2) (harg5.unread x3) (harg6.unread x4)).2.2.2.2 E K (fun n m f7 f8 f9 => Inv arg2 arg3 arg4 arg5 arg6 arg7 arg8 (harg2.unread x0) (harg3.unread x1) (harg4.unread x2) (harg5.unread x3) (harg6.unread x4) n m f7 f8) f7 f8 f9
    (fun g9 => inv_first _ f7 _ (body_L80 𝒱 cd bd i arg2 harg2 arg3 harg3 arg4 harg4 arg5 harg5 arg6 harg6 arg7 harg7 arg8 harg8 arg9 harg9 (harg2.unread x0) (harg3.unread x1) (harg4.unread x2) (harg5.unread x3) (harg6.unread x4)) (body_M0 𝒱 cd bd i arg2 harg2 arg3 harg3 arg4 harg4 arg5 harg5 arg6 harg6 arg7 harg7 arg8 harg8 arg9 harg9 (harg2.unread x0) (harg3.unread x1) (harg4.unread x2) (harg5.unread x3) (harg6.unread x4))) (fun _ _ _ k m f7 f8 f9 h => inv_step 𝒱 cd bd i _ _ _ k m f7 f8 f9 h))
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %m %g7 %g8 %g9 %hP ⟨H2, H3, H4, H5, H6, H7, H8, H9⟩
  iapply Hk
  isplitl [H2]; · iexists _; isplitr; swap; · iexact H2
                  ipureintro; exact harg2.read_unread _
  isplitl [H3]; · iexists _; isplitr; swap; · iexact H3
                  ipureintro; exact harg3.read_unread _
  isplitl [H4]; · iexists _; isplitr; swap; · iexact H4
                  ipureintro; exact harg4.read_unread _
  isplitl [H5]; · iexists _; isplitr; swap; · iexact H5
                  ipureintro; exact harg5.read_unread _
  isplitl [H6]; · iexists _; isplitr; swap; · iexact H6
                  ipureintro; exact harg6.read_unread _
  isplitl [H7]
  · iexists _; isplitr; swap; · iexact H7
    ipureintro
    funext y
    have e := congrFun (inv_last (harg2 := harg2) (harg3 := harg3) (harg4 := harg4) (harg5 := harg5) (harg6 := harg6) (harg7 := harg7) (harg8 := harg8) (harg9 := harg9) 𝒱 cd bd i m g7 g8 g9 hP (tOf y) (tOf_lt y)) (jOf y)
    rw [View.readAt_apply, idx_jOf, res_unread] at e
    exact e
  isplitl [H8]
  · iexists _, _; isplitr; swap; · iexact H8
    ipureintro; rfl
  iexists _, _; isplitr; swap; · iexact H9
  ipureintro; rfl

end Cert.KernelIdeal.Attn

end
-- ==== Proof.Gqa.Launch.lean ====
/- The launch of the grouped attention kernel: its frame and the array it leaves. -/
module

public import proofs.«01_k».proof.Proof.Gqa.Block
public import proofs.«01_k».proof.Proof.Gen.KernelIdeal.Frame
public import proofs.«01_k».proof.Proof.Gen.KernelIdeal.Points
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Attn

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a grid point leaves in its output block. -/
def outBlk (c : Dev nD) (t : Fin cfg0.N) : Vec F S4096x512 .bf16 :=
  blockOut (iblk m c 0 t) (iblk m c 1 t) (iblk m c 2 t) (iblk m c 3 t) (iblk m c 4 t)

/-- The launch's data: the inputs stay, the output block is `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The rest of the core's scoped memory is the two slots and the generator register. -/
theorem phi_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]
  try rfl

/-- What the body is called with at a point, and what it returns. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point of the grid. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (block_run Variants.none c none (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The launch: every array ends as the data say, every counter at zero. -/
theorem launch_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launch_quiescent m ρ)))
    ((θ_run defs _ _).mono (fun _ h => h.2) (launch_quiescent m ρ))

/-- The result array ends as the data say, the arguments unchanged. -/
theorem value_run : θ_run defs (onTc (τ := τ) (main (F := F))) ⟨m, fun _ => 0, ρ⟩ (fun r => ∀ c : Dev nD,
      r.2.mem ((c.tc : Thread nD τ).loc main_v12) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c).1 5, h.2 c⟩)
    (θ_run_and (launch_quiescent m ρ) (frame_of m ρ (dats m) (A_eq m) ((θ_run defs _ _).mono (fun _ h => h.1) (launch_quiescent m ρ))))

end Cert.KernelIdeal.Attn

end
-- ==== Proof.Gqa.Frames.lean ====
/- The grouped attention's frames: the printed kernel's and its idealization's. -/
module

public import proofs.«01_k».proof.Proof.Gqa.Launch
public import proofs.«01_k».proof.Defs
public import proofs.«01_k».proof.Proof.Gen.Kernel
public import proofs.«01_k».proof.Proof.Gen.KernelIdeal

@[expose] public section

noncomputable section

namespace Cert.KernelIdeal.Attn

open Idealize.ShloMosaic Idealize.SL.Sem

/-- The named constants read as the bits they are printed from. -/
@[instance_reducible] def bitsNamed : Named Bits := ⟨fun _ _ φ bits => Scalar.ofBits φ bits⟩

/-- The printed kernel's body is the idealization's with every named constant read as its bits. -/
theorem body_same : @Cert.Kernel.cc0_attention Bits _ Cert.Kernel.Gen.facts = @Cert.KernelIdeal.cc0_attention Bits _ bitsNamed Cert.KernelIdeal.Gen.facts := by with_unfolding_all rfl

/-- So are the rows of the two programs' labels. -/
theorem rows_same : @Cert.Kernel.defs₀ Bits _ Cert.Kernel.Gen.facts = @Cert.KernelIdeal.defs₀ Bits _ bitsNamed Cert.KernelIdeal.Gen.facts := by
  unfold Cert.Kernel.defs₀ Cert.KernelIdeal.defs₀
  rw [body_same]
  refine congrArg Defs.onTc ?_
  funext l a
  rcases l with ⟨_ | n, h⟩
  · rcases a with ⟨t, s⟩
    with_unfolding_all rfl
  · exact absurd h (Nat.not_lt.2 (Nat.le_add_left _ _))

/-- And the two programs' definitions. -/
theorem defs_same : @Cert.Kernel.defs Bits _ Cert.Kernel.Gen.facts = @Cert.KernelIdeal.defs Bits _ bitsNamed Cert.KernelIdeal.Gen.facts := by
  unfold Cert.Kernel.defs Cert.KernelIdeal.defs
  rw [rows_same]
  with_unfolding_all rfl

/-- The printed kernel's frame, by its text being the idealization's. -/
theorem kernel_quiescent : Cert.quiescent_Kernel (hKernel := Cert.Kernel.Gen.facts) := by
  intro m g _
  have h := @frame_run Bits _ bitsNamed m g
  rw [← defs_same] at h
  with_unfolding_all exact h

/-- The idealization's frame. -/
theorem ideal_quiescent : Cert.quiescent_KernelIdeal (hKernelIdeal := Cert.KernelIdeal.Gen.facts) :=
  fun m g _ => frame_run m g

end Cert.KernelIdeal.Attn

end
-- ==== Proof.Attn.Soft.lean ====
/- The softmax-weighted sum both programs compute, over extended reals, with real scores and any values. -/
module

public import Idealize.ShloMosaic.Lib.ValueIdx
public import Idealize.ShloMosaic.PureOps.Ideal.Laws
public import Mathlib.Analysis.SpecialFunctions.Pow.Real

@[expose] public section

noncomputable section

namespace Cert.Attn

open Idealize.ShloMosaic
open scoped BigOperators

/-- The values `v` averaged with the softmax of the scores `b`. -/
def soft {ι : Type} [Fintype ι] (v : ι → EReal) (b : ι → ℝ) : EReal :=
  ∑ i, v i * ((Real.exp (b i) / ∑ j, Real.exp (b j) : ℝ) : EReal)

/-- A finite sum of extended reals times a real at least zero is the sum of the products. -/
theorem sum_mul_coe {ι : Type} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top r) _ _

/-- The real sum read as an extended real is the sum of the readings. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih, EReal.coe_add]

/-- Dividing by a positive real is multiplying by its inverse. -/
theorem div_coe (x : EReal) (r : ℝ) (h : 0 < r) : Ideal.div x (r : EReal) = x * ((r⁻¹ : ℝ) : EReal) := by
  unfold Ideal.div
  rw [if_neg (by exact_mod_cast h.ne'), EReal.coe_inv]

/-- Shifting every score by the same amount leaves the softmax. -/
theorem exp_shift {ι : Type} [Fintype ι] (b : ι → ℝ) (m : ℝ) (i : ι) :
    Real.exp (b i - m) * (∑ j, Real.exp (b j - m))⁻¹ = Real.exp (b i) / ∑ j, Real.exp (b j) := by
  have e : ∀ j, Real.exp (b j - m) = Real.exp (b j) * Real.exp (-m) := fun j => by rw [← Real.exp_add]; rfl
  simp only [e]
  rw [← Finset.sum_mul, ← div_eq_mul_inv]
  exact mul_div_mul_right _ _ (Real.exp_pos _).ne'

/-- A sum of exponentials is positive. -/
theorem exp_sum_pos {ι : Type} [Fintype ι] [Nonempty ι] (b : ι → ℝ) : 0 < ∑ j, Real.exp (b j) :=
  Finset.sum_pos (fun j _ => Real.exp_pos _) Finset.univ_nonempty

/-- Weighted values over summed weights are the softmax average. -/
theorem soft_late {ι : Type} [Fintype ι] [Nonempty ι] (v : ι → EReal) (b : ι → ℝ) (m : ℝ) :
    Ideal.div (∑ i, v i * (Real.exp (b i - m) : EReal)) (∑ i, (Real.exp (b i - m) : EReal)) = soft v b := by
  rw [← coe_sum', div_coe _ _ (exp_sum_pos fun j => b j - m),
    sum_mul_coe _ _ _ (inv_nonneg.2 (exp_sum_pos fun j => b j - m).le)]
  refine Finset.sum_congr rfl fun i _ => ?_
  rw [mul_assoc, ← EReal.coe_mul, exp_shift]

/-- Values against divided weights are the softmax average. -/
theorem soft_early {ι : Type} [Fintype ι] [Nonempty ι] (v : ι → EReal) (b : ι → ℝ) (m : ℝ) :
    ∑ i, v i * Ideal.div (Real.exp (b i - m) : EReal) (∑ j, (Real.exp (b j - m) : EReal)) = soft v b := by
  refine Finset.sum_congr rfl fun i _ => ?_
  rw [← coe_sum', div_coe _ _ (exp_sum_pos fun j => b j - m), ← EReal.coe_mul, exp_shift]

/-- The softmax average over renamed keys. -/
theorem soft_equiv {ι κ : Type} [Fintype ι] [Fintype κ] (e : ι ≃ κ) (v : κ → EReal) (b : κ → ℝ) :
    soft (fun i => v (e i)) (fun i => b (e i)) = soft v b := by
  unfold soft
  rw [Equiv.sum_comp e (fun j => Real.exp (b j))]
  exact Equiv.sum_comp e fun i => v i * ((Real.exp (b i) / ∑ j, Real.exp (b j) : ℝ) : EReal)

/-- The softmax average depends on the values and the scores alone. -/
theorem soft_congr {ι : Type} [Fintype ι] {v v' : ι → EReal} {b b' : ι → ℝ} (hv : ∀ i, v i = v' i) (hb : ∀ i, b i = b' i) :
    soft v b = soft v' b' := by rw [funext hv, funext hb]

/-- The largest of finitely many reals, from minus infinity, is a real when there is one. -/
theorem fold_real {ι : Type} [Fintype ι] [Nonempty ι] (f : ι → EReal) (h : ∀ i, ∃ r : ℝ, f i = r) :
    ∃ r : ℝ, (Finset.univ : Finset ι).fold max ⊥ f = r := by
  have h1 : (Finset.univ : Finset ι).fold max ⊥ f < ⊤ :=
    (Finset.fold_max_lt _).2 ⟨bot_lt_top, fun i _ => by obtain ⟨r, e⟩ := h i; rw [e]; exact EReal.coe_lt_top r⟩
  have h2 : ⊥ < (Finset.univ : Finset ι).fold max ⊥ f :=
    (Finset.lt_fold_max _).2 (.inr ⟨Classical.arbitrary ι, Finset.mem_univ _, by obtain ⟨r, e⟩ := h (Classical.arbitrary ι); rw [e]; exact EReal.bot_lt_coe r⟩)
  exact ⟨_, (EReal.coe_toReal h1.ne h2.ne').symm⟩

/-- The larger of two reals is a real. -/
theorem max_real {x y : EReal} (hx : ∃ r : ℝ, x = r) (hy : ∃ r : ℝ, y = r) : ∃ r : ℝ, max x y = r := by
  rcases max_choice x y with h | h <;> rw [h] <;> assumption

/-- A power of two of a rescaled score is an exponential of the score. -/
theorem two_pow (b M : ℝ) : Real.rpow 2 (b * (Real.log 2)⁻¹ - M) = Real.exp (b - M * Real.log 2) := by
  have h2 : Real.log 2 ≠ 0 := (Real.log_pos one_lt_two).ne'
  rw [Real.rpow_eq_pow, Real.rpow_def_of_pos two_pos]
  congr 1
  field_simp

end Cert.Attn

end
-- ==== Proof.Gqa.Target.lean ====
/- The grouped attention's result, read at an index of the arguments. -/
module

public import proofs.«01_k».proof.Proof.Attn.Soft
public import Idealize.ShloMosaic.Lib.ValueIdx

@[expose] public section

noncomputable section

namespace Cert.Attn.Gqa

open Idealize.ShloMosaic
open Idealize.ShloMosaic.ValueIdx (ix1 ix2 ix3 ix4 ix5)
open scoped BigOperators

/-- The shapes of the queries, of the latent keys or values, and of the context's, and of the result. -/
abbrev SQ : Shape := ⟨5, ![8, 4096, 4, 4, 128]⟩
abbrev SK : Shape := ⟨4, ![8, 4096, 4, 128]⟩
abbrev SC : Shape := ⟨4, ![8, 256, 4, 128]⟩
abbrev SO : Shape := ⟨2, ![32768, 2048]⟩

/-- Row `p` of a batch's keys (or values), the context's rows after the latent ones. -/
def keyAt {α : Type} (x : SK.Idx → α) (z : SC.Idx → α) (b : Fin 8) (g : Fin 4) (p : Fin 4352) (k : Fin 128) : α :=
  if h : p.val < 4096 then x (ix4 b ⟨p.val, h⟩ g k) else z (ix4 b ⟨p.val - 4096, by omega⟩ g k)

/-- The scaled score of a query against a key. -/
def scoreAt (q : SQ.Idx → ℝ) (x : SK.Idx → ℝ) (z : SC.Idx → ℝ) (b : Fin 8) (g h : Fin 4) (i : Fin 4096) (p : Fin 4352) : ℝ :=
  (∑ k : Fin 128, keyAt x z b g p k * q (ix5 b i g h k)) * (Real.sqrt 128)⁻¹

/-- The attention's result at a batch, a group, a head of the group, a query and a coordinate. -/
def target (q : SQ.Idx → ℝ) (x : SK.Idx → ℝ) (z : SC.Idx → ℝ) (v : SK.Idx → EReal) (w : SC.Idx → EReal)
    (b : Fin 8) (g h : Fin 4) (i : Fin 4096) (d : Fin 128) : EReal :=
  soft (fun p => keyAt v w b g p d) (scoreAt q x z b g h i)

/-- The result array, as the attention of the arguments. -/
def result (q : SQ.Idx → ℝ) (x : SK.Idx → ℝ) (z : SC.Idx → ℝ) (v : SK.Idx → EReal) (w : SC.Idx → EReal) : SO.Idx → EReal := fun i =>
  target q x z v w (⟨(i 0).val / 4096, by have : (i 0).val < 32768 := (i 0).isLt; omega⟩ : Fin 8) (⟨(i 1).val / 512, by have : (i 1).val < 2048 := (i 1).isLt; omega⟩ : Fin 4)
    (⟨(i 1).val / 128 % 4, Nat.mod_lt _ (by decide)⟩ : Fin 4) (⟨(i 0).val % 4096, Nat.mod_lt _ (by decide)⟩ : Fin 4096) (⟨(i 1).val % 128, Nat.mod_lt _ (by decide)⟩ : Fin 128)

/-- A sum of products of reals, one factor scaled, is a real. -/
theorem dot_real {n : ℕ} (f g : Fin n → ℝ) (s : ℝ) :
    ∑ k, (f k : EReal) * ((g k : EReal) * (s : EReal)) = (((∑ k, f k * g k) * s : ℝ) : EReal) := by
  rw [Finset.sum_mul, coe_sum']
  exact Finset.sum_congr rfl fun k _ => by rw [← EReal.coe_mul, ← EReal.coe_mul, mul_assoc]

end Cert.Attn.Gqa

end
-- ==== Proof.Attn.Ideal.lean ====
/- The kernel's result of a block of queries, at the ideal values: the softmax average of the block's values. -/
module

public import proofs.«01_k».proof.Proof.Attn.Form
public import proofs.«01_k».proof.Proof.Attn.Soft
public import Idealize.ShloMosaic.Lib.MatmulPlain
public import Idealize.ShloMosaic.Lib.Pointwise.Reshape
public import Idealize.ShloMosaic.Lib.Pipeline.Value

@[expose] public section

noncomputable section

namespace Cert.Attn

open Idealize.ShloMosaic hiding ix1 ix2
open Idealize.ShloMosaic.ValueIdx (ix1 ix2 constant_apply truncf_apply divf_apply)
open scoped BigOperators

/-- Row `8·k + i` of a piece. -/
def row (i : Fin 8) (k : Fin 32) : Fin 256 := ⟨i.val + 8 * k.val, by omega⟩

theorem zero_word : Ideal.ofBits .f32 0x00000000#32 = 0 := by simp [Ideal.ofBits, Ideal.ieee]
theorem ninf_word : Ideal.ofBits .f32 0xFF800000#32 = ⊥ := by simp [Ideal.ofBits, Ideal.ieee]

/-- A piece regrouped by eights, read at a row's group and place. -/
theorem grouped (x : FVec Ideal Sp .f32) (i : Fin 8) (q : Fin 512) (k : Fin 32) :
    shapeCast Sg x hpg (hg8.lift (ix2 i q) k) = x (ix2 (row i k) q) := by
  refine shapeCast_apply x hpg _ _ ?_
  rewrite [Shape.rowMajor_val_two, Shape.rowMajor_val_three]
  show (i.val + 8 * k.val) * 512 + q.val = (k.val * 8 + i.val) * 512 + q.val
  omega

theorem foldMax_apply (s : FVec Ideal Sp .f32) (i : Fin 8) (q : Fin 512) :
    foldMax s (ix2 i q) = (Finset.univ : Finset (Fin 32)).fold max ⊥ (fun k => s (ix2 (row i k) q)) := by
  unfold foldMax
  refine (Ideal.multiReduction_maximumf_single _ _ hg8 (.inl rfl) rfl _).trans ?_
  show Finset.fold max (Ideal.ofBits .f32 0xFF800000#32) _ _ = _
  rw [ninf_word]
  exact congrArg (fun f => Finset.fold max ⊥ f _) (funext fun k => grouped s i q k)

theorem foldSum_apply (s : FVec Ideal Sp .f32) (i : Fin 8) (q : Fin 512) :
    foldSum s (ix2 i q) = ∑ k : Fin 32, s (ix2 (row i k) q) := by
  unfold foldSum
  refine (Ideal.multiReduction_add_single _ _ hg8 (.inl rfl) rfl _).trans ?_
  exact Finset.sum_congr rfl fun k _ => grouped s i q k

theorem mxRun_real (s : ℕ → FVec Ideal Sp .f32) (q : Fin 512) (hs : ∀ c ≤ 16, ∀ r, ∃ x : ℝ, s c (ix2 r q) = x) (i : Fin 8) :
    ∀ n ≤ 16, ∃ x : ℝ, mxRun s n (ix2 i q) = x
  | 0, _ => by
    obtain ⟨x, hx⟩ := fold_real (fun k : Fin 32 => s 0 (ix2 (row i k) q)) fun k => hs 0 (by omega) _
    refine ⟨x, ?_⟩
    show max (Ideal.ofBits .f32 0xFF800000#32) (foldMax (s 0) (ix2 i q)) = x
    rw [foldMax_apply, hx, ninf_word]
    exact max_eq_right bot_le
  | n + 1, h => by
    show ∃ x : ℝ, max (mxRun s n (ix2 i q)) (foldMax (s (n + 1)) (ix2 i q)) = x
    refine max_real (mxRun_real s q hs i n (by omega)) ?_
    rw [foldMax_apply]
    exact fold_real _ fun k => hs (n + 1) h _

/-- A row as a vector, back as a row. -/
theorem row_of (x : FVec Ideal Sv .f32) (q : Fin 512) : shapeCast S1 x hv1 (ix2 0 q) = x (ix1 q) := by
  refine shapeCast_apply x hv1 _ _ ?_
  rewrite [Shape.rowMajor_val_two, Shape.rowMajor_val_one]
  show q.val = 0 * 512 + q.val
  omega

theorem lift8 (q : Fin 512) (k : Fin 8) : h8v.lift (ix1 q) k = ix2 k q := by
  funext a
  apply Fin.ext
  fin_cases a <;> rfl

/-- The maximum of real scores is a real. -/
theorem mx_real (s : ℕ → FVec Ideal Sp .f32) (q : Fin 512) (hs : ∀ c ≤ 16, ∀ r, ∃ x : ℝ, s c (ix2 r q) = x) :
    ∃ x : ℝ, mx s (ix2 0 q) = x := by
  unfold mx
  rw [row_of]
  refine Eq.mpr (congrArg (fun y : EReal => ∃ x : ℝ, y = x) (Ideal.multiReduction_maximumf_single _ _ h8v (.inl rfl) rfl _)) ?_
  show ∃ x : ℝ, Finset.fold max (Ideal.ofBits .f32 0xFF800000#32) _ _ = x
  rw [ninf_word]
  refine fold_real (ι := Fin 8) _ fun k => ?_
  show ∃ r : ℝ, mxRun s 16 (h8v.lift (ix1 q) k) = r
  rw [lift8]
  exact mxRun_real s q hs k 16 le_rfl

theorem wt_apply (s : FVec Ideal Sp .f32) (m : FVec Ideal S1 .f32) (r : Fin 256) (q : Fin 512) :
    wt s m (ix2 r q) = Ideal.exp2 (s (ix2 r q) - m (ix2 0 q)) := by
  show Ideal.exp2 (s (ix2 r q) - broadcastTo Sp m h1p (ix2 r q)) = _
  rw [broadcastTo_apply m h1p (ix2 r q) (ix2 0 q) (by intro a; fin_cases a <;> rfl)]

theorem dotv_apply (v : FVec Ideal Svt .bf16) (p : FVec Ideal Sp .f32) (d : Fin 128) (q : Fin 512) :
    dotv v p (ix2 d q) = ∑ r : Fin 256, v (ix2 d r) * p (ix2 r q) := by
  show FloatOps.matmul (DotDims.plain 128 256 512) none (shapeCast Svt v hvt) (truncf .bf16 p hbits) (constant Sa .f32 0x00000000#32) (ix2 d q) = _
  rw [Ideal.matmul_plain_apply, constant_apply, zero_word, zero_add, shapeCast_id]
  rfl

theorem accRun_apply (v : ℕ → FVec Ideal Svt .bf16) (s : ℕ → FVec Ideal Sp .f32) (m : FVec Ideal S1 .f32) (d : Fin 128) (q : Fin 512) :
    ∀ n, accRun v s m n (ix2 d q) = ∑ c ∈ Finset.range (n + 1), ∑ r : Fin 256, v c (ix2 d r) * wt (s c) m (ix2 r q)
  | 0 => by rw [Finset.sum_range_one]; exact dotv_apply _ _ d q
  | n + 1 => by
    rw [Finset.sum_range_succ, ← accRun_apply v s m d q n, ← dotv_apply]
    rfl

theorem lRun_apply (s : ℕ → FVec Ideal Sp .f32) (m : FVec Ideal S1 .f32) (i : Fin 8) (q : Fin 512) :
    ∀ n, lRun s m n (ix2 i q) = ∑ c ∈ Finset.range (n + 1), ∑ k : Fin 32, wt (s c) m (ix2 (row i k) q)
  | 0 => by
    rw [Finset.sum_range_one, ← foldSum_apply]
    show Ideal.ofBits .f32 0x00000000#32 + foldSum (wt (s 0) m) (ix2 i q) = _
    rw [zero_word, zero_add]
  | n + 1 => by
    rw [Finset.sum_range_succ, ← lRun_apply s m i q n, ← foldSum_apply]
    rfl

/-- The rows of a piece, by place and group. -/
theorem sum_rows (f : Fin 256 → EReal) : ∑ i : Fin 8, ∑ k : Fin 32, f (row i k) = ∑ r : Fin 256, f r := by
  rw [Finset.sum_comm, ← Fintype.sum_prod_type', ← Equiv.sum_comp (finProdFinEquiv (m := 32) (n := 8)) f]
  rfl

theorem out_apply (v : ℕ → FVec Ideal Svt .bf16) (s : ℕ → FVec Ideal Sp .f32) (m : FVec Ideal S1 .f32) (q : Fin 512) (d : Fin 128) :
    out v s m (ix2 q d) = Ideal.div (∑ c ∈ Finset.range 17, ∑ r : Fin 256, v c (ix2 d r) * wt (s c) m (ix2 r q))
      (∑ c ∈ Finset.range 17, ∑ r : Fin 256, wt (s c) m (ix2 r q)) := by
  unfold out
  rw [truncf_apply, transpose_apply (s := Sa) (t := So) [1, 0] _ hao (ix2 q d) (ix2 d q) (by intro b; fin_cases b <;> rfl), divf_apply, accRun_apply,
    broadcastTo_apply _ h1a (ix2 d q) (ix2 0 q) (by intro a; fin_cases a <;> rfl), row_of]
  refine congrArg (Ideal.div _) ((Ideal.multiReduction_add_single _ _ h8v (.inl rfl) rfl _).trans ?_)
  rw [Finset.sum_congr rfl fun c _ => (sum_rows fun r => wt (s c) m (ix2 r q)).symm, Finset.sum_comm]
  refine Finset.sum_congr rfl fun i _ => ?_
  exact (congrArg (lRun s m 16) (lift8 q i)).trans (lRun_apply s m i q 16)

/-- The result of a block of queries is the softmax average of the values, when the scores are reals in units of `log 2`. -/
theorem out_soft (v : ℕ → FVec Ideal Svt .bf16) (s : ℕ → FVec Ideal Sp .f32) (q : Fin 512) (d : Fin 128)
    (b : Fin 17 × Fin 256 → ℝ) (hs : ∀ p, s p.1.val (ix2 p.2 q) = ((b p * (Real.log 2)⁻¹ : ℝ) : EReal)) :
    out v s (mx s) (ix2 q d) = soft (fun p : Fin 17 × Fin 256 => v p.1.val (ix2 d p.2)) b := by
  obtain ⟨M, hM⟩ := mx_real s q fun c hc r => ⟨_, hs (⟨c, by omega⟩, r)⟩
  have hw : ∀ p : Fin 17 × Fin 256, wt (s p.1.val) (mx s) (ix2 p.2 q) = (Real.exp (b p - M * Real.log 2) : EReal) := fun p => by
    rw [wt_apply, hM, hs p, ← EReal.coe_sub]
    show ((Real.rpow 2 _ : ℝ) : EReal) = _
    rw [two_pow]
  rw [out_apply, ← soft_late _ b (M * Real.log 2), Finset.sum_range, Finset.sum_range, ← Fintype.sum_prod_type', ← Fintype.sum_prod_type']
  exact congrArg₂ Ideal.div (Finset.sum_congr rfl fun p _ => by rw [← hw p]) (Finset.sum_congr rfl fun p _ => hw p)

end Cert.Attn

end
-- ==== Proof.Gqa.Value.lean ====
/- What the grouped attention kernel's launch leaves, at the ideal values. -/
module

public import proofs.«01_k».proof.Proof.Gqa.Launch
public import proofs.«01_k».proof.Proof.Gqa.Target
public import proofs.«01_k».proof.Proof.Attn.Ideal
public import Idealize.ShloMosaic.Lib.StableHlo.Run
public import Idealize.ShloMosaic.Lib.Pipeline.ValueKit.Geometry

@[expose] public section

set_option maxRecDepth 16384

noncomputable section

namespace Cert.KernelIdeal.Attn

open Idealize.ShloMosaic hiding ix1 ix2 ix3 ix4 ix5
open Idealize.ShloMosaic.ValueIdx (ix1 ix2 ix3 ix4 ix5 constant_apply truncf_apply)
open Idealize.SL.Sem Idealize.ShloMosaic.TcCoe
open Cert.KernelIdeal Cert.KernelIdeal.Gen Cert.Attn Cert.Attn.Gqa

variable (m : (ℓ : Loc nD τ sig) → Buf (Elt Ideal) ℓ)

/-- The arguments' contents at launch. -/
abbrev a0 (c : Dev nD) : SQ.Idx → EReal := m ((c.tc : Thread nD τ).loc main_arg0)
abbrev a1 (c : Dev nD) : SK.Idx → EReal := m ((c.tc : Thread nD τ).loc main_arg1)
abbrev a2 (c : Dev nD) : SK.Idx → EReal := m ((c.tc : Thread nD τ).loc main_arg2)
abbrev a3 (c : Dev nD) : SC.Idx → EReal := m ((c.tc : Thread nD τ).loc main_arg3)
abbrev a4 (c : Dev nD) : SC.Idx → EReal := m ((c.tc : Thread nD τ).loc main_arg4)

theorem V_q (c : Dev nD) : V m c main_v1 = transpose S2048x32768 [1, 0] (shapeCast S32768x2048 (a0 m c) shapeCasts_S8x4096x4x4x128_S32768x2048) transposes_S32768x2048_S2048x32768_1_0 := by
  unfold V; after_results <;> rfl
theorem V_k (c : Dev nD) : V m c main_v3 = shapeCast S32768x512 (a1 m c) shapeCasts_S8x4096x4x128_S32768x512 := by
  unfold V; after_results <;> rfl
theorem V_v (c : Dev nD) : V m c main_v6 = transpose S512x32768 [1, 0] (shapeCast S32768x512 (a2 m c) shapeCasts_S8x4096x4x128_S32768x512) transposes_S32768x512_S512x32768_1_0 := by
  unfold V; after_results <;> rfl
theorem V_kc (c : Dev nD) : V m c main_v8 = shapeCast S2048x512 (a3 m c) shapeCasts_S8x256x4x128_S2048x512 := by
  unfold V; after_results <;> rfl
theorem V_vc (c : Dev nD) : V m c main_v11 = transpose S512x2048 [1, 0] (shapeCast S2048x512 (a4 m c) shapeCasts_S8x256x4x128_S2048x512) transposes_S2048x512_S512x2048_1_0 := by
  unfold V; after_results <;> rfl

/-- A grid point's batch and group. -/
abbrev bt (t : Fin cfg0.N) : Fin 8 := ⟨(grid0.coords t 0).val, (grid0.coords t 0).isLt⟩
abbrev gr (t : Fin cfg0.N) : Fin 4 := ⟨(grid0.coords t 1).val, (grid0.coords t 1).isLt⟩

theorem ind_0 : ∀ t : Fin cfg0.N, win0_0.index t = ![(grid0.coords t 1).val, (grid0.coords t 0).val] := (by decide +kernel : ∀ t : Fin grid0.N, _)
theorem ind_1 : ∀ t : Fin cfg0.N, win0_1.index t = ![(grid0.coords t 0).val, (grid0.coords t 1).val] := (by decide +kernel : ∀ t : Fin grid0.N, _)
theorem ind_2 : ∀ t : Fin cfg0.N, win0_2.index t = ![(grid0.coords t 1).val, (grid0.coords t 0).val] := (by decide +kernel : ∀ t : Fin grid0.N, _)
theorem ind_3 : ∀ t : Fin cfg0.N, win0_3.index t = ![(grid0.coords t 0).val, (grid0.coords t 1).val] := (by decide +kernel : ∀ t : Fin grid0.N, _)
theorem ind_4 : ∀ t : Fin cfg0.N, win0_4.index t = ![(grid0.coords t 1).val, (grid0.coords t 0).val] := (by decide +kernel : ∀ t : Fin grid0.N, _)
theorem ind_5 : ∀ t : Fin cfg0.N, win0_5.index t = ![(grid0.coords t 0).val, (grid0.coords t 1).val] := (by decide +kernel : ∀ t : Fin grid0.N, _)

/-- The blocks' elements, read from the arguments. -/
theorem in_0 (c : Dev nD) (t : Fin cfg0.N) (j : S512x4096.Idx) (i : Fin 4096) (h : Fin 4) (k : Fin 128)
    (h0 : (j 0).val = 128 * h.val + k.val) (h1 : (j 1).val = i.val) : iblk m c 0 t j = a0 m c (ix5 (bt t) i (gr t) h k) := by
  have hb := (bt t).isLt
  have hg := (gr t).isLt
  have e : iblk m c 0 t j = V m c main_v1 (ix2 (⟨512 * (gr t).val + (128 * h.val + k.val), by omega⟩ : Fin 2048) (⟨4096 * (bt t).val + i.val, by omega⟩ : Fin 32768)) := by
    blk_simp [iblk]
    refine congrArg (V m c main_v1) ?_
    blk_ext [ind_0]
  rw [e, V_q, transpose_apply (s := S32768x2048) (t := S2048x32768) [1, 0] _ _ _ (ix2 (⟨4096 * (bt t).val + i.val, by omega⟩ : Fin 32768) (⟨512 * (gr t).val + (128 * h.val + k.val), by omega⟩ : Fin 2048)) (by intro b; fin_cases b <;> rfl)]
  refine shapeCast_apply _ _ _ _ ?_
  rewrite [Shape.rowMajor_val_five, Shape.rowMajor_val_two]
  show (((((bt t).val * 4096 + i.val) * 4 + (gr t).val) * 4 + h.val) * 128 + k.val) = (4096 * (bt t).val + i.val) * 2048 + (512 * (gr t).val + (128 * h.val + k.val))
  omega

theorem in_1 (c : Dev nD) (t : Fin cfg0.N) (j : S4096x128.Idx) (r : Fin 4096) (k : Fin 128)
    (h0 : (j 0).val = r.val) (h1 : (j 1).val = k.val) : iblk m c 1 t j = a1 m c (ix4 (bt t) r (gr t) k) := by
  have hb := (bt t).isLt
  have hg := (gr t).isLt
  have e : iblk m c 1 t j = V m c main_v3 (ix2 (⟨4096 * (bt t).val + r.val, by omega⟩ : Fin 32768) (⟨128 * (gr t).val + k.val, by omega⟩ : Fin 512)) := by
    blk_simp [iblk]
    refine congrArg (V m c main_v3) ?_
    blk_ext [ind_1]
  rw [e, V_k]
  refine shapeCast_apply _ _ _ _ ?_
  rewrite [Shape.rowMajor_val_four, Shape.rowMajor_val_two]
  show ((((bt t).val * 4096 + r.val) * 4 + (gr t).val) * 128 + k.val) = (4096 * (bt t).val + r.val) * 512 + (128 * (gr t).val + k.val)
  omega

theorem in_2 (c : Dev nD) (t : Fin cfg0.N) (j : S128x4096.Idx) (r : Fin 4096) (k : Fin 128)
    (h0 : (j 0).val = k.val) (h1 : (j 1).val = r.val) : iblk m c 2 t j = a2 m c (ix4 (bt t) r (gr t) k) := by
  have hb := (bt t).isLt
  have hg := (gr t).isLt
  have e : iblk m c 2 t j = V m c main_v6 (ix2 (⟨128 * (gr t).val + k.val, by omega⟩ : Fin 512) (⟨4096 * (bt t).val + r.val, by omega⟩ : Fin 32768)) := by
    blk_simp [iblk]
    refine congrArg (V m c main_v6) ?_
    blk_ext [ind_2]
  rw [e, V_v, transpose_apply (s := S32768x512) (t := S512x32768) [1, 0] _ _ _ (ix2 (⟨4096 * (bt t).val + r.val, by omega⟩ : Fin 32768) (⟨128 * (gr t).val + k.val, by omega⟩ : Fin 512)) (by intro b; fin_cases b <;> rfl)]
  refine shapeCast_apply _ _ _ _ ?_
  rewrite [Shape.rowMajor_val_four, Shape.rowMajor_val_two]
  show ((((bt t).val * 4096 + r.val) * 4 + (gr t).val) * 128 + k.val) = (4096 * (bt t).val + r.val) * 512 + (128 * (gr t).val + k.val)
  omega

theorem in_3 (c : Dev nD) (t : Fin cfg0.N) (j : S256x128.Idx) (r : Fin 256) (k : Fin 128)
    (h0 : (j 0).val = r.val) (h1 : (j 1).val = k.val) : iblk m c 3 t j = a3 m c (ix4 (bt t) r (gr t) k) := by
  have hb := (bt t).isLt
  have hg := (gr t).isLt
  have e : iblk m c 3 t j = V m c main_v8 (ix2 (⟨256 * (bt t).val + r.val, by omega⟩ : Fin 2048) (⟨128 * (gr t).val + k.val, by omega⟩ : Fin 512)) := by
    blk_simp [iblk]
    refine congrArg (V m c main_v8) ?_
    blk_ext [ind_3]
  rw [e, V_kc]
  refine shapeCast_apply _ _ _ _ ?_
  rewrite [Shape.rowMajor_val_four, Shape.rowMajor_val_two]
  show ((((bt t).val * 256 + r.val) * 4 + (gr t).val) * 128 + k.val) = (256 * (bt t).val + r.val) * 512 + (128 * (gr t).val + k.val)
  omega

theorem in_4 (c : Dev nD) (t : Fin cfg0.N) (j : S128x256.Idx) (r : Fin 256) (k : Fin 128)
    (h0 : (j 0).val = k.val) (h1 : (j 1).val = r.val) : iblk m c 4 t j = a4 m c (ix4 (bt t) r (gr t) k) := by
  have hb := (bt t).isLt
  have hg := (gr t).isLt
  have e : iblk m c 4 t j = V m c main_v11 (ix2 (⟨128 * (gr t).val + k.val, by omega⟩ : Fin 512) (⟨256 * (bt t).val + r.val, by omega⟩ : Fin 2048)) := by
    blk_simp [iblk]
    refine congrArg (V m c main_v11) ?_
    blk_ext [ind_4]
  rw [e, V_vc, transpose_apply (s := S2048x512) (t := S512x2048) [1, 0] _ _ _ (ix2 (⟨256 * (bt t).val + r.val, by omega⟩ : Fin 2048) (⟨128 * (gr t).val + k.val, by omega⟩ : Fin 512)) (by intro b; fin_cases b <;> rfl)]
  refine shapeCast_apply _ _ _ _ ?_
  rewrite [Shape.rowMajor_val_four, Shape.rowMajor_val_two]
  show ((((bt t).val * 256 + r.val) * 4 + (gr t).val) * 128 + k.val) = (256 * (bt t).val + r.val) * 512 + (128 * (gr t).val + k.val)
  omega

/-- A piece's scores: keys against scaled queries. -/
theorem score_apply (q : Vec Ideal S128x512 .f32) (x : Vec Ideal S256x128 .bf16) (r : Fin 256) (j : Fin 512) :
    score q x (ix2 r j) = ∑ k : Fin 128, x (ix2 r k) * (q (ix2 k j) * (((Real.sqrt 128)⁻¹ * (Real.log 2)⁻¹ : ℝ) : EReal)) := by
  show FloatOps.matmul (DotDims.plain 256 128 512) none (shapeCast S256x128 x shapeCasts_S256x128_S256x128) (k0_pay3 q) (constant S256x512 .f32 0x00000000#32) (ix2 r j) = _
  rw [Ideal.matmul_plain_apply, constant_apply, zero_word, zero_add, shapeCast_id]
  refine Finset.sum_congr rfl fun k _ => ?_
  refine congrArg (x (ix2 r k) * ·) ?_
  show shapeCast S128x512 q _ (ix2 k j) * _ = _
  rw [shapeCast_id]
  rfl

section
variable (c : Dev nD) (t : Fin cfg0.N) (q0 : SQ.Idx → ℝ) (k0 : SK.Idx → ℝ) (c0 : SC.Idx → ℝ)
  (hq : ∀ i, a0 m c i = (q0 i : EReal)) (hk : ∀ i, a1 m c i = (k0 i : EReal)) (hc : ∀ i, a3 m c i = (c0 i : EReal))

include hq hk hc in
/-- A block's scores, in units of `log 2`. -/
theorem sB_apply (y : S4096x512.Idx) (h : Fin 4) (hh : h.val = (y 1).val / 128) (i : Fin 4096) (hi : i.val = (y 0).val) (p : Fin 17 × Fin 256) :
    sB (iblk m c 0 t) (iblk m c 1 t) (iblk m c 3 t) (tOf y) p.1.val (ix2 p.2 (⟨(y 0).val % 512, Nat.mod_lt _ (by decide)⟩ : Fin 512))
      = ((scoreAt q0 k0 c0 (bt t) (gr t) h i (finProdFinEquiv p) * (Real.log 2)⁻¹ : ℝ) : EReal) := by
  have hy0 : (y 0).val < 4096 := (y 0).isLt
  have hy1 : (y 1).val < 512 := (y 1).isLt
  obtain ⟨n, r⟩ := p
  have hn := n.isLt
  have hr := r.isLt
  have hv : (finProdFinEquiv (n, r)).val = r.val + 256 * n.val := rfl
  rw [sB, score_apply, scoreAt, mul_assoc, ← dot_real]
  refine Finset.sum_congr rfl fun k _ => ?_
  have eq : iblk m c 0 t ((Rect.unit (s := S512x4096) ![128 * (tOf y / 8 % 4), 512 * (tOf y % 8)] S128x512.size (Attn.hq (tOf y))).toLoadRect.idx (ix2 k (⟨(y 0).val % 512, Nat.mod_lt _ (by decide)⟩ : Fin 512)))
      = (q0 (ix5 (bt t) i (gr t) h k) : EReal) := by
    rw [← hq]
    refine in_0 m c t _ i h k ?_ ?_
    · show 128 * (tOf y / 8 % 4) + 1 * k.val = _
      unfold tOf; omega
    · show 512 * (tOf y % 8) + 1 * ((y 0).val % 512) = _
      unfold tOf; omega
  refine congrArg₂ (· * ·) ?_ (congrArg (· * _) eq)
  unfold keyAt
  by_cases hn16 : n.val < 16
  · rw [dif_pos hn16, dif_pos (by rw [hv]; omega), ← hk]
    refine in_1 m c t _ _ k ?_ ?_
    · show 256 * n.val + 1 * r.val = r.val + 256 * n.val
      omega
    · show 0 + 1 * k.val = k.val
      omega
  · rw [dif_neg hn16, dif_neg (by rw [hv]; omega), ← hc]
    refine in_3 m c t _ _ k ?_ ?_
    · show 0 + 1 * r.val = r.val + 256 * n.val - 4096
      omega
    · show 0 + 1 * k.val = k.val
      omega

/-- A block's values. -/
theorem vB_apply (T : ℕ) (d : Fin 128) (p : Fin 17 × Fin 256) :
    vB (iblk m c 2 t) (iblk m c 4 t) T p.1.val (ix2 d p.2) = keyAt (a2 m c) (a4 m c) (bt t) (gr t) (finProdFinEquiv p) d := by
  obtain ⟨n, r⟩ := p
  have hn := n.isLt
  have hr := r.isLt
  have hv : (finProdFinEquiv (n, r)).val = r.val + 256 * n.val := rfl
  unfold vB keyAt
  by_cases hn16 : n.val < 16
  · rw [dif_pos hn16, dif_pos (by rw [hv]; omega)]
    refine in_2 m c t _ _ d ?_ ?_
    · show 0 + 1 * d.val = d.val
      omega
    · show 256 * n.val + 1 * r.val = r.val + 256 * n.val
      omega
  · rw [dif_neg hn16, dif_neg (by rw [hv]; omega)]
    refine in_4 m c t _ _ d ?_ ?_
    · show 0 + 1 * d.val = d.val
      omega
    · show 0 + 1 * r.val = r.val + 256 * n.val - 4096
      omega

include hq hk hc in
/-- A grid point's output block. -/
theorem outBlk_apply (y : S4096x512.Idx) :
    outBlk m c t y = target q0 k0 c0 (a2 m c) (a4 m c) (bt t) (gr t) (⟨(y 1).val / 128, by have : (y 1).val < 512 := (y 1).isLt; omega⟩ : Fin 4)
      (⟨(y 0).val, (y 0).isLt⟩ : Fin 4096) (⟨(y 1).val % 128, Nat.mod_lt _ (by decide)⟩ : Fin 128) := by
  have e : jOf y = ix2 (⟨(y 0).val % 512, Nat.mod_lt _ (by decide)⟩ : Fin 512) (⟨(y 1).val % 128, Nat.mod_lt _ (by decide)⟩ : Fin 128) := by
    funext a; fin_cases a <;> rfl
  show rB _ _ _ _ _ (tOf y) (jOf y) = _
  rw [e, rB, target, ← soft_equiv (finProdFinEquiv (m := 17) (n := 256))]
  refine (out_soft _ _ _ _ _ fun p => sB_apply m c t q0 k0 c0 hq hk hc y ⟨(y 1).val / 128, by have : (y 1).val < 512 := (y 1).isLt; omega⟩ rfl ⟨(y 0).val, (y 0).isLt⟩ rfl p).trans ?_
  exact soft_congr (fun p => vB_apply m c t _ _ p) fun p => rfl
end

/-- The launch leaves the attention of the arguments. -/
theorem final (c : Dev nD) (q0 : SQ.Idx → ℝ) (k0 : SK.Idx → ℝ) (c0 : SC.Idx → ℝ)
    (hq : ∀ i, a0 m c i = (q0 i : EReal)) (hk : ∀ i, a1 m c i = (k0 i : EReal)) (hc : ∀ i, a3 m c i = (c0 i : EReal)) :
    (dats m 0 c).arrAt 5 cfg0.N = result q0 k0 c0 (a2 m c) (a4 m c) := by
  refine (dats m 0 c).arrAt_eq_of_covers 5 _ (by decide +kernel) fun t hf y => ?_
  blk_simp
  rw [after_5]
  have hy0 : (y 0).val < 4096 := (y 0).isLt
  have hy1 : (y 1).val < 512 := (y 1).isLt
  have hb := (bt t).isLt
  have hg := (gr t).isLt
  refine (outBlk_apply m c t q0 k0 c0 hq hk hc y).trans ?_
  have e0 : (((win0_5.blk t).view.emb y 0 : Fin _) : ℕ) = (grid0.coords t 0).val * 4096 + (y 0).val := by blk_simp [ind_5]
  have e1 : (((win0_5.blk t).view.emb y 1 : Fin _) : ℕ) = (grid0.coords t 1).val * 512 + (y 1).val := by blk_simp [ind_5]
  unfold result
  have hb' : (grid0.coords t 0).val < 8 := hb
  have hg' : (grid0.coords t 1).val < 4 := hg
  congr 1 <;> apply Fin.ext <;> simp only [e0, e1] <;> omega

end Cert.KernelIdeal.Attn

end
-- ==== Proof.Gqa.Ref.lean ====
/- What the grouped attention's reference computes, at the ideal values. -/
module

public import proofs.«01_k».proof.Proof.Gqa.Target
public import proofs.«01_k».proof.Proof.Attn.Soft
public import proofs.«01_k».proof.Proof.Gen.ReferenceIdeal.Read
public import Idealize.ShloMosaic.Lib.KernelVsHost
public import Idealize.ShloMosaic.Lib.Pipeline.Value

@[expose] public section

set_option maxRecDepth 16384

noncomputable section

namespace Cert.ReferenceIdeal.Attn

open Idealize.ShloMosaic
open Idealize.ShloMosaic.ValueIdx (ix1 ix2 ix3 ix4 ix5)
open Cert.ReferenceIdeal Cert.ReferenceIdeal.Gen Cert.ReferenceIdeal.Read Cert.Attn Cert.Attn.Gqa
open scoped BigOperators

variable (x0 : SQ.Idx → EReal) (x1 x2 : SK.Idx → EReal) (x3 x4 : SC.Idx → EReal)

/-- The joined keys (or values), read at a row. -/
theorem joined (x : SK.Idx → EReal) (z : SC.Idx → EReal) (b : Fin 8) (g : Fin 4) (p : Fin 4352) (k : Fin 128) :
    concatenate S8x4352x4x128 1 [⟨S8x4096x4x128, x⟩, ⟨S8x256x4x128, z⟩] concatenates_S8x4096x4x128_S8x256x4x128_S8x4352x4x128_d1 (ix4 b p g k)
      = keyAt x z b g p k := by
  unfold keyAt
  by_cases h : p.val < 4096
  · rw [dif_pos h]
    exact concatenate_pair_apply_left (t := S8x4352x4x128) 1 x z _ (ix4 b p g k) rfl (ix4 b ⟨p.val, h⟩ g k) (by intro a; fin_cases a <;> rfl)
  · rw [dif_neg h]
    refine concatenate_pair_apply_right (t := S8x4352x4x128) 1 x z _ (ix4 b p g k) rfl rfl (ix4 b ⟨p.val - 4096, by omega⟩ g k) ?_ ?_
    · intro a ha
      fin_cases a
      · rfl
      · exact absurd rfl ha
      · rfl
      · rfl
    · show p.val - 4096 + 4096 = p.val
      omega

section
variable (q0 : SQ.Idx → ℝ) (k0 : SK.Idx → ℝ) (c0 : SC.Idx → ℝ)
  (hq : ∀ i, x0 i = (q0 i : EReal)) (hk : ∀ i, x1 i = (k0 i : EReal)) (hc : ∀ i, x3 i = (c0 i : EReal))

include hk hc in
theorem keyAt_real (b : Fin 8) (g : Fin 4) (p : Fin 4352) (k : Fin 128) : keyAt x1 x3 b g p k = ((keyAt k0 c0 b g p k : ℝ) : EReal) := by
  unfold keyAt
  split_ifs
  · exact hk _
  · exact hc _

include hq hk hc in
/-- The scaled scores. -/
theorem scores (b : Fin 8) (g h : Fin 4) (i : Fin 4096) (p : Fin 4352) :
    val_main_v6 (F := Ideal) x0 x1 x3 (ix5 b g h i p) = (scoreAt q0 k0 c0 b g h i p : EReal) := by
  have e1 : val_main_v3 (F := Ideal) x0 x1 x3 (ix5 b g h i p) = ((∑ k : Fin 128, keyAt k0 c0 b g p k * q0 (ix5 b i g h k) : ℝ) : EReal) := by
    rw [val_main_v3_apply, val_main_v2_apply, coe_sum']
    refine Finset.sum_congr rfl fun k _ => ?_
    have el : lidx_main_v2 (idx_main_v3 (ix5 b g h i p)) k = ix4 b p g k := by funext a; fin_cases a <;> rfl
    have er : ridx_main_v2 (idx_main_v3 (ix5 b g h i p)) k = ix5 b i g h k := by funext a; fin_cases a <;> rfl
    rw [el, er, hq, EReal.coe_mul, ← keyAt_real x1 x3 k0 c0 hk hc]
    exact congrArg (· * _) (joined x1 x3 b g p k)
  have e2 : val_main_v5 (F := Ideal) (ix5 b g h i p) = (((Real.sqrt 128)⁻¹ : ℝ) : EReal) := by
    rw [val_main_v5_apply, val_main_v4_apply, val_main_cst_apply]
    show Ideal.rsqrt (Ideal.ofBits .f32 0x43000000#32) = _
    have : Ideal.ofBits .f32 0x43000000#32 = ((128 : ℝ) : EReal) := by simp [Ideal.ofBits, Ideal.ieee, -EReal.coe_mul]; norm_num
    rw [this, Ideal.rsqrt_coe, if_neg (by norm_num), if_neg (by norm_num)]
  rw [val_main_v6_apply, e1, e2, scoreAt, EReal.coe_mul]
  rfl

theorem red : S8x4x4x4096x4352.Reduces [4] S8x4x4x4096 := by decide

theorem lift4 (b : Fin 8) (g h : Fin 4) (i : Fin 4096) (p : Fin 4352) : red.lift (ix4 b g h i) p = ix5 b g h i p := by
  funext a
  apply Fin.ext
  fin_cases a <;> rfl

include hq hk hc in
/-- The largest score is a real. -/
theorem largest (b : Fin 8) (g h : Fin 4) (i : Fin 4096) : ∃ M : ℝ, val_main_v9 (F := Ideal) x0 x1 x3 (ix4 b g h i) = (M : EReal) := by
  have ninf : Ideal.ofBits .f32 0xFF800000#32 = ⊥ := by simp [Ideal.ofBits, Ideal.ieee]
  have e7 : ∃ M : ℝ, val_main_v7 (F := Ideal) x0 x1 x3 (ix4 b g h i) = (M : EReal) := by
    have e : val_main_v7 (F := Ideal) x0 x1 x3 = multiReduction (F := Ideal) (φ := .f32) .maximumf [4] S8x4x4x4096 (val_main_v6 (F := Ideal) x0 x1 x3) 0xFF800000#32 red (.inl rfl) rfl :=
      hostReduce_maximumf_eq_multiReduction (F := Ideal) (φ := .f32) (val_main_v6 (F := Ideal) x0 x1 x3) 0xFF800000#32 reducesTo_S8x4x4x4096x4352_S8x4x4x4096_d4 h_S_ red (.inl rfl) rfl
    rw [e]
    refine Eq.mpr (congrArg (fun y : EReal => ∃ x : ℝ, y = x) (Ideal.multiReduction_maximumf_single _ _ red (.inl rfl) rfl _)) ?_
    show ∃ x : ℝ, Finset.fold max (Ideal.ofBits .f32 0xFF800000#32) _ _ = x
    rw [ninf]
    refine fold_real (ι := Fin 4352) _ fun p => ⟨scoreAt q0 k0 c0 b g h i p, ?_⟩
    exact (congrArg (val_main_v6 (F := Ideal) x0 x1 x3) (lift4 b g h i p)).trans (scores x0 x1 x3 q0 k0 c0 hq hk hc b g h i p)
  obtain ⟨M, hM⟩ := e7
  refine ⟨M, ?_⟩
  rw [val_main_v9_apply, hM, val_main_v8_apply]
  show max (Ideal.ofBits .f32 0xFF800000#32) (M : EReal) = M
  rw [ninf]
  exact max_eq_right bot_le

include hq hk hc in
/-- The reference's result is the attention of the arguments. -/
theorem reference_result : val_main_v21 (F := Ideal) x0 x1 x2 x3 x4 = result q0 k0 c0 x2 x4 := by
  funext i
  have h0 : (i 0).val < 32768 := (i 0).isLt
  have h1 : (i 1).val < 2048 := (i 1).isLt
  have ei : idx_main_v19 (idx_main_v20 i) = ix5 (⟨(i 0).val / 4096, by omega⟩ : Fin 8) (⟨(i 1).val / 512, by omega⟩ : Fin 4)
      (⟨(i 1).val % 128, Nat.mod_lt _ (by decide)⟩ : Fin 128) (⟨(i 1).val / 128 % 4, Nat.mod_lt _ (by decide)⟩ : Fin 4) (⟨(i 0).val % 4096, Nat.mod_lt _ (by decide)⟩ : Fin 4096) := by
    funext a
    apply Fin.ext
    fin_cases a
    · show ((i 0).val * 2048 + (i 1).val) / 8388608 = (i 0).val / 4096
      omega
    · show ((i 0).val * 2048 + (i 1).val) / 512 % 4 = (i 1).val / 512
      omega
    · show ((i 0).val * 2048 + (i 1).val) % 128 = (i 1).val % 128
      omega
    · show ((i 0).val * 2048 + (i 1).val) / 128 % 4 = (i 1).val / 128 % 4
      omega
    · show ((i 0).val * 2048 + (i 1).val) / 2048 % 4096 = (i 0).val % 4096
      omega
  rw [val_main_v21_apply]
  show val_main_v20 (F := Ideal) x0 x1 x2 x3 x4 i = _
  rw [val_main_v20_apply, val_main_v19_apply, ei, val_main_v18_apply]
  unfold result
  generalize (⟨(i 0).val / 4096, _⟩ : Fin 8) = b
  generalize (⟨(i 1).val / 512, _⟩ : Fin 4) = g
  generalize (⟨(i 1).val / 128 % 4, _⟩ : Fin 4) = h
  generalize (⟨(i 0).val % 4096, _⟩ : Fin 4096) = r
  generalize (⟨(i 1).val % 128, _⟩ : Fin 128) = d
  obtain ⟨M, hM⟩ := largest x0 x1 x3 q0 k0 c0 hq hk hc b g h r
  have e13 : ∀ p : Fin 4352, val_main_v13 (F := Ideal) x0 x1 x3 (ix5 b g h r p) = (Real.exp (scoreAt q0 k0 c0 b g h r p - M) : EReal) := fun p => by
    have e11 : val_main_v11 (F := Ideal) x0 x1 x3 (ix5 b g h r p) = (M : EReal) := by
      rw [val_main_v11_apply, val_main_v10_apply, ← hM]
      exact congrArg _ (by funext a; fin_cases a <;> rfl)
    rw [val_main_v13_apply, val_main_v12_apply, e11, scores x0 x1 x3 q0 k0 c0 hq hk hc]
    show Ideal.exp ((scoreAt q0 k0 c0 b g h r p : EReal) - (M : EReal)) = _
    rw [← EReal.coe_sub]
    rfl
  have e16 : ∀ p : Fin 4352, val_main_v16 (F := Ideal) x0 x1 x3 (ix5 b g h r p) = ∑ j : Fin 4352, (Real.exp (scoreAt q0 k0 c0 b g h r j - M) : EReal) := fun p => by
    rw [val_main_v16_apply, val_main_v15_apply, val_main_v14_apply, val_main_cst_2_apply]
    show Ideal.ofBits .f32 0x00000000#32 + _ = _
    rw [show Ideal.ofBits .f32 0x00000000#32 = 0 by simp [Ideal.ofBits, Ideal.ieee], zero_add]
    refine Finset.sum_congr rfl fun j _ => ?_
    rw [← e13 j]
    exact congrArg _ (by funext a; fin_cases a <;> rfl)
  rw [target, ← soft_early _ _ M]
  refine Finset.sum_congr rfl fun p _ => ?_
  have el : lidx_main_v18 (ix5 b g d h r) p = ix4 b p g d := by funext a; fin_cases a <;> rfl
  have er : ridx_main_v18 (ix5 b g d h r) p = ix5 b g h r p := by funext a; fin_cases a <;> rfl
  have e1 : val_main_v1 (F := Ideal) x2 x4 (ix4 b p g d) = keyAt x2 x4 b g p d := joined x2 x4 b g p d
  rw [el, er, e1, val_main_v17_apply, e13, e16, Ideal.hostDivf_def]
end

end Cert.ReferenceIdeal.Attn

end
-- ==== Proof.Attn.Finite.lean ====
/- An ideal value whose magnitude is below infinity is a real number. -/
module

public import Idealize.ShloMosaic.PureOps.Ideal
public import Idealize.ShloMosaic.Lib.ReduceAll
public import Idealize.ShloMosaic.Lib.WordCmp

@[expose] public section

noncomputable section

namespace Cert.Attn

open Idealize.ShloMosaic

theorem inf_word : Ideal.ofBits .f32 0x7F800000#32 = ⊤ := by simp [Ideal.ofBits, Ideal.ieee]

/-- A value whose magnitude compares below infinity is the real number it reads as. -/
theorem real_of_below (x : EReal) (h : Ideal.cmp .olt (max x (-x)) (Ideal.ofBits .f32 0x7F800000#32) = 1#1) : x = (x.toReal : EReal) := by
  rw [inf_word] at h
  have h' : max x (-x) < ⊤ := by
    by_contra hn
    simp [Ideal.cmp, hn] at h
  have ht : x ≠ ⊤ := fun e => by simp [e] at h'
  have hb : x ≠ ⊥ := fun e => by simp [e] at h'
  exact (EReal.coe_toReal ht hb).symm

/-- A conjunction that is one has both sides one. -/
theorem both (x y : BitVec 1) (h : IntOp.andi x y = 1#1) : x = 1#1 ∧ y = 1#1 := by
  revert x y; decide

end Cert.Attn

end
-- ==== Proof.Gqa.Claims.lean ====
/- The grouped attention: the frames of its reference, and that the kernel computes the reference's value. -/
module

public import proofs.«01_k».proof.Proof.Gqa.Frames
public import proofs.«01_k».proof.Proof.Gqa.Value
public import proofs.«01_k».proof.Proof.Gqa.Ref
public import proofs.«01_k».proof.Proof.Attn.Finite
public import proofs.«01_k».proof.Proof.Gen.ReferenceIdeal.Run
public import proofs.«01_k».proof.Proof.Gen.Pre_finite_scores

@[expose] public section

set_option maxRecDepth 16384

noncomputable section

namespace Cert.KernelIdeal.Attn

open Idealize.ShloMosaic Idealize.SL.Sem Cert.Attn

/-- The reference ends with its arguments unchanged and no counter raised. -/
theorem reference_quiescent : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run m ρ)

/-- So it does of finite scores. -/
theorem reference_quiescent_pre : Cert.quiescent_ReferenceIdeal_pre_finite_scores (hReferenceIdeal := Cert.ReferenceIdeal.Gen.facts) (hPre_finite_scores := Cert.Pre_finite_scores.Gen.facts) := fun m ρ _ =>
  reference_quiescent m ρ trivial

/-- And so does the idealized kernel. -/
theorem ideal_quiescent_pre : Cert.quiescent_KernelIdeal_pre_finite_scores (hKernelIdeal := Cert.KernelIdeal.Gen.facts) (hPre_finite_scores := Cert.Pre_finite_scores.Gen.facts) := fun m ρ _ =>
  ideal_quiescent m ρ trivial

/-- The precondition's three arrays, each of real numbers. -/
theorem reals (x0 : Gqa.SQ.Idx → EReal) (x1 : Gqa.SK.Idx → EReal) (x2 : Gqa.SK.Idx → EReal) (x3 : Gqa.SC.Idx → EReal) (x4 : Gqa.SC.Idx → EReal)
    (h : @Cert.Pre_finite_scores.fn Cert.Pre_finite_scores.Gen.facts Ideal _ x0 x1 x2 x3 x4 = fun _ => 1#1) :
    (∀ i, x0 i = ((x0 i).toReal : EReal)) ∧ (∀ i, x1 i = ((x1 i).toReal : EReal)) ∧ ∀ i, x3 i = ((x3 i).toReal : EReal) := by
  have hs : Subsingleton Cert.Pre_finite_scores.S_.Idx := ⟨fun a b => funext fun k => k.elim0⟩
  have h0 := congrFun h fun k => k.elim0
  obtain ⟨h01, h3⟩ := both _ _ h0
  obtain ⟨h0, h1⟩ := both _ _ h01
  exact ⟨fun i => real_of_below _ (Host.reduce_andi_all _ _ _ _ _ h0 i), fun i => real_of_below _ (Host.reduce_andi_all _ _ _ _ _ h1 i),
    fun i => real_of_below _ (Host.reduce_andi_all _ _ _ _ _ h3 i)⟩

/-- The kernel and its reference end with one value, of finite scores. -/
theorem same_value : Cert.algebraic_KernelIdeal_ReferenceIdeal_pre_finite_scores (hKernelIdeal := Cert.KernelIdeal.Gen.facts) (hReferenceIdeal := Cert.ReferenceIdeal.Gen.facts) (hPre_finite_scores := Cert.Pre_finite_scores.Gen.facts) := by
  intro m ρ m' ρ' hpre hargs
  refine ⟨fun c => Cert.Attn.Gqa.result (fun i => (a0 m c i).toReal) (fun i => (a1 m c i).toReal) (fun i => (a3 m c i).toReal) (a2 m c) (a4 m c), ?_, ?_⟩
  · refine (θ_run (Cert.KernelIdeal.defs (F := Ideal)) _ _).mono (fun _ h c => ⟨(h c).1.trans ?_, (h c).2⟩) (value_run m ρ)
    obtain ⟨hq, hk, hc⟩ := reals _ _ _ _ _ (hpre c)
    exact final m c _ _ _ hq hk hc
  · refine (θ_run (Cert.ReferenceIdeal.defs (F := Ideal)) _ _).mono (fun _ h c => ⟨(h c).1.trans ?_, (h c).2⟩) (Cert.ReferenceIdeal.Value.run m' ρ')
    obtain ⟨hq, hk, hc⟩ := reals _ _ _ _ _ (hpre c)
    obtain ⟨e0, e1, e2, e3, e4⟩ := hargs c
    refine (Cert.ReferenceIdeal.Read.val_main_v21_eq _ _ _ _ _).trans ?_
    rw [e0, e1, e2, e3, e4]
    exact Cert.ReferenceIdeal.Attn.reference_result _ _ _ _ _ _ _ _ hq hk hc

/-- The named constant keeps its bits. -/
theorem constant_kept : Cert.preserves_Kernel_KernelIdeal :=
  IdealRules.named_const.statement Cert.KernelIdeal.κ "scale_log2e" .f32 0x3E0293EE#32 (((Real.sqrt 128)⁻¹ * (Real.log 2)⁻¹ : ℝ) : EReal) rfl

end Cert.KernelIdeal.Attn

end
-- ==== Proof.Mla.Run.lean ====
/- One trip of the latent attention kernel: what it yields and what it stores. -/
module

public import proofs.«01_k».proof.Proof.Gen.Kernel2Ideal.Skeleton
public import proofs.«01_k».proof.Proof.Gen.Kernel2Ideal.Frame
public import proofs.«01_k».proof.Proof.Attn.Form
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen Cert.Attn

variable {F : FTy → Type} [FloatOps F] [Named F]

local notation "𝕄" => MT nD τ sig Unit (Elt F) ℕ (UR sig nD τ) ℕ

/-- The scores of a block of queries against a piece of keys. -/
def score (q : Vec F S256x512 .f32) (kv : Vec F S256x256 .bf16) : FVec F S256x512 .f32 :=
  matmul dot_S256x256_S256x512_S256x512_1_0_0_1_n_n none (shapeCast S256x256 kv shapeCasts_S256x256_S256x256) (k0_pay2 q)
    (constant S256x512 .f32 0x00000000#32)

section

variable (arg2 : Memref sig .tc .vmem S512x4096 .f32) (arg3 : Memref sig .tc .vmem S4096x512 .bf16)
  (arg4 : Memref sig .tc .vmem S256x4096 .bf16) (arg5 : Memref sig .tc .vmem S256x512 .bf16)
  (arg6 : Memref sig .tc .vmem S256x256 .bf16) (arg7 : Memref sig .tc .vmem S4096x256 .bf16)
  (arg8 : Memref sig .tc .vmem S4352x512 .f32) (arg9 : Memref sig .tc .vmem S4352x512 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (f7 : BufTy.Contents (Elt F) arg7.view.ty) (f8 : BufTy.Contents (Elt F) arg8.view.ty) (f9 : BufTy.Contents (Elt F) arg9.view.ty)

/-- The block of queries read at an offset, and a piece of the keys or of the values. -/
def rdq (off : Fin 2 → ℕ) (inb : ∀ a, off a + S256x512.size a ≤ S512x4096.size a) : Vec F S256x512 .f32 :=
  View.readAt (Elt F) arg2.view (Rect.unit (s := S512x4096) off S256x512.size inb).toLoadRect X2
def rdk (off : Fin 2 → ℕ) (inb : ∀ a, off a + S256x256.size a ≤ S4096x512.size a) : Vec F S256x256 .bf16 :=
  View.readAt (Elt F) arg3.view (Rect.unit (s := S4096x512) off S256x256.size inb).toLoadRect X3
def rdv (off : Fin 2 → ℕ) (inb : ∀ a, off a + S128x256.size a ≤ S256x4096.size a) : Vec F S128x256 .bf16 :=
  View.readAt (Elt F) arg4.view (Rect.unit (s := S256x4096) off S128x256.size inb).toLoadRect X4
def rdkc (off : Fin 2 → ℕ) (inb : ∀ a, off a + S256x256.size a ≤ S256x512.size a) : Vec F S256x256 .bf16 :=
  View.readAt (Elt F) arg5.view (Rect.unit (s := S256x512) off S256x256.size inb).toLoadRect X5
def rdvc (off : Fin 2 → ℕ) (inb : ∀ a, off a + S128x256.size a ≤ S256x256.size a) : Vec F S128x256 .bf16 :=
  View.readAt (Elt F) arg6.view (Rect.unit (s := S256x256) off S128x256.size inb).toLoadRect X6

theorem hslot (c : ℕ) (hc : c < 17) : ∀ a, (![256 * c, 0] : Fin 2 → ℕ) a + S256x512.size a ≤ S4352x512.size a := by
  intro a; fin_cases a
  · show 256 * c + 256 ≤ 4352; omega
  · show 0 + 512 ≤ 512; omega

/-- The seventeen pieces a stage stores into a slot, the last first. -/
def slotL (S : ℕ → FVec F S256x512 .f32) : List (View.Piece (Elt F) S4352x512 .f32) :=
  [⟨Rect.unit (s := S4352x512) ![4096, 0] S256x512.size (hslot 16 (by decide)), shapeCast S256x512 (S 16) shapeCasts_S256x512_S256x512⟩,
   ⟨Rect.unit (s := S4352x512) ![3840, 0] S256x512.size (hslot 15 (by decide)), shapeCast S256x512 (S 15) shapeCasts_S256x512_S256x512⟩,
   ⟨Rect.unit (s := S4352x512) ![3584, 0] S256x512.size (hslot 14 (by decide)), shapeCast S256x512 (S 14) shapeCasts_S256x512_S256x512⟩,
   ⟨Rect.unit (s := S4352x512) ![3328, 0] S256x512.size (hslot 13 (by decide)), shapeCast S256x512 (S 13) shapeCasts_S256x512_S256x512⟩,
   ⟨Rect.unit (s := S4352x512) ![3072, 0] S256x512.size (hslot 12 (by decide)), shapeCast S256x512 (S 12) shapeCasts_S256x512_S256x512⟩,
   ⟨Rect.unit (s := S4352x512) ![2816, 0] S256x512.size (hslot 11 (by decide)), shapeCast S256x512 (S 11) shapeCasts_S256x512_S256x512⟩,
   ⟨Rect.unit (s := S4352x512) ![2560, 0] S256x512.size (hslot 10 (by decide)), shapeCast S256x512 (S 10) shapeCasts_S256x512_S256x512⟩,
   ⟨Rect.unit (s := S4352x512) ![2304, 0] S256x512.size (hslot 9 (by decide)), shapeCast S256x512 (S 9) shapeCasts_S256x512_S256x512⟩,
   ⟨Rect.unit (s := S4352x512) ![2048, 0] S256x512.size (hslot 8 (by decide)), shapeCast S256x512 (S 8) shapeCasts_S256x512_S256x512⟩,
   ⟨Rect.unit (s := S4352x512) ![1792, 0] S256x512.size (hslot 7 (by decide)), shapeCast S256x512 (S 7) shapeCasts_S256x512_S256x512⟩,
   ⟨Rect.unit (s := S4352x512) ![1536, 0] S256x512.size (hslot 6 (by decide)), shapeCast S256x512 (S 6) shapeCasts_S256x512_S256x512⟩,
   ⟨Rect.unit (s := S4352x512) ![1280, 0] S256x512.size (hslot 5 (by decide)), shapeCast S256x512 (S 5) shapeCasts_S256x512_S256x512⟩,
   ⟨Rect.unit (s := S4352x512) ![1024, 0] S256x512.size (hslot 4 (by decide)), shapeCast S256x512 (S 4) shapeCasts_S256x512_S256x512⟩,
   ⟨Rect.unit (s := S4352x512) ![768, 0] S256x512.size (hslot 3 (by decide)), shapeCast S256x512 (S 3) shapeCasts_S256x512_S256x512⟩,
   ⟨Rect.unit (s := S4352x512) ![512, 0] S256x512.size (hslot 2 (by decide)), shapeCast S256x512 (S 2) shapeCasts_S256x512_S256x512⟩,
   ⟨Rect.unit (s := S4352x512) ![256, 0] S256x512.size (hslot 1 (by decide)), shapeCast S256x512 (S 1) shapeCasts_S256x512_S256x512⟩,
   ⟨Rect.unit (s := S4352x512) ![0, 0] S256x512.size (hslot 0 (by decide)), shapeCast S256x512 (S 0) shapeCasts_S256x512_S256x512⟩]

/-- A slot's pieces read out of a buffer's contents. -/
def rd8 (c : ℕ) : FVec F S256x512 .f32 :=
  if h : c < 17 then View.readAt (Elt F) arg8.view (Rect.unit (s := S4352x512) ![256 * c, 0] S256x512.size (hslot c h)).toLoadRect f8
  else constant S256x512 .f32 0x00000000#32
/-- A slot's pieces read out of what a list of stores leaves. -/
def rdL8 (L : List (View.Piece (Elt F) S4352x512 .f32)) (c : ℕ) : FVec F S256x512 .f32 :=
  if h : c < 17 then arg8.view.readCov L (Rect.unit (s := S4352x512) ![256 * c, 0] S256x512.size (hslot c h)).toLoadRect
  else constant S256x512 .f32 0x00000000#32
def rdL9 (L : List (View.Piece (Elt F) S4352x512 .f32)) (c : ℕ) : FVec F S256x512 .f32 :=
  if h : c < 17 then arg9.view.readCov L (Rect.unit (s := S4352x512) ![256 * c, 0] S256x512.size (hslot c h)).toLoadRect
  else constant S256x512 .f32 0x00000000#32

end

/-- The scores of stage `d + 1`'s own block of queries, as the trip reads them. -/
def rawS (arg2 : Memref sig .tc .vmem S512x4096 .f32) (arg3 : Memref sig .tc .vmem S4096x512 .bf16) (arg5 : Memref sig .tc .vmem S256x512 .bf16)
    (X2 : BufTy.Contents (Elt F) arg2.view.ty) (X3 : BufTy.Contents (Elt F) arg3.view.ty) (X5 : BufTy.Contents (Elt F) arg5.view.ty) (k : Fin k0_t1_loop.trips) (d : Fin 4) : ℕ → FVec F S256x512 .f32
  | 0 => score (rdq arg2 X2 (k0_off1 k (BitVec.ofNat 32 (1 + d.val))) (k0_off1_inb k d)) (rdk arg3 X3 (k0_off2 k (BitVec.ofNat 32 (1 + d.val))) (k0_off2_inb k d))
  | 1 => score (rdq arg2 X2 (k0_off1 k (BitVec.ofNat 32 (1 + d.val))) (k0_off1_inb k d)) (rdk arg3 X3 (k0_off3 k (BitVec.ofNat 32 (1 + d.val))) (k0_off3_inb k d))
  | 2 => score (rdq arg2 X2 (k0_off1 k (BitVec.ofNat 32 (1 + d.val))) (k0_off1_inb k d)) (rdk arg3 X3 (k0_off5 k (BitVec.ofNat 32 (1 + d.val))) (k0_off5_inb k d))
  | 3 => score (rdq arg2 X2 (k0_off1 k (BitVec.ofNat 32 (1 + d.val))) (k0_off1_inb k d)) (rdk arg3 X3 (k0_off7 k (BitVec.ofNat 32 (1 + d.val))) (k0_off7_inb k d))
  | 4 => score (rdq arg2 X2 (k0_off1 k (BitVec.ofNat 32 (1 + d.val))) (k0_off1_inb k d)) (rdk arg3 X3 (k0_off9 k (BitVec.ofNat 32 (1 + d.val))) (k0_off9_inb k d))
  | 5 => score (rdq arg2 X2 (k0_off1 k (BitVec.ofNat 32 (1 + d.val))) (k0_off1_inb k d)) (rdk arg3 X3 (k0_off11 k (BitVec.ofNat 32 (1 + d.val))) (k0_off11_inb k d))
  | 6 => score (rdq arg2 X2 (k0_off1 k (BitVec.ofNat 32 (1 + d.val))) (k0_off1_inb k d)) (rdk arg3 X3 (k0_off13 k (BitVec.ofNat 32 (1 + d.val))) (k0_off13_inb k d))
  | 7 => score (rdq arg2 X2 (k0_off1 k (BitVec.ofNat 32 (1 + d.val))) (k0_off1_inb k d)) (rdk arg3 X3 (k0_off15 k (BitVec.ofNat 32 (1 + d.val))) (k0_off15_inb k d))
  | 8 => score (rdq arg2 X2 (k0_off1 k (BitVec.ofNat 32 (1 + d.val))) (k0_off1_inb k d)) (rdk arg3 X3 (k0_off17 k (BitVec.ofNat 32 (1 + d.val))) (k0_off17_inb k d))
  | 9 => score (rdq arg2 X2 (k0_off1 k (BitVec.ofNat 32 (1 + d.val))) (k0_off1_inb k d)) (rdk arg3 X3 (k0_off19 k (BitVec.ofNat 32 (1 + d.val))) (k0_off19_inb k d))
  | 10 => score (rdq arg2 X2 (k0_off1 k (BitVec.ofNat 32 (1 + d.val))) (k0_off1_inb k d)) (rdk arg3 X3 (k0_off21 k (BitVec.ofNat 32 (1 + d.val))) (k0_off21_inb k d))
  | 11 => score (rdq arg2 X2 (k0_off1 k (BitVec.ofNat 32 (1 + d.val))) (k0_off1_inb k d)) (rdk arg3 X3 (k0_off23 k (BitVec.ofNat 32 (1 + d.val))) (k0_off23_inb k d))
  | 12 => score (rdq arg2 X2 (k0_off1 k (BitVec.ofNat 32 (1 + d.val))) (k0_off1_inb k d)) (rdk arg3 X3 (k0_off25 k (BitVec.ofNat 32 (1 + d.val))) (k0_off25_inb k d))
  | 13 => score (rdq arg2 X2 (k0_off1 k (BitVec.ofNat 32 (1 + d.val))) (k0_off1_inb k d)) (rdk arg3 X3 (k0_off27 k (BitVec.ofNat 32 (1 + d.val))) (k0_off27_inb k d))
  | 14 => score (rdq arg2 X2 (k0_off1 k (BitVec.ofNat 32 (1 + d.val))) (k0_off1_inb k d)) (rdk arg3 X3 (k0_off29 k (BitVec.ofNat 32 (1 + d.val))) (k0_off29_inb k d))
  | 15 => score (rdq arg2 X2 (k0_off1 k (BitVec.ofNat 32 (1 + d.val))) (k0_off1_inb k d)) (rdk arg3 X3 (k0_off31 k (BitVec.ofNat 32 (1 + d.val))) (k0_off31_inb k d))
  | _ => score (rdq arg2 X2 (k0_off1 k (BitVec.ofNat 32 (1 + d.val))) (k0_off1_inb k d)) (rdkc arg5 X5 (k0_off33 k (BitVec.ofNat 32 (1 + d.val))) (k0_off33_inb k d))

/-- The values of the first stage's block, of the trip before. -/
def rawV1 (arg4 : Memref sig .tc .vmem S256x4096 .bf16) (arg6 : Memref sig .tc .vmem S256x256 .bf16)
    (X4 : BufTy.Contents (Elt F) arg4.view.ty) (X6 : BufTy.Contents (Elt F) arg6.view.ty) (k : Fin k0_t1_loop.trips) : ℕ → FVec F S128x256 .bf16
  | 0 => rdv arg4 X4 (k0_off4 k) (k0_off4_inb k)
  | 1 => rdv arg4 X4 (k0_off6 k) (k0_off6_inb k)
  | 2 => rdv arg4 X4 (k0_off8 k) (k0_off8_inb k)
  | 3 => rdv arg4 X4 (k0_off10 k) (k0_off10_inb k)
  | 4 => rdv arg4 X4 (k0_off12 k) (k0_off12_inb k)
  | 5 => rdv arg4 X4 (k0_off14 k) (k0_off14_inb k)
  | 6 => rdv arg4 X4 (k0_off16 k) (k0_off16_inb k)
  | 7 => rdv arg4 X4 (k0_off18 k) (k0_off18_inb k)
  | 8 => rdv arg4 X4 (k0_off20 k) (k0_off20_inb k)
  | 9 => rdv arg4 X4 (k0_off22 k) (k0_off22_inb k)
  | 10 => rdv arg4 X4 (k0_off24 k) (k0_off24_inb k)
  | 11 => rdv arg4 X4 (k0_off26 k) (k0_off26_inb k)
  | 12 => rdv arg4 X4 (k0_off28 k) (k0_off28_inb k)
  | 13 => rdv arg4 X4 (k0_off30 k) (k0_off30_inb k)
  | 14 => rdv arg4 X4 (k0_off32 k) (k0_off32_inb k)
  | 15 => rdv arg4 X4 (k0_off34 k) (k0_off34_inb k)
  | _ => rdvc arg6 X6 (k0_off35 k) (k0_off35_inb k)

/-- The values of stage `d + 2`'s block, the one stage `d + 1` scored. -/
def rawV (arg4 : Memref sig .tc .vmem S256x4096 .bf16) (arg6 : Memref sig .tc .vmem S256x256 .bf16)
    (X4 : BufTy.Contents (Elt F) arg4.view.ty) (X6 : BufTy.Contents (Elt F) arg6.view.ty) (k : Fin k0_t1_loop.trips) (d : Fin 3) : ℕ → FVec F S128x256 .bf16
  | 0 => rdv arg4 X4 (k0_off37 k (BitVec.ofNat 32 (1 + d.val))) (k0_off37_inb k d)
  | 1 => rdv arg4 X4 (k0_off38 k (BitVec.ofNat 32 (1 + d.val))) (k0_off38_inb k d)
  | 2 => rdv arg4 X4 (k0_off39 k (BitVec.ofNat 32 (1 + d.val))) (k0_off39_inb k d)
  | 3 => rdv arg4 X4 (k0_off40 k (BitVec.ofNat 32 (1 + d.val))) (k0_off40_inb k d)
  | 4 => rdv arg4 X4 (k0_off41 k (BitVec.ofNat 32 (1 + d.val))) (k0_off41_inb k d)
  | 5 => rdv arg4 X4 (k0_off42 k (BitVec.ofNat 32 (1 + d.val))) (k0_off42_inb k d)
  | 6 => rdv arg4 X4 (k0_off43 k (BitVec.ofNat 32 (1 + d.val))) (k0_off43_inb k d)
  | 7 => rdv arg4 X4 (k0_off44 k (BitVec.ofNat 32 (1 + d.val))) (k0_off44_inb k d)
  | 8 => rdv arg4 X4 (k0_off45 k (BitVec.ofNat 32 (1 + d.val))) (k0_off45_inb k d)
  | 9 => rdv arg4 X4 (k0_off46 k (BitVec.ofNat 32 (1 + d.val))) (k0_off46_inb k d)
  | 10 => rdv arg4 X4 (k0_off47 k (BitVec.ofNat 32 (1 + d.val))) (k0_off47_inb k d)
  | 11 => rdv arg4 X4 (k0_off48 k (BitVec.ofNat 32 (1 + d.val))) (k0_off48_inb k d)
  | 12 => rdv arg4 X4 (k0_off49 k (BitVec.ofNat 32 (1 + d.val))) (k0_off49_inb k d)
  | 13 => rdv arg4 X4 (k0_off50 k (BitVec.ofNat 32 (1 + d.val))) (k0_off50_inb k d)
  | 14 => rdv arg4 X4 (k0_off51 k (BitVec.ofNat 32 (1 + d.val))) (k0_off51_inb k d)
  | 15 => rdv arg4 X4 (k0_off52 k (BitVec.ofNat 32 (1 + d.val))) (k0_off52_inb k d)
  | _ => rdvc arg6 X6 (k0_off53 k (BitVec.ofNat 32 (1 + d.val))) (k0_off53_inb k d)

/-- What a trip needs: the five inputs at their contents, the output block and the two slots at any. -/
abbrev Res (cd : Dev nD) (arg2 : Memref sig .tc .vmem S512x4096 .f32) (arg3 : Memref sig .tc .vmem S4096x512 .bf16)
    (arg4 : Memref sig .tc .vmem S256x4096 .bf16) (arg5 : Memref sig .tc .vmem S256x512 .bf16)
    (arg6 : Memref sig .tc .vmem S256x256 .bf16) (arg7 : Memref sig .tc .vmem S4096x256 .bf16)
    (arg8 : Memref sig .tc .vmem S4352x512 .f32) (arg9 : Memref sig .tc .vmem S4352x512 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (f7 : BufTy.Contents (Elt F) arg7.view.ty) (f8 : BufTy.Contents (Elt F) arg8.view.ty) (f9 : BufTy.Contents (Elt F) arg9.view.ty) : sProp 𝕄 :=
  iprop((arg2.view.loc (cd : Thread nD τ) ↦[arg2.view.set]{fullShare} X2) ∗ (arg3.view.loc (cd : Thread nD τ) ↦[arg3.view.set]{fullShare} X3) ∗ (arg4.view.loc (cd : Thread nD τ) ↦[arg4.view.set]{fullShare} X4) ∗ (arg5.view.loc (cd : Thread nD τ) ↦[arg5.view.set]{fullShare} X5) ∗ (arg6.view.loc (cd : Thread nD τ) ↦[arg6.view.set]{fullShare} X6) ∗ (arg7.view.loc (cd : Thread nD τ) ↦[arg7.view.set]{fullShare} f7) ∗ (arg8.view.loc (cd : Thread nD τ) ↦[arg8.view.set]{fullShare} f8) ∗ (arg9.view.loc (cd : Thread nD τ) ↦[arg9.view.set]{fullShare} f9))

/-- One trip run at a symbolic trip number and carried maximum: its yield and the pieces it stores into the output block
    and the two slots are what the run finds. -/
def trip (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (v5 : FVec F S256x512 .bf16) (v131 : FVec F S8x512 .f32) (v133 : FVec F S256x256 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips) :
    Σ' (R : (FVec F S1x512 .f32 → BufTy.Contents (Elt F) arg7.view.ty → BufTy.Contents (Elt F) arg8.view.ty → BufTy.Contents (Elt F) arg9.view.ty →  FVec F S1x512 .f32)) (L7 : (FVec F S1x512 .f32 → BufTy.Contents (Elt F) arg7.view.ty → BufTy.Contents (Elt F) arg8.view.ty → BufTy.Contents (Elt F) arg9.view.ty →  List (View.Piece (Elt F) S4096x256 .bf16)))
      (L8 : (FVec F S1x512 .f32 → BufTy.Contents (Elt F) arg7.view.ty → BufTy.Contents (Elt F) arg8.view.ty → BufTy.Contents (Elt F) arg9.view.ty →  List (View.Piece (Elt F) S4352x512 .f32))), { L9 : (FVec F S1x512 .f32 → BufTy.Contents (Elt F) arg7.view.ty → BufTy.Contents (Elt F) arg8.view.ty → BufTy.Contents (Elt F) arg9.view.ty →  List (View.Piece (Elt F) S4352x512 .f32)) //
      ∀ (E : Set ℕ) (m : FVec F S1x512 .f32) (f7 : BufTy.Contents (Elt F) arg7.view.ty) (f8 : BufTy.Contents (Elt F) arg8.view.ty) (f9 : BufTy.Contents (Elt F) arg9.view.ty),
        Res (F := F) cd arg2 arg3 arg4 arg5 arg6 arg7 arg8 arg9 X2 X3 X4 X5 X6 f7 f8 f9
        ⊢ wp frame (wpE (defs₀ (F := F)) 𝒱 (cd : Thread nD τ) bd) E (k0_t1_body (F := F) i arg2 harg2 arg3 harg3 arg4 harg4 arg5 harg5 arg6 harg6 arg7 harg7 arg8 harg8 arg9 harg9 v5 v131 v133 k m)
            (fun y => iprop(⌜y = R m f7 f8 f9⌝ ∗ Res (F := F) cd arg2 arg3 arg4 arg5 arg6 arg7 arg8 arg9 X2 X3 X4 X5 X6 (arg7.view.writes (Elt F) f7 (L7 m f7 f8 f9)) (arg8.view.writes (Elt F) f8 (L8 m f7 f8 f9)) (arg9.view.writes (Elt F) f9 (L9 m f7 f8 f9)))) } := by
  have hk : k.val < 3 := Nat.lt_of_lt_of_le k.isLt k0_t1_abs.2.1
  refine ⟨?_, ?_, ?_, ?_, fun E m f7 f8 f9 => ?run⟩
  case run =>
    unfold k0_t1_body
    iintro ⟨H2, H3, H4, H5, H6, H7, H8, H9⟩
    sl_exec
    sl_step
    sl_close

section
variable (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (v5 : FVec F S256x512 .bf16) (v131 : FVec F S8x512 .f32) (v133 : FVec F S256x256 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips)
variable (m : FVec F S1x512 .f32) (f7 : BufTy.Contents (Elt F) arg7.view.ty) (f8 : BufTy.Contents (Elt F) arg8.view.ty) (f9 : BufTy.Contents (Elt F) arg9.view.ty)

/-- The trip yields the maximum of its last block's scores; -/
theorem trip_R : (trip 𝒱 cd bd i arg2 harg2 arg3 harg3 arg4 harg4 arg5 harg5 arg6 harg6 arg7 harg7 arg8 harg8 arg9 harg9 v5 v131 v133 X2 X3 X4 X5 X6 k).1 m f7 f8 f9 = mx (rawS arg2 arg3 arg5 X2 X3 X5 k 3) := rfl

/-- its odd stages store their scores into the second slot, -/
theorem trip_L9 : (trip 𝒱 cd bd i arg2 harg2 arg3 harg3 arg4 harg4 arg5 harg5 arg6 harg6 arg7 harg7 arg8 harg8 arg9 harg9 v5 v131 v133 X2 X3 X4 X5 X6 k).2.2.2.1 m f7 f8 f9 = slotL (rawS arg2 arg3 arg5 X2 X3 X5 k 2) ++ slotL (rawS arg2 arg3 arg5 X2 X3 X5 k 0) := rfl

/-- its even stages into the first, -/
theorem trip_L8 : (trip 𝒱 cd bd i arg2 harg2 arg3 harg3 arg4 harg4 arg5 harg5 arg6 harg6 arg7 harg7 arg8 harg8 arg9 harg9 v5 v131 v133 X2 X3 X4 X5 X6 k).2.2.1 m f7 f8 f9 = slotL (rawS arg2 arg3 arg5 X2 X3 X5 k 3) ++ slotL (rawS arg2 arg3 arg5 X2 X3 X5 k 1) := rfl

end

end Cert.Kernel2Ideal.Attn

end
-- ==== Proof.Mla.Body.lean ====
/- The body of the latent attention kernel over an invariant of its loop. -/
module

public import proofs.«01_k».proof.Proof.Mla.Run

@[expose] public section

set_option maxRecDepth 16384
set_option maxHeartbeats 400000

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen Cert.Attn

variable {F : FTy → Type} [FloatOps F] [Named F]

local notation "𝕄" => MT nD τ sig Unit (Elt F) ℕ (UR sig nD τ) ℕ

/-- Where block `t` of the queries, its keys, its values and its results lie. -/
theorem hq (t : ℕ) : ∀ a, (![256 * (t / 8 % 2), 512 * (t % 8)] : Fin 2 → ℕ) a + S256x512.size a ≤ S512x4096.size a := by
  intro a; fin_cases a
  · show 256 * (t / 8 % 2) + 256 ≤ 512; omega
  · show 512 * (t % 8) + 512 ≤ 4096; omega
theorem hk (t c : ℕ) (hc : c < 16) : ∀ a, (![256 * c, 256 * (t / 8 % 2)] : Fin 2 → ℕ) a + S256x256.size a ≤ S4096x512.size a := by
  intro a; fin_cases a
  · show 256 * c + 256 ≤ 4096; omega
  · show 256 * (t / 8 % 2) + 256 ≤ 512; omega
theorem hkc (t : ℕ) : ∀ a, (![0, 256 * (t / 8 % 2)] : Fin 2 → ℕ) a + S256x256.size a ≤ S256x512.size a := by
  intro a; fin_cases a
  · show 0 + 256 ≤ 256; omega
  · show 256 * (t / 8 % 2) + 256 ≤ 512; omega
theorem hv (t c : ℕ) (hc : c < 16) : ∀ a, (![128 * (t / 8 % 2), 256 * c] : Fin 2 → ℕ) a + S128x256.size a ≤ S256x4096.size a := by
  intro a; fin_cases a
  · show 128 * (t / 8 % 2) + 128 ≤ 256; omega
  · show 256 * c + 256 ≤ 4096; omega
theorem hvc (t : ℕ) : ∀ a, (![128 * (t / 8 % 2), 0] : Fin 2 → ℕ) a + S128x256.size a ≤ S256x256.size a := by
  intro a; fin_cases a
  · show 128 * (t / 8 % 2) + 128 ≤ 256; omega
  · show 0 + 256 ≤ 256; omega
theorem ho (t : ℕ) : ∀ a, (![512 * (t % 8), 128 * (t / 8 % 2)] : Fin 2 → ℕ) a + S512x128.size a ≤ S4096x256.size a := by
  intro a; fin_cases a
  · show 512 * (t % 8) + 512 ≤ 4096; omega
  · show 128 * (t / 8 % 2) + 128 ≤ 256; omega

/-- Block `t`'s scores, piece by piece. -/
def sc (arg2 : Memref sig .tc .vmem S512x4096 .f32) (arg3 : Memref sig .tc .vmem S4096x512 .bf16) (arg5 : Memref sig .tc .vmem S256x512 .bf16)
    (X2 : BufTy.Contents (Elt F) arg2.view.ty) (X3 : BufTy.Contents (Elt F) arg3.view.ty) (X5 : BufTy.Contents (Elt F) arg5.view.ty) (t c : ℕ) : FVec F S256x512 .f32 :=
  score (rdq arg2 X2 ![256 * (t / 8 % 2), 512 * (t % 8)] (hq t))
    (if h : c < 16 then rdk arg3 X3 ![256 * c, 256 * (t / 8 % 2)] (hk t c h) else rdkc arg5 X5 ![0, 256 * (t / 8 % 2)] (hkc t))

/-- Block `t`'s values, piece by piece. -/
def vl (arg4 : Memref sig .tc .vmem S256x4096 .bf16) (arg6 : Memref sig .tc .vmem S256x256 .bf16)
    (X4 : BufTy.Contents (Elt F) arg4.view.ty) (X6 : BufTy.Contents (Elt F) arg6.view.ty) (t c : ℕ) : FVec F S128x256 .bf16 :=
  if h : c < 16 then rdv arg4 X4 ![128 * (t / 8 % 2), 256 * c] (hv t c h) else rdvc arg6 X6 ![128 * (t / 8 % 2), 0] (hvc t)

/-- Where block `t`'s result goes. -/
abbrev orect (t : ℕ) : Rect S4096x256 := Rect.unit (s := S4096x256) ![512 * (t % 8), 128 * (t / 8 % 2)] S512x128.size (ho t)

/-- A trip keeps what an invariant says of the carried maximum and of the three buffers the kernel writes. -/
theorem trip_step (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (v5 : FVec F S256x512 .bf16) (v131 : FVec F S8x512 .f32) (v133 : FVec F S256x256 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (P : ℕ → FVec F S1x512 .f32 → BufTy.Contents (Elt F) arg7.view.ty → BufTy.Contents (Elt F) arg8.view.ty → BufTy.Contents (Elt F) arg9.view.ty → Prop) (E : Set ℕ) (k : Fin k0_t1_loop.trips) (m : FVec F S1x512 .f32)
    (hstep : ∀ (m : FVec F S1x512 .f32) (f7 : BufTy.Contents (Elt F) arg7.view.ty) (f8 : BufTy.Contents (Elt F) arg8.view.ty) (f9 : BufTy.Contents (Elt F) arg9.view.ty), P k.val m f7 f8 f9 → P (k.val + 1) ((trip 𝒱 cd bd i arg2 harg2 arg3 harg3 arg4 harg4 arg5 harg5 arg6 harg6 arg7 harg7 arg8 harg8 arg9 harg9 v5 v131 v133 X2 X3 X4 X5 X6 k).1 m f7 f8 f9)
      (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) (arg9.view.writes (Elt F) f9 ((trip 𝒱 cd bd i arg2 harg2 arg3 harg3 arg4 harg4 arg5 harg5 arg6 harg6 arg7 harg7 arg8 harg8 arg9 harg9 v5 v131 v133 X2 X3 X4 X5 X6 k).2.2.2.1 m f7 f8 f9))) :
    iprop(∃ f7 f8 f9, ⌜P k.val m f7 f8 f9⌝ ∗ Res (F := F) cd arg2 arg3 arg4 arg5 arg6 arg7 arg8 arg9 X2 X3 X4 X5 X6 f7 f8 f9)
      ⊢ wp frame (wpE (defs₀ (F := F)) 𝒱 (cd : Thread nD τ) bd) E (k0_t1_body (F := F) i arg2 harg2 arg3 harg3 arg4 harg4 arg5 harg5 arg6 harg6 arg7 harg7 arg8 harg8 arg9 harg9 v5 v131 v133 k m)
          (fun y => iprop(∃ f7 f8 f9, ⌜P (k.val + 1) y f7 f8 f9⌝ ∗ Res (F := F) cd arg2 arg3 arg4 arg5 arg6 arg7 arg8 arg9 X2 X3 X4 X5 X6 f7 f8 f9)) := by
  iintro ⟨%f7, %f8, %f9, %hP, H⟩
  have hpost : ∀ y, iprop(⌜y = (trip 𝒱 cd bd i arg2 harg2 arg3 harg3 arg4 harg4 arg5 harg5 arg6 harg6 arg7 harg7 arg8 harg8 arg9 harg9 v5 v131 v133 X2 X3 X4 X5 X6 k).1 m f7 f8 f9⌝ ∗ Res (F := F) cd arg2 arg3 arg4 arg5 arg6 arg7 arg8 arg9 X2 X3 X4 X5 X6 (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) (arg9.view.writes (Elt F) f9 ((trip 𝒱 cd bd i arg2 harg2 arg3 harg3 arg4 harg4 arg5 harg5 arg6 harg6 arg7 harg7 arg8 harg8 arg9 harg9 v5 v131 v133 X2 X3 X4 X5 X6 k).2.2.2.1 m f7 f8 f9)))
      ⊢ iprop(∃ f7 f8 f9, ⌜P (k.val + 1) y f7 f8 f9⌝ ∗ Res (F := F) cd arg2 arg3 arg4 arg5 arg6 arg7 arg8 arg9 X2 X3 X4 X5 X6 f7 f8 f9) := by
    intro y
    iintro ⟨%e, H⟩
    iexists _, _, _
    isplitr
    swap
    · iexact H
    · ipureintro
      subst e
      exact hstep m f7 f8 f9 hP
  iapply (((trip 𝒱 cd bd i arg2 harg2 arg3 harg3 arg4 harg4 arg5 harg5 arg6 harg6 arg7 harg7 arg8 harg8 arg9 harg9 v5 v131 v133 X2 X3 X4 X5 X6 k).2.2.2.2 E m f7 f8 f9).trans (wp_mono _ _ _ hpost))
  iexact H

/-- The whole body over any invariant of the loop: what it stores before the loop and after it is what the run finds. -/
def body (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    Σ' (M0 : FVec F S1x512 .f32) (L80 : List (View.Piece (Elt F) S4352x512 .f32))
      (L7 : (FVec F S1x512 .f32 → BufTy.Contents (Elt F) arg7.view.ty → BufTy.Contents (Elt F) arg8.view.ty → BufTy.Contents (Elt F) arg9.view.ty →  List (View.Piece (Elt F) S4096x256 .bf16)))
      (L8 : (FVec F S1x512 .f32 → BufTy.Contents (Elt F) arg7.view.ty → BufTy.Contents (Elt F) arg8.view.ty → BufTy.Contents (Elt F) arg9.view.ty →  List (View.Piece (Elt F) S4352x512 .f32))), { L9 : (FVec F S1x512 .f32 → BufTy.Contents (Elt F) arg7.view.ty → BufTy.Contents (Elt F) arg8.view.ty → BufTy.Contents (Elt F) arg9.view.ty →  List (View.Piece (Elt F) S4352x512 .f32)) //
      ∀ (E : Set ℕ) (K : PUnit → sProp 𝕄) (P : ℕ → FVec F S1x512 .f32 → BufTy.Contents (Elt F) arg7.view.ty → BufTy.Contents (Elt F) arg8.view.ty → BufTy.Contents (Elt F) arg9.view.ty → Prop) (f7 : BufTy.Contents (Elt F) arg7.view.ty) (f8 : BufTy.Contents (Elt F) arg8.view.ty) (f9 : BufTy.Contents (Elt F) arg9.view.ty),
        (∀ g9, P 0 M0 f7 (arg8.view.writes (Elt F) arg8.view.junk L80) g9) →
        (∀ (v5 : FVec F S256x512 .bf16) (v131 : FVec F S8x512 .f32) (v133 : FVec F S256x256 .bf16) (k : Fin k0_t1_loop.trips) (m : FVec F S1x512 .f32) (f7 : BufTy.Contents (Elt F) arg7.view.ty) (f8 : BufTy.Contents (Elt F) arg8.view.ty) (f9 : BufTy.Contents (Elt F) arg9.view.ty), P k.val m f7 f8 f9 → P (k.val + 1) ((trip 𝒱 cd bd i arg2 harg2 arg3 harg3 arg4 harg4 arg5 harg5 arg6 harg6 arg7 harg7 arg8 harg8 arg9 harg9 v5 v131 v133 X2 X3 X4 X5 X6 k).1 m f7 f8 f9)
          (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) (arg9.view.writes (Elt F) f9 ((trip 𝒱 cd bd i arg2 harg2 arg3 harg3 arg4 harg4 arg5 harg5 arg6 harg6 arg7 harg7 arg8 harg8 arg9 harg9 v5 v131 v133 X2 X3 X4 X5 X6 k).2.2.2.1 m f7 f8 f9))) →
        iprop(Res (F := F) cd arg2 arg3 arg4 arg5 arg6 arg7 arg8 arg9 X2 X3 X4 X5 X6 f7 f8 f9
          ∗ (∀ m f7 f8 f9, ⌜P k0_t1_loop.trips m f7 f8 f9⌝ -∗ Res (F := F) cd arg2 arg3 arg4 arg5 arg6 arg7 arg8 arg9 X2 X3 X4 X5 X6 (arg7.view.writes (Elt F) f7 (L7 m f7 f8 f9)) (arg8.view.writes (Elt F) f8 (L8 m f7 f8 f9)) (arg9.view.writes (Elt F) f9 (L9 m f7 f8 f9)) -∗ K ⟨⟩))
        ⊢ wp frame (wpE (defs₀ (F := F)) 𝒱 (cd : Thread nD τ) bd) E (cc0_attention (F := F) i arg2 harg2 arg3 harg3 arg4 harg4 arg5 harg5 arg6 harg6 arg7 harg7 arg8 harg8 arg9 harg9) K } := by
  refine ⟨?_, ?_, ?_, ?_, ?_, fun E K P f7 f8 f9 hP0 hstep => ?run⟩
  case run =>
    simp only [cc0_attention_eq_skeleton]; unfold cc0_attention_skel
    simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton]
    iintro ⟨⟨H2, H3, H4, H5, H6, H7, H8, H9⟩, Hk⟩
    sl_exec
    sl_for (fun k m => iprop(∃ f7 f8 f9, ⌜P k m f7 f8 f9⌝ ∗ Res (F := F) cd arg2 arg3 arg4 arg5 arg6 arg7 arg8 arg9 X2 X3 X4 X5 X6 f7 f8 f9)) $$ [H2 H3 H4 H5 H6 H7 H8 H9]
    case region =>
      intro k m
      exact trip_step 𝒱 cd bd i arg2 harg2 arg3 harg3 arg4 harg4 arg5 harg5 arg6 harg6 arg7 harg7 arg8 harg8 arg9 harg9 _ _ _ X2 X3 X4 X5 X6 P E k m (fun m f7 f8 f9 => hstep _ _ _ k m f7 f8 f9)
    swap
    · clear hP0
      iintro %m ⟨%g7, %g8, %g9, %hP, H2, H3, H4, H5, H6, H7, H8, H9⟩
      sl_exec
      sl_step
      ispecialize Hk $$ %m %g7 %g8 %g9 %hP
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexists _, _, _
    isplitr
    swap
    isplitl [H2]; iexact H2; isplitl [H3]; iexact H3; isplitl [H4]; iexact H4; isplitl [H5]; iexact H5; isplitl [H6]; iexact H6; isplitl [H7]; iexact H7; isplitl [H8]; iexact H8; iexact H9
    rotate_left 14
    ipureintro
    exact hP0 _

section
variable (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
variable (m : FVec F S1x512 .f32) (f7 : BufTy.Contents (Elt F) arg7.view.ty) (f8 : BufTy.Contents (Elt F) arg8.view.ty) (f9 : BufTy.Contents (Elt F) arg9.view.ty)

theorem body_M0 : (body 𝒱 cd bd i arg2 harg2 arg3 harg3 arg4 harg4 arg5 harg5 arg6 harg6 arg7 harg7 arg8 harg8 arg9 harg9 X2 X3 X4 X5 X6).1 = mx (sc arg2 arg3 arg5 X2 X3 X5 0) := rfl
theorem body_L80 : (body 𝒱 cd bd i arg2 harg2 arg3 harg3 arg4 harg4 arg5 harg5 arg6 harg6 arg7 harg7 arg8 harg8 arg9 harg9 X2 X3 X4 X5 X6).2.1 = slotL (sc arg2 arg3 arg5 X2 X3 X5 0) := rfl

end

end Cert.Kernel2Ideal.Attn

end
-- ==== Proof.Mla.Run7.lean ====
/- One trip of the latent attention kernel: what it stores into the output block. -/
module

public import proofs.«01_k».proof.Proof.Mla.Run

@[expose] public section

set_option maxRecDepth 16384
set_option maxHeartbeats 400000

noncomputable section

namespace Cert.Kernel2Ideal.Attn

open Idealize.ShloMosaic Idealize.ShloMosaic.TcCoe
open Cert.Kernel2Ideal Cert.Kernel2Ideal.Gen Cert.Attn

variable {F : FTy → Type} [FloatOps F] [Named F]
variable (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (v5 : FVec F S256x512 .bf16) (v131 : FVec F S8x512 .f32) (v133 : FVec F S256x256 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips)
variable (m : FVec F S1x512 .f32) (f7 : BufTy.Contents (Elt F) arg7.view.ty) (f8 : BufTy.Contents (Elt F) arg8.view.ty) (f9 : BufTy.Contents (Elt F) arg9.view.ty)

theorem trip_m3 : (trip.sl.r_12 arg2 arg3 arg5 X2 X3 X5 k) = mx (rawS arg2 arg3 arg5 X2 X3 X5 k 2) := rfl

theorem trip_l3 : (trip.sl.H9_34 arg2 arg3 arg5 X2 X3 X5 k) = slotL (rawS arg2 arg3 arg5 X2 X3 X5 k 2) ++ slotL (rawS arg2 arg3 arg5 X2 X3 X5 k 0) := rfl

theorem trip_m2 : (trip.sl.r_8 arg2 arg3 arg5 X2 X3 X5 k) = mx (rawS arg2 arg3 arg5 X2 X3 X5 k 1) := rfl

theorem trip_l2 : (trip.sl.H8_17 arg2 arg3 arg5 X2 X3 X5 k) = slotL (rawS arg2 arg3 arg5 X2 X3 X5 k 1) := rfl

theorem trip_m1 : (trip.sl.r_4 arg2 arg3 arg5 X2 X3 X5 k) = mx (rawS arg2 arg3 arg5 X2 X3 X5 k 0) := rfl

theorem trip_l1 : (trip.sl.H9_17 arg2 arg3 arg5 X2 X3 X5 k) = slotL (rawS arg2 arg3 arg5 X2 X3 X5 k 0) := rfl

theorem trip_L7w : (trip 𝒱 cd bd i arg2 harg2 arg3 harg3 arg4 harg4 arg5 harg5 arg6 harg6 arg7 harg7 arg8 harg8 arg9 harg9 v5 v131 v133 X2 X3 X4 X5 X6 k).2.1 m f7 f8 f9 =
    [⟨Rect.unit (s := S4096x256) (k0_off54 k 3#32) S512x128.size (k0_off54_inb k 2), Attn.out (rawV arg4 arg6 X4 X6 k 2) (rdL9 arg9 (trip.sl.H9_34 arg2 arg3 arg5 X2 X3 X5 k)) (trip.sl.r_12 arg2 arg3 arg5 X2 X3 X5 k)⟩,
     ⟨Rect.unit (s := S4096x256) (k0_off54 k 2#32) S512x128.size (k0_off54_inb k 1), Attn.out (rawV arg4 arg6 X4 X6 k 1) (rdL8 arg8 (trip.sl.H8_17 arg2 arg3 arg5 X2 X3 X5 k)) (trip.sl.r_8 arg2 arg3 arg5 X2 X3 X5 k)⟩,
     ⟨Rect.unit (s := S4096x256) (k0_off54 k 1#32) S512x128.size (k0_off54_inb k 0), Attn.out (rawV arg4 arg6 X4 X6 k 0) (rdL9 arg9 (trip.sl.H9_17 arg2 arg3 arg5 X2 X3 X5 k)) (trip.sl.r_4 arg2 arg3 arg5 X2 X3 X5 k)⟩,
     ⟨Rect.unit (s := S4096x256) (k0_off36 k) S512x128.size (k0_off36_inb k), Attn.out (rawV1 arg4 arg6 X4 X6 k) (rd8 arg8 f8) m⟩] := rfl

/-- Every stage stores the result of the block scored a stage before. -/
theorem trip_L7 : (trip 𝒱 cd bd i arg2 harg2 arg3 harg3 arg4 harg4 arg5 harg5 arg6 harg6 arg7 harg7 arg8 harg8 arg9 harg9 v5 v131 v133 X2 X3 X4 X5 X6 k).2.1 m f7 f8 f9 =
    [⟨Rect.unit (s := S4096x256) (k0_off54 k 3#32) S512x128.size (k0_off54_inb k 2), Attn.out (rawV arg4 arg6 X4 X6 k 2) (rdL9 arg9 (slotL (rawS arg2 arg3 arg5 X2 X3 X5 k 2) ++ slotL (rawS arg2 arg3 arg5 X2 X3 X5 k 0))) (mx (rawS arg2 arg3 arg5 X2 X3 X5 k 2))⟩,
     ⟨Rect.unit (s := S4096x256) (k0_off54 k 2#32) S512x128.size (k0_off54_inb k 1), Attn.out (rawV arg4 arg6 X4 X6 k 1) (rdL8 arg8 (slotL (rawS arg2 arg3 arg5 X2 X3 X5 k 1))) (mx (rawS arg2 arg3 arg5 X2 X3 X5 k 1))⟩,
     ⟨Rect.unit (s := S4096x256) (k0_off54 k 1#32) S512x128.size (k0_off54_inb k 0), Attn.out (rawV arg4 arg6 X4 X6 k 0) (rdL9 arg9 (slotL (rawS arg2 arg3 arg5 X2 X3 X5 k 0))) (mx (rawS arg2 arg3 arg5 X2 X3 X5 k 0))⟩,
     ⟨Rect.unit (s := S4096x256) (k0_off36 k) S512x128.size (k0_off36_inb k), Attn.out (rawV1 arg4 arg6 X4 X6 k) (rd8 arg8 f8) m⟩] := by
  rw [trip_L7w, trip_m3, trip_l3, trip_m2, trip_l2, trip_m1, trip_l1]

end Cert.Kernel2Ideal.Attn

end
-- ==== Proof.Mla.Epi.lean ====
/- The body of the latent attention kernel over an invariant of its loop. -/
module

public import proofs.«01_k».proof.Proof.Mla.Body
public import proofs.«01_k».proof.Proof.Mla.Run7

@[expose] public section

set_option maxRecDepth 16384
set_option maxHeartbeats 400000

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen Cert.Attn

variable {F : FTy → Type} [FloatOps F] [Named F]

local notation "𝕄" => MT nD τ sig Unit (Elt F) ℕ (UR sig nD τ) ℕ

section
variable (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
variable (m : FVec F S1x512 .f32) (f7 : BufTy.Contents (Elt F) arg7.view.ty) (f8 : BufTy.Contents (Elt F) arg8.view.ty) (f9 : BufTy.Contents (Elt F) arg9.view.ty)

/-- The last blocks' scores are what the slots hold at the end. -/
theorem body_L9 : (body 𝒱 cd bd i arg2 harg2 arg3 harg3 arg4 harg4 arg5 harg5 arg6 harg6 arg7 harg7 arg8 harg8 arg9 harg9 X2 X3 X4 X5 X6).2.2.2.2.1 m f7 f8 f9 = slotL (sc arg2 arg3 arg5 X2 X3 X5 15) ++ slotL (sc arg2 arg3 arg5 X2 X3 X5 13) := rfl
theorem body_L8 : (body 𝒱 cd bd i arg2 harg2 arg3 harg3 arg4 harg4 arg5 harg5 arg6 harg6 arg7 harg7 arg8 harg8 arg9 harg9 X2 X3 X4 X5 X6).2.2.2.1 m f7 f8 f9 = slotL (sc arg2 arg3 arg5 X2 X3 X5 14) := rfl
/-- The last four results stored. -/
theorem body_L7 : (body 𝒱 cd bd i arg2 harg2 arg3 harg3 arg4 harg4 arg5 harg5 arg6 harg6 arg7 harg7 arg8 harg8 arg9 harg9 X2 X3 X4 X5 X6).2.2.1 m f7 f8 f9 =
    [⟨orect 15, Attn.out (vl arg4 arg6 X4 X6 15) (rdL9 arg9 (slotL (sc arg2 arg3 arg5 X2 X3 X5 15) ++ slotL (sc arg2 arg3 arg5 X2 X3 X5 13))) (mx (sc arg2 arg3 arg5 X2 X3 X5 15))⟩,
     ⟨orect 14, Attn.out (vl arg4 arg6 X4 X6 14) (rdL8 arg8 (slotL (sc arg2 arg3 arg5 X2 X3 X5 14))) (mx (sc arg2 arg3 arg5 X2 X3 X5 14))⟩,
     ⟨orect 13, Attn.out (vl arg4 arg6 X4 X6 13) (rdL9 arg9 (slotL (sc arg2 arg3 arg5 X2 X3 X5 13))) (mx (sc arg2 arg3 arg5 X2 X3 X5 13))⟩,
     ⟨orect 12, Attn.out (vl arg4 arg6 X4 X6 12) (rd8 arg8 f8) m⟩] := rfl
end

end Cert.Kernel2Ideal.Attn

end
-- ==== Proof.Mla.Inv.lean ====
/- What the loop of the latent attention kernel keeps: the scores in the slot and the finished blocks. -/
module

public import proofs.«01_k».proof.Proof.Mla.Epi
public import proofs.«01_k».proof.Proof.Attn.Congr
public import Idealize.ShloMosaic.Lib.Pointwise.Reshape

@[expose] public section

set_option maxRecDepth 16384
set_option maxHeartbeats 400000

noncomputable section

namespace Cert.Kernel2Ideal.Attn

open Idealize.ShloMosaic Idealize.ShloMosaic.TcCoe Idealize.ShloMosaic.Tactic
open Cert.Kernel2Ideal Cert.Kernel2Ideal.Gen Cert.Attn

variable {F : FTy → Type} [FloatOps F] [Named F]

/-- Where the trips read and write, as the number of the block they work on. -/
theorem off_q : ∀ (k : Fin k0_t1_loop.trips) (d : Fin 4), k0_off1 k (BitVec.ofNat 32 (1 + d.val)) = ![256 * ((4 * k.val + d.val + 1) / 8 % 2), 512 * ((4 * k.val + d.val + 1) % 8)] := by decide +kernel
theorem off_k0 : ∀ (k : Fin k0_t1_loop.trips) (d : Fin 4), k0_off2 k (BitVec.ofNat 32 (1 + d.val)) = ![256 * 0, 256 * ((4 * k.val + d.val + 1) / 8 % 2)] := by decide +kernel
theorem off_k1 : ∀ (k : Fin k0_t1_loop.trips) (d : Fin 4), k0_off3 k (BitVec.ofNat 32 (1 + d.val)) = ![256 * 1, 256 * ((4 * k.val + d.val + 1) / 8 % 2)] := by decide +kernel
theorem off_k2 : ∀ (k : Fin k0_t1_loop.trips) (d : Fin 4), k0_off5 k (BitVec.ofNat 32 (1 + d.val)) = ![256 * 2, 256 * ((4 * k.val + d.val + 1) / 8 % 2)] := by decide +kernel
theorem off_k3 : ∀ (k : Fin k0_t1_loop.trips) (d : Fin 4), k0_off7 k (BitVec.ofNat 32 (1 + d.val)) = ![256 * 3, 256 * ((4 * k.val + d.val + 1) / 8 % 2)] := by decide +kernel
theorem off_k4 : ∀ (k : Fin k0_t1_loop.trips) (d : Fin 4), k0_off9 k (BitVec.ofNat 32 (1 + d.val)) = ![256 * 4, 256 * ((4 * k.val + d.val + 1) / 8 % 2)] := by decide +kernel
theorem off_k5 : ∀ (k : Fin k0_t1_loop.trips) (d : Fin 4), k0_off11 k (BitVec.ofNat 32 (1 + d.val)) = ![256 * 5, 256 * ((4 * k.val + d.val + 1) / 8 % 2)] := by decide +kernel
theorem off_k6 : ∀ (k : Fin k0_t1_loop.trips) (d : Fin 4), k0_off13 k (BitVec.ofNat 32 (1 + d.val)) = ![256 * 6, 256 * ((4 * k.val + d.val + 1) / 8 % 2)] := by decide +kernel
theorem off_k7 : ∀ (k : Fin k0_t1_loop.trips) (d : Fin 4), k0_off15 k (BitVec.ofNat 32 (1 + d.val)) = ![256 * 7, 256 * ((4 * k.val + d.val + 1) / 8 % 2)] := by decide +kernel
theorem off_k8 : ∀ (k : Fin k0_t1_loop.trips) (d : Fin 4), k0_off17 k (BitVec.ofNat 32 (1 + d.val)) = ![256 * 8, 256 * ((4 * k.val + d.val + 1) / 8 % 2)] := by decide +kernel
theorem off_k9 : ∀ (k : Fin k0_t1_loop.trips) (d : Fin 4), k0_off19 k (BitVec.ofNat 32 (1 + d.val)) = ![256 * 9, 256 * ((4 * k.val + d.val + 1) / 8 % 2)] := by decide +kernel
theorem off_k10 : ∀ (k : Fin k0_t1_loop.trips) (d : Fin 4), k0_off21 k (BitVec.ofNat 32 (1 + d.val)) = ![256 * 10, 256 * ((4 * k.val + d.val + 1) / 8 % 2)] := by decide +kernel
theorem off_k11 : ∀ (k : Fin k0_t1_loop.trips) (d : Fin 4), k0_off23 k (BitVec.ofNat 32 (1 + d.val)) = ![256 * 11, 256 * ((4 * k.val + d.val + 1) / 8 % 2)] := by decide +kernel
theorem off_k12 : ∀ (k : Fin k0_t1_loop.trips) (d : Fin 4), k0_off25 k (BitVec.ofNat 32 (1 + d.val)) = ![256 * 12, 256 * ((4 * k.val + d.val + 1) / 8 % 2)] := by decide +kernel
theorem off_k13 : ∀ (k : Fin k0_t1_loop.trips) (d : Fin 4), k0_off27 k (BitVec.ofNat 32 (1 + d.val)) = ![256 * 13, 256 * ((4 * k.val + d.val + 1) / 8 % 2)] := by decide +kernel
theorem off_k14 : ∀ (k : Fin k0_t1_loop.trips) (d : Fin 4), k0_off29 k (BitVec.ofNat 32 (1 + d.val)) = ![256 * 14, 256 * ((4 * k.val + d.val + 1) / 8 % 2)] := by decide +kernel
theorem off_k15 : ∀ (k : Fin k0_t1_loop.trips) (d : Fin 4), k0_off31 k (BitVec.ofNat 32 (1 + d.val)) = ![256 * 15, 256 * ((4 * k.val + d.val + 1) / 8 % 2)] := by decide +kernel
theorem off_k16 : ∀ (k : Fin k0_t1_loop.trips) (d : Fin 4), k0_off33 k (BitVec.ofNat 32 (1 + d.val)) = ![0, 256 * ((4 * k.val + d.val + 1) / 8 % 2)] := by decide +kernel
theorem off_v0 : ∀ (k : Fin k0_t1_loop.trips) (d : Fin 3), k0_off37 k (BitVec.ofNat 32 (1 + d.val)) = ![128 * ((4 * k.val + d.val + 1) / 8 % 2), 256 * 0] := by decide +kernel
theorem off_v1 : ∀ (k : Fin k0_t1_loop.trips) (d : Fin 3), k0_off38 k (BitVec.ofNat 32 (1 + d.val)) = ![128 * ((4 * k.val + d.val + 1) / 8 % 2), 256 * 1] := by decide +kernel
theorem off_v2 : ∀ (k : Fin k0_t1_loop.trips) (d : Fin 3), k0_off39 k (BitVec.ofNat 32 (1 + d.val)) = ![128 * ((4 * k.val + d.val + 1) / 8 % 2), 256 * 2] := by decide +kernel
theorem off_v3 : ∀ (k : Fin k0_t1_loop.trips) (d : Fin 3), k0_off40 k (BitVec.ofNat 32 (1 + d.val)) = ![128 * ((4 * k.val + d.val + 1) / 8 % 2), 256 * 3] := by decide +kernel
theorem off_v4 : ∀ (k : Fin k0_t1_loop.trips) (d : Fin 3), k0_off41 k (BitVec.ofNat 32 (1 + d.val)) = ![128 * ((4 * k.val + d.val + 1) / 8 % 2), 256 * 4] := by decide +kernel
theorem off_v5 : ∀ (k : Fin k0_t1_loop.trips) (d : Fin 3), k0_off42 k (BitVec.ofNat 32 (1 + d.val)) = ![128 * ((4 * k.val + d.val + 1) / 8 % 2), 256 * 5] := by decide +kernel
theorem off_v6 : ∀ (k : Fin k0_t1_loop.trips) (d : Fin 3), k0_off43 k (BitVec.ofNat 32 (1 + d.val)) = ![128 * ((4 * k.val + d.val + 1) / 8 % 2), 256 * 6] := by decide +kernel
theorem off_v7 : ∀ (k : Fin k0_t1_loop.trips) (d : Fin 3), k0_off44 k (BitVec.ofNat 32 (1 + d.val)) = ![128 * ((4 * k.val + d.val + 1) / 8 % 2), 256 * 7] := by decide +kernel
theorem off_v8 : ∀ (k : Fin k0_t1_loop.trips) (d : Fin 3), k0_off45 k (BitVec.ofNat 32 (1 + d.val)) = ![128 * ((4 * k.val + d.val + 1) / 8 % 2), 256 * 8] := by decide +kernel
theorem off_v9 : ∀ (k : Fin k0_t1_loop.trips) (d : Fin 3), k0_off46 k (BitVec.ofNat 32 (1 + d.val)) = ![128 * ((4 * k.val + d.val + 1) / 8 % 2), 256 * 9] := by decide +kernel
theorem off_v10 : ∀ (k : Fin k0_t1_loop.trips) (d : Fin 3), k0_off47 k (BitVec.ofNat 32 (1 + d.val)) = ![128 * ((4 * k.val + d.val + 1) / 8 % 2), 256 * 10] := by decide +kernel
theorem off_v11 : ∀ (k : Fin k0_t1_loop.trips) (d : Fin 3), k0_off48 k (BitVec.ofNat 32 (1 + d.val)) = ![128 * ((4 * k.val + d.val + 1) / 8 % 2), 256 * 11] := by decide +kernel
theorem off_v12 : ∀ (k : Fin k0_t1_loop.trips) (d : Fin 3), k0_off49 k (BitVec.ofNat 32 (1 + d.val)) = ![128 * ((4 * k.val + d.val + 1) / 8 % 2), 256 * 12] := by decide +kernel
theorem off_v13 : ∀ (k : Fin k0_t1_loop.trips) (d : Fin 3), k0_off50 k (BitVec.ofNat 32 (1 + d.val)) = ![128 * ((4 * k.val + d.val + 1) / 8 % 2), 256 * 13] := by decide +kernel
theorem off_v14 : ∀ (k : Fin k0_t1_loop.trips) (d : Fin 3), k0_off51 k (BitVec.ofNat 32 (1 + d.val)) = ![128 * ((4 * k.val + d.val + 1) / 8 % 2), 256 * 14] := by decide +kernel
theorem off_v15 : ∀ (k : Fin k0_t1_loop.trips) (d : Fin 3), k0_off52 k (BitVec.ofNat 32 (1 + d.val)) = ![128 * ((4 * k.val + d.val + 1) / 8 % 2), 256 * 15] := by decide +kernel
theorem off_v16 : ∀ (k : Fin k0_t1_loop.trips) (d : Fin 3), k0_off53 k (BitVec.ofNat 32 (1 + d.val)) = ![128 * ((4 * k.val + d.val + 1) / 8 % 2), 0] := by decide +kernel
theorem off_w0 : ∀ (k : Fin k0_t1_loop.trips), k0_off4 k = ![128 * ((4 * k.val) / 8 % 2), 256 * 0] := by decide +kernel
theorem off_w1 : ∀ (k : Fin k0_t1_loop.trips), k0_off6 k = ![128 * ((4 * k.val) / 8 % 2), 256 * 1] := by decide +kernel
theorem off_w2 : ∀ (k : Fin k0_t1_loop.trips), k0_off8 k = ![128 * ((4 * k.val) / 8 % 2), 256 * 2] := by decide +kernel
theorem off_w3 : ∀ (k : Fin k0_t1_loop.trips), k0_off10 k = ![128 * ((4 * k.val) / 8 % 2), 256 * 3] := by decide +kernel
theorem off_w4 : ∀ (k : Fin k0_t1_loop.trips), k0_off12 k = ![128 * ((4 * k.val) / 8 % 2), 256 * 4] := by decide +kernel
theorem off_w5 : ∀ (k : Fin k0_t1_loop.trips), k0_off14 k = ![128 * ((4 * k.val) / 8 % 2), 256 * 5] := by decide +kernel
theorem off_w6 : ∀ (k : Fin k0_t1_loop.trips), k0_off16 k = ![128 * ((4 * k.val) / 8 % 2), 256 * 6] := by decide +kernel
theorem off_w7 : ∀ (k : Fin k0_t1_loop.trips), k0_off18 k = ![128 * ((4 * k.val) / 8 % 2), 256 * 7] := by decide +kernel
theorem off_w8 : ∀ (k : Fin k0_t1_loop.trips), k0_off20 k = ![128 * ((4 * k.val) / 8 % 2), 256 * 8] := by decide +kernel
theorem off_w9 : ∀ (k : Fin k0_t1_loop.trips), k0_off22 k = ![128 * ((4 * k.val) / 8 % 2), 256 * 9] := by decide +kernel
theorem off_w10 : ∀ (k : Fin k0_t1_loop.trips), k0_off24 k = ![128 * ((4 * k.val) / 8 % 2), 256 * 10] := by decide +kernel
theorem off_w11 : ∀ (k : Fin k0_t1_loop.trips), k0_off26 k = ![128 * ((4 * k.val) / 8 % 2), 256 * 11] := by decide +kernel
theorem off_w12 : ∀ (k : Fin k0_t1_loop.trips), k0_off28 k = ![128 * ((4 * k.val) / 8 % 2), 256 * 12] := by decide +kernel
theorem off_w13 : ∀ (k : Fin k0_t1_loop.trips), k0_off30 k = ![128 * ((4 * k.val) / 8 % 2), 256 * 13] := by decide +kernel
theorem off_w14 : ∀ (k : Fin k0_t1_loop.trips), k0_off32 k = ![128 * ((4 * k.val) / 8 % 2), 256 * 14] := by decide +kernel
theorem off_w15 : ∀ (k : Fin k0_t1_loop.trips), k0_off34 k = ![128 * ((4 * k.val) / 8 % 2), 256 * 15] := by decide +kernel
theorem off_w16 : ∀ (k : Fin k0_t1_loop.trips), k0_off35 k = ![128 * ((4 * k.val) / 8 % 2), 0] := by decide +kernel
theorem off_o : ∀ (k : Fin k0_t1_loop.trips) (d : Fin 3), k0_off54 k (BitVec.ofNat 32 (1 + d.val)) = ![512 * ((4 * k.val + d.val + 1) % 8), 128 * ((4 * k.val + d.val + 1) / 8 % 2)] := by decide +kernel
theorem off_o0 : ∀ (k : Fin k0_t1_loop.trips), k0_off36 k = ![512 * ((4 * k.val) % 8), 128 * ((4 * k.val) / 8 % 2)] := by decide +kernel

section
variable {arg2 : Memref sig .tc .vmem S512x4096 .f32} {arg3 : Memref sig .tc .vmem S4096x512 .bf16} {arg4 : Memref sig .tc .vmem S256x4096 .bf16} {arg5 : Memref sig .tc .vmem S256x512 .bf16} {arg6 : Memref sig .tc .vmem S256x256 .bf16} {arg7 : Memref sig .tc .vmem S4096x256 .bf16} {arg8 : Memref sig .tc .vmem S4352x512 .f32} {arg9 : Memref sig .tc .vmem S4352x512 .f32} {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty}

/-- A score read at the places of block `t`. -/
theorem sc_of (t c : ℕ) (hc : c < 16) {oq ok : Fin 2 → ℕ} (iq : ∀ a, oq a + S256x512.size a ≤ S512x4096.size a) (ik : ∀ a, ok a + S256x256.size a ≤ S4096x512.size a)
    (e1 : oq = ![256 * (t / 8 % 2), 512 * (t % 8)]) (e2 : ok = ![256 * c, 256 * (t / 8 % 2)]) :
    score (rdq arg2 X2 oq iq) (rdk arg3 X3 ok ik) = sc arg2 arg3 arg5 X2 X3 X5 t c := by
  subst e1; subst e2; rw [sc, dif_pos hc]
theorem sc_of16 (t : ℕ) {oq ok : Fin 2 → ℕ} (iq : ∀ a, oq a + S256x512.size a ≤ S512x4096.size a) (ik : ∀ a, ok a + S256x256.size a ≤ S256x512.size a)
    (e1 : oq = ![256 * (t / 8 % 2), 512 * (t % 8)]) (e2 : ok = ![0, 256 * (t / 8 % 2)]) :
    score (rdq arg2 X2 oq iq) (rdkc arg5 X5 ok ik) = sc arg2 arg3 arg5 X2 X3 X5 t 16 := by
  subst e1; subst e2; rw [sc, dif_neg (by decide)]
/-- A value piece read at the places of block `t`. -/
theorem vl_of (t c : ℕ) (hc : c < 16) {ok : Fin 2 → ℕ} (ik : ∀ a, ok a + S128x256.size a ≤ S256x4096.size a)
    (e2 : ok = ![128 * (t / 8 % 2), 256 * c]) : rdv arg4 X4 ok ik = vl arg4 arg6 X4 X6 t c := by
  subst e2; rw [vl, dif_pos hc]
theorem vl_of16 (t : ℕ) {ok : Fin 2 → ℕ} (ik : ∀ a, ok a + S128x256.size a ≤ S256x256.size a)
    (e2 : ok = ![128 * (t / 8 % 2), 0]) : rdvc arg6 X6 ok ik = vl arg4 arg6 X4 X6 t 16 := by
  subst e2; rw [vl, dif_neg (by decide)]

/-- What a trip scores is the scores of the blocks it works on. -/
theorem rawS_eq (k : Fin k0_t1_loop.trips) (d : Fin 4) : ∀ c, c < 17 →
    rawS arg2 arg3 arg5 X2 X3 X5 k d c = sc arg2 arg3 arg5 X2 X3 X5 (4 * k.val + d.val + 1) c
  | 0, _ => sc_of _ 0 (by decide) _ _ (off_q k d) (off_k0 k d)
  | 1, _ => sc_of _ 1 (by decide) _ _ (off_q k d) (off_k1 k d)
  | 2, _ => sc_of _ 2 (by decide) _ _ (off_q k d) (off_k2 k d)
  | 3, _ => sc_of _ 3 (by decide) _ _ (off_q k d) (off_k3 k d)
  | 4, _ => sc_of _ 4 (by decide) _ _ (off_q k d) (off_k4 k d)
  | 5, _ => sc_of _ 5 (by decide) _ _ (off_q k d) (off_k5 k d)
  | 6, _ => sc_of _ 6 (by decide) _ _ (off_q k d) (off_k6 k d)
  | 7, _ => sc_of _ 7 (by decide) _ _ (off_q k d) (off_k7 k d)
  | 8, _ => sc_of _ 8 (by decide) _ _ (off_q k d) (off_k8 k d)
  | 9, _ => sc_of _ 9 (by decide) _ _ (off_q k d) (off_k9 k d)
  | 10, _ => sc_of _ 10 (by decide) _ _ (off_q k d) (off_k10 k d)
  | 11, _ => sc_of _ 11 (by decide) _ _ (off_q k d) (off_k11 k d)
  | 12, _ => sc_of _ 12 (by decide) _ _ (off_q k d) (off_k12 k d)
  | 13, _ => sc_of _ 13 (by decide) _ _ (off_q k d) (off_k13 k d)
  | 14, _ => sc_of _ 14 (by decide) _ _ (off_q k d) (off_k14 k d)
  | 15, _ => sc_of _ 15 (by decide) _ _ (off_q k d) (off_k15 k d)
  | 16, _ => sc_of16 _ _ _ (off_q k d) (off_k16 k d)
  | c + 17, h => absurd h (by omega)
/-- The values a trip reads are the values of the blocks it finishes. -/
theorem rawV_eq (k : Fin k0_t1_loop.trips) (d : Fin 3) : ∀ c, c < 17 →
    rawV arg4 arg6 X4 X6 k d c = vl arg4 arg6 X4 X6 (4 * k.val + d.val + 1) c
  | 0, _ => vl_of _ 0 (by decide) _ (off_v0 k d)
  | 1, _ => vl_of _ 1 (by decide) _ (off_v1 k d)
  | 2, _ => vl_of _ 2 (by decide) _ (off_v2 k d)
  | 3, _ => vl_of _ 3 (by decide) _ (off_v3 k d)
  | 4, _ => vl_of _ 4 (by decide) _ (off_v4 k d)
  | 5, _ => vl_of _ 5 (by decide) _ (off_v5 k d)
  | 6, _ => vl_of _ 6 (by decide) _ (off_v6 k d)
  | 7, _ => vl_of _ 7 (by decide) _ (off_v7 k d)
  | 8, _ => vl_of _ 8 (by decide) _ (off_v8 k d)
  | 9, _ => vl_of _ 9 (by decide) _ (off_v9 k d)
  | 10, _ => vl_of _ 10 (by decide) _ (off_v10 k d)
  | 11, _ => vl_of _ 11 (by decide) _ (off_v11 k d)
  | 12, _ => vl_of _ 12 (by decide) _ (off_v12 k d)
  | 13, _ => vl_of _ 13 (by decide) _ (off_v13 k d)
  | 14, _ => vl_of _ 14 (by decide) _ (off_v14 k d)
  | 15, _ => vl_of _ 15 (by decide) _ (off_v15 k d)
  | 16, _ => vl_of16 _ _ (off_v16 k d)
  | c + 17, h => absurd h (by omega)
theorem rawV1_eq (k : Fin k0_t1_loop.trips) : ∀ c, c < 17 →
    rawV1 arg4 arg6 X4 X6 k c = vl arg4 arg6 X4 X6 (4 * k.val) c
  | 0, _ => vl_of _ 0 (by decide) _ (off_w0 k)
  | 1, _ => vl_of _ 1 (by decide) _ (off_w1 k)
  | 2, _ => vl_of _ 2 (by decide) _ (off_w2 k)
  | 3, _ => vl_of _ 3 (by decide) _ (off_w3 k)
  | 4, _ => vl_of _ 4 (by decide) _ (off_w4 k)
  | 5, _ => vl_of _ 5 (by decide) _ (off_w5 k)
  | 6, _ => vl_of _ 6 (by decide) _ (off_w6 k)
  | 7, _ => vl_of _ 7 (by decide) _ (off_w7 k)
  | 8, _ => vl_of _ 8 (by decide) _ (off_w8 k)
  | 9, _ => vl_of _ 9 (by decide) _ (off_w9 k)
  | 10, _ => vl_of _ 10 (by decide) _ (off_w10 k)
  | 11, _ => vl_of _ 11 (by decide) _ (off_w11 k)
  | 12, _ => vl_of _ 12 (by decide) _ (off_w12 k)
  | 13, _ => vl_of _ 13 (by decide) _ (off_w13 k)
  | 14, _ => vl_of _ 14 (by decide) _ (off_w14 k)
  | 15, _ => vl_of _ 15 (by decide) _ (off_w15 k)
  | 16, _ => vl_of16 _ _ (off_w16 k)
  | c + 17, h => absurd h (by omega)
end

/-- The first `n` pieces of a slot, the last first. -/
def slotN (S : ℕ → FVec F S256x512 .f32) : (n : ℕ) → n ≤ 17 → List (View.Piece (Elt F) S4352x512 .f32)
  | 0, _ => []
  | n + 1, h => ⟨Rect.unit (s := S4352x512) ![256 * n, 0] S256x512.size (hslot n (by omega)), shapeCast S256x512 (S n) shapeCasts_S256x512_S256x512⟩ :: slotN S n (by omega)

theorem slotL_eq (S : ℕ → FVec F S256x512 .f32) : slotL S = slotN S 17 le_rfl := rfl

/-- Two pieces of a slot lie apart. -/
theorem slot_apart {a b : ℕ} (ha : a < 17) (hb : b < 17) (h : a ≠ b) :
    Disjoint (Rect.unit (s := S4352x512) ![256 * a, 0] S256x512.size (hslot a ha)).set (Rect.unit (s := S4352x512) ![256 * b, 0] S256x512.size (hslot b hb)).set :=
  Rect.unit_disjoint (s := S4352x512) (0 : Fin 2) (by show 256 * a + 256 ≤ 256 * b ∨ 256 * b + 256 ≤ 256 * a; omega)

/-- A piece of a slot is read as it was stored. -/
theorem slotN_read (v : View sig .tc .vmem S4352x512 .f32) (f : BufTy.Contents (Elt F) v.ty) (S : ℕ → FVec F S256x512 .f32)
    (L : List (View.Piece (Elt F) S4352x512 .f32)) (c : ℕ) (hc : c < 17) : ∀ (n : ℕ) (hn : n ≤ 17), c < n →
    v.readAt (Elt F) (Rect.unit (s := S4352x512) ![256 * c, 0] S256x512.size (hslot c hc)).toLoadRect (v.writes (Elt F) f (slotN S n hn ++ L)) = S c
  | 0, _, h => absurd h (by omega)
  | n + 1, hn, h => by
    by_cases e : c = n
    · subst e
      rw [slotN, List.cons_append, load_same]
      exact Idealize.ShloMosaic.shapeCast_id _ _
    · have hn' : n < 17 := hn
      have hd := slot_apart hn' hc (Ne.symm e)
      exact (load_apart v f ⟨Rect.unit (s := S4352x512) ![256 * n, 0] S256x512.size (hslot n hn'), shapeCast S256x512 (S n) shapeCasts_S256x512_S256x512⟩ _ (slotN S n (by omega) ++ L) hd).trans
        (slotN_read v f S L c hc n (by omega) (by omega))
theorem slotL_read (v : View sig .tc .vmem S4352x512 .f32) (f : BufTy.Contents (Elt F) v.ty) (S : ℕ → FVec F S256x512 .f32)
    (L : List (View.Piece (Elt F) S4352x512 .f32)) (c : ℕ) (hc : c < 17) :
    v.readAt (Elt F) (Rect.unit (s := S4352x512) ![256 * c, 0] S256x512.size (hslot c hc)).toLoadRect (v.writes (Elt F) f (slotL S ++ L)) = S c := by
  rw [slotL_eq]; exact slotN_read v f S L c hc 17 le_rfl hc

theorem rd8_slotL (arg8 : Memref sig .tc .vmem S4352x512 .f32) (f8 : BufTy.Contents (Elt F) arg8.view.ty) (S : ℕ → FVec F S256x512 .f32)
    (L : List (View.Piece (Elt F) S4352x512 .f32)) (c : ℕ) (hc : c < 17) : rd8 arg8 (arg8.view.writes (Elt F) f8 (slotL S ++ L)) c = S c := by
  rw [rd8, dif_pos hc]; exact slotL_read _ _ _ _ _ hc
theorem rdL8_slotL (arg8 : Memref sig .tc .vmem S4352x512 .f32) (S : ℕ → FVec F S256x512 .f32)
    (L : List (View.Piece (Elt F) S4352x512 .f32)) (c : ℕ) (hc : c < 17) : rdL8 arg8 (slotL S ++ L) c = S c := by
  rw [rdL8, dif_pos hc]; exact slotL_read arg8.view arg8.view.junk S L c hc
theorem rdL9_slotL (arg9 : Memref sig .tc .vmem S4352x512 .f32) (S : ℕ → FVec F S256x512 .f32)
    (L : List (View.Piece (Elt F) S4352x512 .f32)) (c : ℕ) (hc : c < 17) : rdL9 arg9 (slotL S ++ L) c = S c := by
  rw [rdL9, dif_pos hc]; exact slotL_read arg9.view arg9.view.junk S L c hc

/-- The blocks of the result lie apart. -/
theorem orect_apart {t t' : ℕ} (h : t < 16) (h' : t' < 16) (hne : t ≠ t') : Disjoint (orect t).set (orect t').set := by
  by_cases e : t % 8 = t' % 8
  · refine Rect.unit_disjoint (s := S4096x256) (1 : Fin 2) ?_
    show 128 * (t / 8 % 2) + 128 ≤ 128 * (t' / 8 % 2) ∨ 128 * (t' / 8 % 2) + 128 ≤ 128 * (t / 8 % 2)
    omega
  · refine Rect.unit_disjoint (s := S4096x256) (0 : Fin 2) ?_
    show 512 * (t % 8) + 512 ≤ 512 * (t' % 8) ∨ 512 * (t' % 8) + 512 ≤ 512 * (t % 8)
    omega

/-- A block's result, in its place. -/
def pc (R : ℕ → FVec F S512x128 .bf16) (t : ℕ) : View.Piece (Elt F) S4096x256 .bf16 := ⟨orect t, R t⟩

/-- Two stores of the same result in the same place are the same piece. -/
theorem opiece {off off' : Fin 2 → ℕ} {inb : ∀ a, off a + S512x128.size a ≤ S4096x256.size a} {inb' : ∀ a, off' a + S512x128.size a ≤ S4096x256.size a}
    {x x' : FVec F S512x128 .bf16} (h : off = off') (hw : x = x') :
    (⟨Rect.unit (s := S4096x256) off S512x128.size inb, x⟩ : View.Piece (Elt F) S4096x256 .bf16) = ⟨Rect.unit (s := S4096x256) off' S512x128.size inb', x'⟩ := by
  subst h; subst hw; rfl

/-- Stored blocks are read as they were stored, the others as they were. -/
theorem pcs_read (v : View sig .tc .vmem S4096x256 .bf16) (f : BufTy.Contents (Elt F) v.ty) (R : ℕ → FVec F S512x128 .bf16) (t : ℕ) (ht : t < 16) :
    ∀ ts : List ℕ, (∀ x ∈ ts, x < 16) →
    v.readAt (Elt F) (orect t).toLoadRect (v.writes (Elt F) f (ts.map (pc R))) = if t ∈ ts then R t else v.readAt (Elt F) (orect t).toLoadRect f
  | [], _ => by rw [if_neg (by simp)]; rfl
  | x :: ts, h => by
    by_cases e : t = x
    · subst e
      rw [if_pos (by simp), List.map_cons]
      exact load_same _ _ _ _ _
    · rw [List.map_cons, load_apart v f (pc R x) (orect t) _ (orect_apart (h x (by simp)) ht (Ne.symm e)), pcs_read v f R t ht ts fun y hy => h y (List.mem_cons_of_mem _ hy)]
      by_cases m : t ∈ ts
      · rw [if_pos m, if_pos (List.mem_cons_of_mem _ m)]
      · rw [if_neg m, if_neg (by simp [e, m])]

section
variable {arg2 : Memref sig .tc .vmem S512x4096 .f32} {harg2 : arg2.IsWhole} {arg3 : Memref sig .tc .vmem S4096x512 .bf16} {harg3 : arg3.IsWhole} {arg4 : Memref sig .tc .vmem S256x4096 .bf16} {harg4 : arg4.IsWhole} {arg5 : Memref sig .tc .vmem S256x512 .bf16} {harg5 : arg5.IsWhole} {arg6 : Memref sig .tc .vmem S256x256 .bf16} {harg6 : arg6.IsWhole} {arg7 : Memref sig .tc .vmem S4096x256 .bf16} {harg7 : arg7.IsWhole} {arg8 : Memref sig .tc .vmem S4352x512 .f32} {harg8 : arg8.IsWhole} {arg9 : Memref sig .tc .vmem S4352x512 .f32} {harg9 : arg9.IsWhole} {X2 : BufTy.Contents (Elt F) arg2.view.ty} {X3 : BufTy.Contents (Elt F) arg3.view.ty} {X4 : BufTy.Contents (Elt F) arg4.view.ty} {X5 : BufTy.Contents (Elt F) arg5.view.ty} {X6 : BufTy.Contents (Elt F) arg6.view.ty}

/-- The result of block `t`. -/
def res (arg2 : Memref sig .tc .vmem S512x4096 .f32) (arg3 : Memref sig .tc .vmem S4096x512 .bf16) (arg4 : Memref sig .tc .vmem S256x4096 .bf16) (arg5 : Memref sig .tc .vmem S256x512 .bf16) (arg6 : Memref sig .tc .vmem S256x256 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (t : ℕ) : FVec F S512x128 .bf16 :=
  Attn.out (vl arg4 arg6 X4 X6 (t)) (sc arg2 arg3 arg5 X2 X3 X5 (t)) (mx (sc arg2 arg3 arg5 X2 X3 X5 (t)))

/-- What holds before trip `n`: the carried maximum and the first slot belong to block `4 * n`, and the blocks below it are done. -/
def Inv (arg2 : Memref sig .tc .vmem S512x4096 .f32) (arg3 : Memref sig .tc .vmem S4096x512 .bf16) (arg4 : Memref sig .tc .vmem S256x4096 .bf16) (arg5 : Memref sig .tc .vmem S256x512 .bf16) (arg6 : Memref sig .tc .vmem S256x256 .bf16) (arg7 : Memref sig .tc .vmem S4096x256 .bf16) (arg8 : Memref sig .tc .vmem S4352x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (n : ℕ) (m : FVec F S1x512 .f32) (f7 : BufTy.Contents (Elt F) arg7.view.ty) (f8 : BufTy.Contents (Elt F) arg8.view.ty) : Prop :=
  m = mx (sc arg2 arg3 arg5 X2 X3 X5 (4 * n)) ∧ (∀ c, c < 17 → rd8 arg8 f8 c = (sc arg2 arg3 arg5 X2 X3 X5 (4 * n)) c) ∧
    ∀ t, t < 4 * n → arg7.view.readAt (Elt F) (orect t).toLoadRect f7 = res arg2 arg3 arg4 arg5 arg6 X2 X3 X4 X5 X6 t

variable (𝒱 : Variants) (cd : Dev nD) (bd : Option 𝒱.V) (i : grid0.Coords) (v5 : FVec F S256x512 .bf16) (v131 : FVec F S8x512 .f32) (v133 : FVec F S256x256 .bf16) (k : Fin k0_t1_loop.trips)
variable (m : FVec F S1x512 .f32) (f7 : BufTy.Contents (Elt F) arg7.view.ty) (f8 : BufTy.Contents (Elt F) arg8.view.ty) (f9 : BufTy.Contents (Elt F) arg9.view.ty)

/-- A trip keeps it. -/
theorem inv_step (h : Inv arg2 arg3 arg4 arg5 arg6 arg7 arg8 X2 X3 X4 X5 X6 k.val m f7 f8) :
    Inv arg2 arg3 arg4 arg5 arg6 arg7 arg8 X2 X3 X4 X5 X6 (k.val + 1) ((trip 𝒱 cd bd i arg2 harg2 arg3 harg3 arg4 harg4 arg5 harg5 arg6 harg6 arg7 harg7 arg8 harg8 arg9 harg9 v5 v131 v133 X2 X3 X4 X5 X6 k).1 m f7 f8 f9)
      (arg7.view.writes (Elt F) f7 ((trip 𝒱 cd bd i arg2 harg2 arg3 harg3 arg4 harg4 arg5 harg5 arg6 harg6 arg7 harg7 arg8 harg8 arg9 harg9 v5 v131 v133 X2 X3 X4 X5 X6 k).2.1 m f7 f8 f9)) (arg8.view.writes (Elt F) f8 ((trip 𝒱 cd bd i arg2 harg2 arg3 harg3 arg4 harg4 arg5 harg5 arg6 harg6 arg7 harg7 arg8 harg8 arg9 harg9 v5 v131 v133 X2 X3 X4 X5 X6 k).2.2.1 m f7 f8 f9)) := by
  obtain ⟨hm, h8, h7⟩ := h
  have hk : k.val < 3 := lt_of_lt_of_eq k.isLt (by decide)
  have hlast : ∀ c, c < 17 → (rawS arg2 arg3 arg5 X2 X3 X5 k 3) c = (sc arg2 arg3 arg5 X2 X3 X5 (4 * (k.val + 1))) c := fun c hc => by
    rw [rawS_eq k 3 c hc]; rfl
  refine ⟨?_, ?_, ?_⟩
  · rw [trip_R]
    exact mx_congr hlast
  · intro c hc
    rw [trip_L8, rd8_slotL _ _ _ _ _ hc]
    exact hlast c hc
  · intro t ht
    have e : (trip 𝒱 cd bd i arg2 harg2 arg3 harg3 arg4 harg4 arg5 harg5 arg6 harg6 arg7 harg7 arg8 harg8 arg9 harg9 v5 v131 v133 X2 X3 X4 X5 X6 k).2.1 m f7 f8 f9 = [4 * k.val + 3, 4 * k.val + 2, 4 * k.val + 1, 4 * k.val].map (pc (res arg2 arg3 arg4 arg5 arg6 X2 X3 X4 X5 X6)) := by
      rw [trip_L7]
      simp only [List.map_cons, List.map_nil, pc, res]
      refine congrArg₂ _ ?_ (congrArg₂ _ ?_ (congrArg₂ _ ?_ (congrArg₂ _ ?_ rfl)))
      · refine opiece (off_o k 2) ?_
        refine out_congr (fun c hc => ?_) (fun c hc => ?_) (mx_congr fun c hc => ?_)
        · rw [rawV_eq k 2 c hc]; rfl
        · exact (by rw [rdL9_slotL _ _ _ c hc, rawS_eq k 2 c hc]; rfl)
        · rw [rawS_eq k 2 c hc]; rfl
      · refine opiece (off_o k 1) ?_
        refine out_congr (fun c hc => ?_) (fun c hc => ?_) (mx_congr fun c hc => ?_)
        · rw [rawV_eq k 1 c hc]; rfl
        · exact (by rw [← List.append_nil (slotL _), rdL8_slotL _ _ _ c hc, rawS_eq k 1 c hc]; rfl)
        · rw [rawS_eq k 1 c hc]; rfl
      · refine opiece (off_o k 0) ?_
        refine out_congr (fun c hc => ?_) (fun c hc => ?_) (mx_congr fun c hc => ?_)
        · rw [rawV_eq k 0 c hc]; rfl
        · exact (by rw [← List.append_nil (slotL _), rdL9_slotL _ _ _ c hc, rawS_eq k 0 c hc]; rfl)
        · rw [rawS_eq k 0 c hc]; rfl
      · refine opiece (off_o0 k) ?_
        exact out_congr (fun c hc => rawV1_eq k c hc) h8 hm
    rw [e, pcs_read _ _ _ t (by omega) _ (by simp; omega)]
    split
    · rfl
    · rename_i hn
      refine h7 t ?_
      simp at hn
      omega

/-- Before the first trip. -/
theorem inv_first (L : List (View.Piece (Elt F) S4352x512 .f32)) (hL : L = slotL (sc arg2 arg3 arg5 X2 X3 X5 (0))) (hm : m = mx (sc arg2 arg3 arg5 X2 X3 X5 (0))) :
    Inv arg2 arg3 arg4 arg5 arg6 arg7 arg8 X2 X3 X4 X5 X6 0 m f7 (arg8.view.writes (Elt F) arg8.view.junk L) := by
  subst hL; subst hm
  refine ⟨rfl, fun c hc => ?_, fun t ht => absurd ht (by omega)⟩
  rw [← List.append_nil (slotL _), rd8_slotL _ _ _ _ c hc]

/-- At the end every block is done. -/
theorem inv_last (h : Inv arg2 arg3 arg4 arg5 arg6 arg7 arg8 X2 X3 X4 X5 X6 k0_t1_loop.trips m f7 f8) (t : ℕ) (ht : t < 16) :
    arg7.view.readAt (Elt F) (orect t).toLoadRect (arg7.view.writes (Elt F) f7 ((body 𝒱 cd bd i arg2 harg2 arg3 harg3 arg4 harg4 arg5 harg5 arg6 harg6 arg7 harg7 arg8 harg8 arg9 harg9 X2 X3 X4 X5 X6).2.2.1 m f7 f8 f9)) = res arg2 arg3 arg4 arg5 arg6 X2 X3 X4 X5 X6 t := by
  obtain ⟨hm, h8, h7⟩ := h
  have e5 : k0_t1_loop.trips = 3 := by decide
  rw [e5] at hm h8 h7
  have e : (body 𝒱 cd bd i arg2 harg2 arg3 harg3 arg4 harg4 arg5 harg5 arg6 harg6 arg7 harg7 arg8 harg8 arg9 harg9 X2 X3 X4 X5 X6).2.2.1 m f7 f8 f9 = [15, 14, 13, 12].map (pc (res arg2 arg3 arg4 arg5 arg6 X2 X3 X4 X5 X6)) := by
    rw [body_L7]
    simp only [List.map_cons, List.map_nil, pc, res]
    refine congrArg₂ _ ?_ (congrArg₂ _ ?_ (congrArg₂ _ ?_ (congrArg₂ _ ?_ rfl)))
    · refine opiece rfl ?_
      refine out_congr (fun c hc => rfl) (fun c hc => ?_) rfl
      rw [rdL9_slotL _ _ _ c hc]
    · refine opiece rfl ?_
      refine out_congr (fun c hc => rfl) (fun c hc => ?_) rfl
      rw [← List.append_nil (slotL _), rdL8_slotL _ _ _ c hc]
    · refine opiece rfl ?_
      refine out_congr (fun c hc => rfl) (fun c hc => ?_) rfl
      rw [← List.append_nil (slotL _), rdL9_slotL _ _ _ c hc]
    · refine opiece rfl ?_
      exact out_congr (fun c hc => rfl) h8 hm
  rw [e, pcs_read _ _ _ t ht _ (by simp)]
  split
  · rfl
  · rename_i hn
    refine h7 t ?_
    simp at hn
    omega

end

end Cert.Kernel2Ideal.Attn

end
-- ==== Proof.Mla.Block.lean ====
/- The body of the latent attention kernel: the block it leaves, from the blocks it is given. -/
module

public import proofs.«01_k».proof.Proof.Mla.Inv

@[expose] public section

set_option maxRecDepth 16384
set_option maxHeartbeats 400000

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen Cert.Attn

variable {F : FTy → Type} [FloatOps F] [Named F]

local notation "𝕄" => MT nD τ sig Unit (Elt F) ℕ (UR sig nD τ) ℕ

/-- Block `t`'s scores, piece by piece, of the arrays the kernel is given. -/
def sB (x0 : Vec F S512x4096 .f32) (x1 : Vec F S4096x512 .bf16) (x3 : Vec F S256x512 .bf16) (t c : ℕ) : FVec F S256x512 .f32 :=
  score (fun j => x0 ((Rect.unit (s := S512x4096) ![256 * (t / 8 % 2), 512 * (t % 8)] S256x512.size (hq t)).toLoadRect.idx j))
    (if h : c < 16 then (fun j => x1 ((Rect.unit (s := S4096x512) ![256 * c, 256 * (t / 8 % 2)] S256x256.size (hk t c h)).toLoadRect.idx j))
      else fun j => x3 ((Rect.unit (s := S256x512) ![0, 256 * (t / 8 % 2)] S256x256.size (hkc t)).toLoadRect.idx j))

/-- Block `t`'s values, piece by piece. -/
def vB (x2 : Vec F S256x4096 .bf16) (x4 : Vec F S256x256 .bf16) (t c : ℕ) : FVec F S128x256 .bf16 :=
  if h : c < 16 then (fun j => x2 ((Rect.unit (s := S256x4096) ![128 * (t / 8 % 2), 256 * c] S128x256.size (hv t c h)).toLoadRect.idx j))
    else fun j => x4 ((Rect.unit (s := S256x256) ![128 * (t / 8 % 2), 0] S128x256.size (hvc t)).toLoadRect.idx j)

/-- Block `t`'s result. -/
def rB (x0 : Vec F S512x4096 .f32) (x1 : Vec F S4096x512 .bf16) (x2 : Vec F S256x4096 .bf16) (x3 : Vec F S256x512 .bf16) (x4 : Vec F S256x256 .bf16) (t : ℕ) : FVec F S512x128 .bf16 :=
  Attn.out (vB x2 x4 t) (sB x0 x1 x3 t) (mx (sB x0 x1 x3 t))

/-- Which block a place of the result belongs to, and its place in the block. -/
def tOf (y : S4096x256.Idx) : ℕ := 8 * ((y 1).val / 128) + (y 0).val / 512
def jOf (y : S4096x256.Idx) : S512x128.Idx :=
  Shape.pair (⟨(y 0).val % 512, Nat.mod_lt _ (by decide)⟩ : Fin 512) (⟨(y 1).val % 128, Nat.mod_lt _ (by decide)⟩ : Fin 128)

/-- What the kernel leaves in its output block. -/
def blockOut (x0 : Vec F S512x4096 .f32) (x1 : Vec F S4096x512 .bf16) (x2 : Vec F S256x4096 .bf16) (x3 : Vec F S256x512 .bf16) (x4 : Vec F S256x256 .bf16) : Vec F S4096x256 .bf16 := fun y => rB x0 x1 x2 x3 x4 (tOf y) (jOf y)

theorem tOf_lt (y : S4096x256.Idx) : tOf y < 16 := by
  have h0 : (y 0).val < 4096 := (y 0).isLt
  have h1 : (y 1).val < 256 := (y 1).isLt
  unfold tOf; omega

theorem idx_jOf (y : S4096x256.Idx) : (orect (tOf y)).toLoadRect.idx (jOf y) = y := by
  have h0 : (y 0).val < 4096 := (y 0).isLt
  have h1 : (y 1).val < 256 := (y 1).isLt
  funext a
  apply Fin.ext
  fin_cases a
  · show 512 * (tOf y % 8) + 1 * ((y 0).val % 512) = (y 0).val
    unfold tOf; omega
  · show 128 * (tOf y / 8 % 2) + 1 * ((y 1).val % 128) = (y 1).val
    unfold tOf; omega

section
variable {arg2 : Memref sig .tc .vmem S512x4096 .f32} {harg2 : arg2.IsWhole} {arg3 : Memref sig .tc .vmem S4096x512 .bf16} {harg3 : arg3.IsWhole} {arg4 : Memref sig .tc .vmem S256x4096 .bf16} {harg4 : arg4.IsWhole} {arg5 : Memref sig .tc .vmem S256x512 .bf16} {harg5 : arg5.IsWhole} {arg6 : Memref sig .tc .vmem S256x256 .bf16} {harg6 : arg6.IsWhole} {arg7 : Memref sig .tc .vmem S4096x256 .bf16} {harg7 : arg7.IsWhole} {arg8 : Memref sig .tc .vmem S4352x512 .f32} {harg8 : arg8.IsWhole} {arg9 : Memref sig .tc .vmem S4352x512 .f32} {harg9 : arg9.IsWhole}

theorem unread_at {s : Shape} {e : EltTy} {m : Memref sig .tc .vmem s e} (h : m.IsWhole) (x : Vec F s e) (r : Rect s) :
    View.readAt (Elt F) m.view r.toLoadRect (h.unread x) = fun j => x (r.toLoadRect.idx j) :=
  funext fun j => by rw [View.readAt_apply, h.read_unread]

variable (x0 : Vec F S512x4096 .f32) (x1 : Vec F S4096x512 .bf16) (x2 : Vec F S256x4096 .bf16) (x3 : Vec F S256x512 .bf16) (x4 : Vec F S256x256 .bf16)

/-- The run's scores, values and results are the arrays'. -/
theorem sc_unread (t c : ℕ) : sc arg2 arg3 arg5 (harg2.unread x0) (harg3.unread x1) (harg5.unread x3) t c = sB x0 x1 x3 t c := by
  rw [sc, sB, rdq, unread_at]
  by_cases h : c < 16
  · rw [dif_pos h, dif_pos h, rdk, unread_at]; rfl
  · rw [dif_neg h, dif_neg h, rdkc, unread_at]; rfl
theorem vl_unread (t c : ℕ) : vl arg4 arg6 (harg4.unread x2) (harg6.unread x4) t c = vB x2 x4 t c := by
  rw [vl, vB]
  by_cases h : c < 16
  · rw [dif_pos h, dif_pos h, rdv, unread_at]; rfl
  · rw [dif_neg h, dif_neg h, rdvc, unread_at]; rfl
theorem res_unread (t : ℕ) : res arg2 arg3 arg4 arg5 arg6 (harg2.unread x0) (harg3.unread x1) (harg4.unread x2) (harg5.unread x3) (harg6.unread x4) t = rB x0 x1 x2 x3 x4 t := by
  rw [res, rB]
  exact out_congr (fun c _ => vl_unread x2 x4 t c) (fun c _ => sc_unread x0 x1 x3 t c) (mx_congr fun c _ => sc_unread x0 x1 x3 t c)
end

/-- The body's triple: it leaves the inputs as they are and the output block at `blockOut`. -/
theorem block_run (𝒱 : Variants) (cd : Dev nD) (bd : Option 𝒱.V) (i : grid0.Coords) (arg2 : Memref sig .tc .vmem S512x4096 .f32) (harg2 : arg2.IsWhole) (arg3 : Memref sig .tc .vmem S4096x512 .bf16) (harg3 : arg3.IsWhole) (arg4 : Memref sig .tc .vmem S256x4096 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S4096x256 .bf16) (harg7 : arg7.IsWhole) (arg8 : Memref sig .tc .vmem S4352x512 .f32) (harg8 : arg8.IsWhole) (arg9 : Memref sig .tc .vmem S4352x512 .f32) (harg9 : arg9.IsWhole)
    (x0 : Vec F S512x4096 .f32) (x1 : Vec F S4096x512 .bf16) (x2 : Vec F S256x4096 .bf16) (x3 : Vec F S256x512 .bf16) (x4 : Vec F S256x256 .bf16) (E : Set ℕ) (K : PUnit → sProp 𝕄) :
    iprop(owns (cd : Thread nD τ) arg2 fullShare x0 ∗ owns (cd : Thread nD τ) arg3 fullShare x1 ∗ owns (cd : Thread nD τ) arg4 fullShare x2 ∗ owns (cd : Thread nD τ) arg5 fullShare x3 ∗ owns (cd : Thread nD τ) arg6 fullShare x4
        ∗ (∃ d, owns (cd : Thread nD τ) arg7 fullShare d) ∗ (∃ d, owns (cd : Thread nD τ) arg8 fullShare d) ∗ (∃ d, owns (cd : Thread nD τ) arg9 fullShare d)
        ∗ (iprop(owns (cd : Thread nD τ) arg2 fullShare x0 ∗ owns (cd : Thread nD τ) arg3 fullShare x1 ∗ owns (cd : Thread nD τ) arg4 fullShare x2 ∗ owns (cd : Thread nD τ) arg5 fullShare x3 ∗ owns (cd : Thread nD τ) arg6 fullShare x4
          ∗ owns (cd : Thread nD τ) arg7 fullShare (blockOut x0 x1 x2 x3 x4) ∗ (∃ d, owns (cd : Thread nD τ) arg8 fullShare d) ∗ (∃ d, owns (cd : Thread nD τ) arg9 fullShare d)) -∗ K ⟨⟩))
      ⊢ wp frame (wpE (defs₀ (F := F)) 𝒱 (cd : Thread nD τ) bd) E (cc0_attention (F := F) i arg2 harg2 arg3 harg3 arg4 harg4 arg5 harg5 arg6 harg6 arg7 harg7 arg8 harg8 arg9 harg9) K := by
  unfold owns
  iintro ⟨⟨%f0, %hf0, H2⟩, ⟨%f1, %hf1, H3⟩, ⟨%f2, %hf2, H4⟩, ⟨%f3, %hf3, H5⟩, ⟨%f4, %hf4, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  iapply ((body 𝒱 cd bd i arg2 harg2 arg3 harg3 arg4 harg4 arg5 harg5 arg6 harg6 arg7 harg7 arg8 harg8 arg9 harg9 (harg2.unread x0) (harg3.unread x1) (harg4.unread x2) (harg5.unread x3) (harg6.unread x4)).2.2.2.2.2 E K (fun n m f7 f8 f9 => Inv arg2 arg3 arg4 arg5 arg6 arg7 arg8 (harg2.unread x0) (harg3.unread x1) (harg4.unread x2) (harg5.unread x3) (harg6.unread x4) n m f7 f8) f7 f8 f9
    (fun g9 => inv_first _ f7 _ (body_L80 𝒱 cd bd i arg2 harg2 arg3 harg3 arg4 harg4 arg5 harg5 arg6 harg6 arg7 harg7 arg8 harg8 arg9 harg9 (harg2.unread x0) (harg3.unread x1) (harg4.unread x2) (harg5.unread x3) (harg6.unread x4)) (body_M0 𝒱 cd bd i arg2 harg2 arg3 harg3 arg4 harg4 arg5 harg5 arg6 harg6 arg7 harg7 arg8 harg8 arg9 harg9 (harg2.unread x0) (harg3.unread x1) (harg4.unread x2) (harg5.unread x3) (harg6.unread x4))) (fun _ _ _ k m f7 f8 f9 h => inv_step 𝒱 cd bd i _ _ _ k m f7 f8 f9 h))
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %m %g7 %g8 %g9 %hP ⟨H2, H3, H4, H5, H6, H7, H8, H9⟩
  iapply Hk
  isplitl [H2]; · iexists _; isplitr; swap; · iexact H2
                  ipureintro; exact harg2.read_unread _
  isplitl [H3]; · iexists _; isplitr; swap; · iexact H3
                  ipureintro; exact harg3.read_unread _
  isplitl [H4]; · iexists _; isplitr; swap; · iexact H4
                  ipureintro; exact harg4.read_unread _
  isplitl [H5]; · iexists _; isplitr; swap; · iexact H5
                  ipureintro; exact harg5.read_unread _
  isplitl [H6]; · iexists _; isplitr; swap; · iexact H6
                  ipureintro; exact harg6.read_unread _
  isplitl [H7]
  · iexists _; isplitr; swap; · iexact H7
    ipureintro
    funext y
    have e := congrFun (inv_last (harg2 := harg2) (harg3 := harg3) (harg4 := harg4) (harg5 := harg5) (harg6 := harg6) (harg7 := harg7) (harg8 := harg8) (harg9 := harg9) 𝒱 cd bd i m g7 g8 g9 hP (tOf y) (tOf_lt y)) (jOf y)
    rw [View.readAt_apply, idx_jOf, res_unread] at e
    exact e
  isplitl [H8]
  · iexists _, _; isplitr; swap; · iexact H8
    ipureintro; rfl
  iexists _, _; isplitr; swap; · iexact H9
  ipureintro; rfl

end Cert.Kernel2Ideal.Attn

end
-- ==== Proof.Mla.Launch.lean ====
/- The launch of the latent attention kernel: its frame and the array it leaves. -/
module

public import proofs.«01_k».proof.Proof.Mla.Block
public import proofs.«01_k».proof.Proof.Gen.Kernel2Ideal.Frame
public import proofs.«01_k».proof.Proof.Gen.Kernel2Ideal.Points
public import Idealize.ShloMosaic.Lib.Claim

@[expose] public section

set_option maxRecDepth 16384

noncomputable section

namespace Cert.Kernel2Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen Cert.Attn

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a grid point leaves in its output block. -/
def outBlk (c : Dev nD) (t : Fin cfg0.N) : Vec F S4096x256 .bf16 :=
  blockOut (iblk m c 0 t) (iblk m c 1 t) (iblk m c 2 t) (iblk m c 3 t) (iblk m c 4 t)

/-- The launch's data: the inputs stay, the output block is `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The rest of the core's scoped memory is the two slots and the generator register. -/
theorem phi_eq (c : Dev nD) : (Pipeline.ΦA spec0 c : sProp 𝕄) =
    iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA
  rw [scopedRest0_eq]
  simp only [owns_whole]
  try rfl

/-- What the body is called with at a point, and what it returns. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point of the grid. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (block_run Variants.none c none (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The launch: every array ends as the data say, every counter at zero. -/
theorem launch_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launch_quiescent m ρ)))
    ((θ_run defs _ _).mono (fun _ h => h.2) (launch_quiescent m ρ))

/-- The result array ends as the data say, the arguments unchanged. -/
theorem value_run : θ_run defs (onTc (τ := τ) (main (F := F))) ⟨m, fun _ => 0, ρ⟩ (fun r => ∀ c : Dev nD,
      r.2.mem ((c.tc : Thread nD τ).loc main_v15) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c).1 5, h.2 c⟩)
    (θ_run_and (launch_quiescent m ρ) (frame_of m ρ (dats m) (A_eq m) ((θ_run defs _ _).mono (fun _ h => h.1) (launch_quiescent m ρ))))

end Cert.Kernel2Ideal.Attn

end
-- ==== Proof.Mla.Frames.lean ====
/- The latent attention's frames: the printed kernel's and its idealization's. -/
module

public import proofs.«01_k».proof.Proof.Mla.Launch
public import proofs.«01_k».proof.Defs
public import proofs.«01_k».proof.Proof.Gen.Kernel2
public import proofs.«01_k».proof.Proof.Gen.Kernel2Ideal

@[expose] public section

noncomputable section

namespace Cert.Kernel2Ideal.Attn

open Idealize.ShloMosaic Idealize.SL.Sem

/-- The named constants read as the bits they are printed from. -/
@[instance_reducible] def bitsNamed : Named Bits := ⟨fun _ _ φ bits => Scalar.ofBits φ bits⟩

/-- The printed kernel's body is the idealization's with every named constant read as its bits. -/
theorem body_same : @Cert.Kernel2.cc0_attention Bits _ Cert.Kernel2.Gen.facts = @Cert.Kernel2Ideal.cc0_attention Bits _ bitsNamed Cert.Kernel2Ideal.Gen.facts := by with_unfolding_all rfl

/-- So are the rows of the two programs' labels. -/
theorem rows_same : @Cert.Kernel2.defs₀ Bits _ Cert.Kernel2.Gen.facts = @Cert.Kernel2Ideal.defs₀ Bits _ bitsNamed Cert.Kernel2Ideal.Gen.facts := by
  unfold Cert.Kernel2.defs₀ Cert.Kernel2Ideal.defs₀
  rw [body_same]
  refine congrArg Defs.onTc ?_
  funext l a
  rcases l with ⟨_ | n, h⟩
  · rcases a with ⟨t, s⟩
    with_unfolding_all rfl
  · exact absurd h (Nat.not_lt.2 (Nat.le_add_left _ _))

/-- And the two programs' definitions. -/
theorem defs_same : @Cert.Kernel2.defs Bits _ Cert.Kernel2.Gen.facts = @Cert.Kernel2Ideal.defs Bits _ bitsNamed Cert.Kernel2Ideal.Gen.facts := by
  unfold Cert.Kernel2.defs Cert.Kernel2Ideal.defs
  rw [rows_same]
  with_unfolding_all rfl

/-- The printed kernel's frame, by its text being the idealization's. -/
theorem kernel_quiescent : Cert.quiescent_Kernel2 (hKernel2 := Cert.Kernel2.Gen.facts) := by
  intro m g _
  have h := @frame_run Bits _ bitsNamed m g
  rw [← defs_same] at h
  with_unfolding_all exact h

/-- The idealization's frame. -/
theorem ideal_quiescent : Cert.quiescent_Kernel2Ideal (hKernel2Ideal := Cert.Kernel2Ideal.Gen.facts) :=
  fun m g _ => frame_run m g

end Cert.Kernel2Ideal.Attn

end
-- ==== Proof.Mla.Target.lean ====
/- The latent attention's result, read at an index of the arguments. -/
module

public import proofs.«01_k».proof.Proof.Attn.Soft
public import Idealize.ShloMosaic.Lib.ValueIdx

@[expose] public section

noncomputable section

namespace Cert.Attn.Mla

open Idealize.ShloMosaic
open Idealize.ShloMosaic.ValueIdx (ix1 ix2 ix3 ix4 ix5)
open scoped BigOperators

/-- The shapes of the queries, the latent keys and values, the context's keys and values, and the result. -/
abbrev SQ : Shape := ⟨5, ![8, 4096, 8, 1, 192]⟩
abbrev SK : Shape := ⟨4, ![8, 4096, 8, 192]⟩
abbrev SV : Shape := ⟨4, ![8, 4096, 8, 128]⟩
abbrev SC : Shape := ⟨4, ![8, 256, 8, 192]⟩
abbrev SD : Shape := ⟨4, ![8, 256, 8, 128]⟩
abbrev SO : Shape := ⟨2, ![32768, 1024]⟩

/-- Row `p` of a batch's keys (or values), the context's rows after the latent ones. -/
def keyAt {n : ℕ} {α : Type} (x : (⟨4, ![8, 4096, 8, n]⟩ : Shape).Idx → α) (z : (⟨4, ![8, 256, 8, n]⟩ : Shape).Idx → α)
    (b : Fin 8) (g : Fin 8) (p : Fin 4352) (k : Fin n) : α :=
  if h : p.val < 4096 then x (ix4 b ⟨p.val, h⟩ g k) else z (ix4 b ⟨p.val - 4096, by omega⟩ g k)

/-- The scaled score of a query against a key. -/
def scoreAt (q : SQ.Idx → ℝ) (x : SK.Idx → ℝ) (z : SC.Idx → ℝ) (b g : Fin 8) (i : Fin 4096) (p : Fin 4352) : ℝ :=
  (∑ k : Fin 192, keyAt x z b g p k * q (ix5 b i g (0 : Fin 1) k)) * (Real.sqrt 192)⁻¹

/-- The attention's result at a batch, a head, a query and a coordinate. -/
def target (q : SQ.Idx → ℝ) (x : SK.Idx → ℝ) (z : SC.Idx → ℝ) (v : SV.Idx → EReal) (w : SD.Idx → EReal)
    (b g : Fin 8) (i : Fin 4096) (d : Fin 128) : EReal :=
  soft (fun p => keyAt v w b g p d) (scoreAt q x z b g i)

/-- The result array, as the attention of the arguments. -/
def result (q : SQ.Idx → ℝ) (x : SK.Idx → ℝ) (z : SC.Idx → ℝ) (v : SV.Idx → EReal) (w : SD.Idx → EReal) : SO.Idx → EReal := fun i =>
  target q x z v w (⟨(i 0).val / 4096, by have : (i 0).val < 32768 := (i 0).isLt; omega⟩ : Fin 8) (⟨(i 1).val / 128, by have : (i 1).val < 1024 := (i 1).isLt; omega⟩ : Fin 8)
    (⟨(i 0).val % 4096, Nat.mod_lt _ (by decide)⟩ : Fin 4096) (⟨(i 1).val % 128, Nat.mod_lt _ (by decide)⟩ : Fin 128)

/-- A sum over 256 lanes whose lanes from 192 on are zero. -/
theorem sum_lanes (f : Fin 256 → EReal) (h : ∀ k, 192 ≤ k.val → f k = 0) : ∑ k, f k = ∑ k : Fin 192, f ⟨k.val, by omega⟩ := by
  refine (Fin.sum_univ_add (a := 192) (b := 64) f).trans ?_
  rw [Finset.sum_eq_zero (s := Finset.univ) (f := fun i : Fin 64 => f (Fin.natAdd 192 i)) fun i _ => h _ (by show 192 ≤ 192 + i.val; omega), add_zero]
  rfl

/-- A sum of products of reals, one factor scaled, is a real. -/
theorem dot_real {n : ℕ} (f g : Fin n → ℝ) (s : ℝ) :
    ∑ k, (f k : EReal) * ((g k : EReal) * (s : EReal)) = (((∑ k, f k * g k) * s : ℝ) : EReal) := by
  rw [Finset.sum_mul, coe_sum']
  exact Finset.sum_congr rfl fun k _ => by rw [← EReal.coe_mul, ← EReal.coe_mul, mul_assoc]

end Cert.Attn.Mla

end
-- ==== Proof.Mla.Value.lean ====
/- What the latent attention kernel's launch leaves, at the ideal values. -/
module

public import proofs.«01_k».proof.Proof.Mla.Launch
public import proofs.«01_k».proof.Proof.Mla.Target
public import proofs.«01_k».proof.Proof.Attn.Ideal
public import Idealize.ShloMosaic.Lib.KernelVsHost
public import Idealize.ShloMosaic.Lib.StableHlo.Run
public import Idealize.ShloMosaic.Lib.Pipeline.ValueKit.Geometry

@[expose] public section

set_option maxRecDepth 16384

noncomputable section

namespace Cert.Kernel2Ideal.Attn

open Idealize.ShloMosaic hiding ix1 ix2 ix3 ix4 ix5
open Idealize.ShloMosaic.ValueIdx (ix1 ix2 ix3 ix4 ix5 constant_apply truncf_apply)
open Idealize.SL.Sem Idealize.ShloMosaic.TcCoe
open Cert.Kernel2Ideal Cert.Kernel2Ideal.Gen Cert.Attn Cert.Attn.Mla

variable (m : (ℓ : Loc nD τ sig) → Buf (Elt Ideal) ℓ)

/-- The arguments' contents at launch. -/
abbrev a0 (c : Dev nD) : SQ.Idx → EReal := m ((c.tc : Thread nD τ).loc main_arg0)
abbrev a1 (c : Dev nD) : SK.Idx → EReal := m ((c.tc : Thread nD τ).loc main_arg1)
abbrev a2 (c : Dev nD) : SV.Idx → EReal := m ((c.tc : Thread nD τ).loc main_arg2)
abbrev a3 (c : Dev nD) : SC.Idx → EReal := m ((c.tc : Thread nD τ).loc main_arg3)
abbrev a4 (c : Dev nD) : SD.Idx → EReal := m ((c.tc : Thread nD τ).loc main_arg4)

/-- The queries and the keys, with zeros after their lanes. -/
def p0 (c : Dev nD) : FVec Ideal S8x4096x8x1x256 .f32 :=
  pad S8x4096x8x1x256 ![0, 0, 0, 0, 0] ![0, 0, 0, 0, 64] ![0, 0, 0, 0, 0] (a0 m c) (sitofp .f32 (constantI S_ 32 0#32)) pads_S8x4096x8x1x192_S8x4096x8x1x256_000_000_000_000_0640 h_S_
def p1 (c : Dev nD) : FVec Ideal S8x4096x8x256 .f32 :=
  pad S8x4096x8x256 ![0, 0, 0, 0] ![0, 0, 0, 64] ![0, 0, 0, 0] (a1 m c) (sitofp .f32 (constantI S_ 32 0#32)) pads_S8x4096x8x192_S8x4096x8x256_000_000_000_0640 h_S_
def p3 (c : Dev nD) : FVec Ideal S8x256x8x256 .f32 :=
  pad S8x256x8x256 ![0, 0, 0, 0] ![0, 0, 0, 64] ![0, 0, 0, 0] (a3 m c) (sitofp .f32 (constantI S_ 32 0#32)) pads_S8x256x8x192_S8x256x8x256_000_000_000_0640 h_S_

theorem V_q (c : Dev nD) : V m c main_v2 = transpose S2048x32768 [1, 0] (shapeCast S32768x2048 (p0 m c) shapeCasts_S8x4096x8x1x256_S32768x2048) transposes_S32768x2048_S2048x32768_1_0 := by
  unfold V; after_results <;> rfl
theorem V_k (c : Dev nD) : V m c main_v5 = shapeCast S32768x2048 (p1 m c) shapeCasts_S8x4096x8x256_S32768x2048 := by
  unfold V
  simp only [List.flatten_cons, List.flatten_nil, List.cons_append, List.nil_append, List.append_nil]
  after_results <;> rfl
theorem V_v (c : Dev nD) : V m c main_v8 = transpose S1024x32768 [1, 0] (shapeCast S32768x1024 (a2 m c) shapeCasts_S8x4096x8x128_S32768x1024) transposes_S32768x1024_S1024x32768_1_0 := by
  unfold V; after_results <;> rfl
theorem V_kc (c : Dev nD) : V m c main_v11 = shapeCast S2048x2048 (p3 m c) shapeCasts_S8x256x8x256_S2048x2048 := by
  unfold V
  simp only [List.flatten_cons, List.flatten_nil, List.cons_append, List.nil_append, List.append_nil]
  after_results <;> rfl
theorem V_vc (c : Dev nD) : V m c main_v14 = transpose S1024x2048 [1, 0] (shapeCast S2048x1024 (a4 m c) shapeCasts_S8x256x8x128_S2048x1024) transposes_S2048x1024_S1024x2048_1_0 := by
  unfold V; after_results <;> rfl

/-- The lanes added are zero. -/
theorem lane_zero : (sitofp (F := Ideal) .f32 (constantI S_ 32 0#32)) (Shape.Idx.first h_S_) = (0 : EReal) := by
  show (((0#32 : BitVec 32).toInt : ℝ) : EReal) = 0
  simp

theorem p0_lane (c : Dev nD) (b : Fin 8) (i : Fin 4096) (g : Fin 8) (k : Fin 256) (h : k.val < 192) :
    p0 m c (ix5 b i g (0 : Fin 1) k) = a0 m c (ix5 b i g (0 : Fin 1) (⟨k.val, h⟩ : Fin 192)) :=
  pad_apply_of_inside (s := S8x4096x8x1x192) (t := S8x4096x8x1x256) _ _ _ _ _ _ _ _ _ (by intro a; fin_cases a <;> simp)
theorem p0_zero (c : Dev nD) (b : Fin 8) (i : Fin 4096) (g : Fin 8) (k : Fin 256) (h : 192 ≤ k.val) :
    p0 m c (ix5 b i g (0 : Fin 1) k) = (0 : EReal) :=
  (pad_apply_of_not_inside (s := S8x4096x8x1x192) (t := S8x4096x8x1x256) _ _ _ _ _ _ _ _ (4 : Fin 5) fun ha => by
    have := ha.2.2
    change (k.val - 0) / 1 < 192 at this
    omega).trans lane_zero
theorem p1_lane (c : Dev nD) (b : Fin 8) (r : Fin 4096) (g : Fin 8) (k : Fin 256) (h : k.val < 192) :
    p1 m c (ix4 b r g k) = a1 m c (ix4 b r g (⟨k.val, h⟩ : Fin 192)) :=
  pad_apply_of_inside (s := S8x4096x8x192) (t := S8x4096x8x256) _ _ _ _ _ _ _ _ _ (by intro a; fin_cases a <;> simp)
theorem p1_zero (c : Dev nD) (b : Fin 8) (r : Fin 4096) (g : Fin 8) (k : Fin 256) (h : 192 ≤ k.val) :
    p1 m c (ix4 b r g k) = (0 : EReal) :=
  (pad_apply_of_not_inside (s := S8x4096x8x192) (t := S8x4096x8x256) _ _ _ _ _ _ _ _ (3 : Fin 4) fun ha => by
    have := ha.2.2
    change (k.val - 0) / 1 < 192 at this
    omega).trans lane_zero
theorem p3_lane (c : Dev nD) (b : Fin 8) (r : Fin 256) (g : Fin 8) (k : Fin 256) (h : k.val < 192) :
    p3 m c (ix4 b r g k) = a3 m c (ix4 b r g (⟨k.val, h⟩ : Fin 192)) :=
  pad_apply_of_inside (s := S8x256x8x192) (t := S8x256x8x256) _ _ _ _ _ _ _ _ _ (by intro a; fin_cases a <;> simp)
theorem p3_zero (c : Dev nD) (b : Fin 8) (r : Fin 256) (g : Fin 8) (k : Fin 256) (h : 192 ≤ k.val) :
    p3 m c (ix4 b r g k) = (0 : EReal) :=
  (pad_apply_of_not_inside (s := S8x256x8x192) (t := S8x256x8x256) _ _ _ _ _ _ _ _ (3 : Fin 4) fun ha => by
    have := ha.2.2
    change (k.val - 0) / 1 < 192 at this
    omega).trans lane_zero

/-- A grid point's batch and pair of heads. -/
abbrev bt (t : Fin cfg0.N) : Fin 8 := ⟨(grid0.coords t 0).val, (grid0.coords t 0).isLt⟩
abbrev gr (t : Fin cfg0.N) : Fin 4 := ⟨(grid0.coords t 1).val, (grid0.coords t 1).isLt⟩

theorem ind_0 : ∀ t : Fin cfg0.N, win0_0.index t = ![(grid0.coords t 1).val, (grid0.coords t 0).val] := (by decide +kernel : ∀ t : Fin grid0.N, _)
theorem ind_1 : ∀ t : Fin cfg0.N, win0_1.index t = ![(grid0.coords t 0).val, (grid0.coords t 1).val] := (by decide +kernel : ∀ t : Fin grid0.N, _)
theorem ind_2 : ∀ t : Fin cfg0.N, win0_2.index t = ![(grid0.coords t 1).val, (grid0.coords t 0).val] := (by decide +kernel : ∀ t : Fin grid0.N, _)
theorem ind_3 : ∀ t : Fin cfg0.N, win0_3.index t = ![(grid0.coords t 0).val, (grid0.coords t 1).val] := (by decide +kernel : ∀ t : Fin grid0.N, _)
theorem ind_4 : ∀ t : Fin cfg0.N, win0_4.index t = ![(grid0.coords t 1).val, (grid0.coords t 0).val] := (by decide +kernel : ∀ t : Fin grid0.N, _)
theorem ind_5 : ∀ t : Fin cfg0.N, win0_5.index t = ![(grid0.coords t 0).val, (grid0.coords t 1).val] := (by decide +kernel : ∀ t : Fin grid0.N, _)

/-- A head of the grid point's pair. -/
abbrev hd (t : Fin cfg0.N) (h : Fin 2) : Fin 8 := ⟨2 * (gr t).val + h.val, by have := (gr t).isLt; omega⟩

/-- The blocks' elements, read from the arguments. -/
theorem in_0 (c : Dev nD) (t : Fin cfg0.N) (j : S512x4096.Idx) (i : Fin 4096) (h : Fin 2) (k : Fin 256)
    (h0 : (j 0).val = 256 * h.val + k.val) (h1 : (j 1).val = i.val) : iblk m c 0 t j = p0 m c (ix5 (bt t) i (hd t h) (0 : Fin 1) k) := by
  have hb := (bt t).isLt
  have hg := (gr t).isLt
  have e : iblk m c 0 t j = V m c main_v2 (ix2 (⟨512 * (gr t).val + (256 * h.val + k.val), by omega⟩ : Fin 2048) (⟨4096 * (bt t).val + i.val, by omega⟩ : Fin 32768)) := by
    blk_simp [iblk]
    refine congrArg (V m c main_v2) ?_
    blk_ext [ind_0]
  rw [e, V_q, transpose_apply (s := S32768x2048) (t := S2048x32768) [1, 0] _ _ _ (ix2 (⟨4096 * (bt t).val + i.val, by omega⟩ : Fin 32768) (⟨512 * (gr t).val + (256 * h.val + k.val), by omega⟩ : Fin 2048)) (by intro b; fin_cases b <;> rfl)]
  refine shapeCast_apply _ _ _ _ ?_
  rewrite [Shape.rowMajor_val_five, Shape.rowMajor_val_two]
  show (((((bt t).val * 4096 + i.val) * 8 + (2 * (gr t).val + h.val)) * 1 + 0) * 256 + k.val) = (4096 * (bt t).val + i.val) * 2048 + (512 * (gr t).val + (256 * h.val + k.val))
  omega

theorem in_1 (c : Dev nD) (t : Fin cfg0.N) (j : S4096x512.Idx) (r : Fin 4096) (h : Fin 2) (k : Fin 256)
    (h0 : (j 0).val = r.val) (h1 : (j 1).val = 256 * h.val + k.val) : iblk m c 1 t j = p1 m c (ix4 (bt t) r (hd t h) k) := by
  have hb := (bt t).isLt
  have hg := (gr t).isLt
  have e : iblk m c 1 t j = V m c main_v5 (ix2 (⟨4096 * (bt t).val + r.val, by omega⟩ : Fin 32768) (⟨512 * (gr t).val + (256 * h.val + k.val), by omega⟩ : Fin 2048)) := by
    blk_simp [iblk]
    refine congrArg (V m c main_v5) ?_
    blk_ext [ind_1]
  rw [e, V_k]
  refine shapeCast_apply _ _ _ _ ?_
  rewrite [Shape.rowMajor_val_four, Shape.rowMajor_val_two]
  show ((((bt t).val * 4096 + r.val) * 8 + (2 * (gr t).val + h.val)) * 256 + k.val) = (4096 * (bt t).val + r.val) * 2048 + (512 * (gr t).val + (256 * h.val + k.val))
  omega

theorem in_2 (c : Dev nD) (t : Fin cfg0.N) (j : S256x4096.Idx) (r : Fin 4096) (h : Fin 2) (k : Fin 128)
    (h0 : (j 0).val = 128 * h.val + k.val) (h1 : (j 1).val = r.val) : iblk m c 2 t j = a2 m c (ix4 (bt t) r (hd t h) k) := by
  have hb := (bt t).isLt
  have hg := (gr t).isLt
  have e : iblk m c 2 t j = V m c main_v8 (ix2 (⟨256 * (gr t).val + (128 * h.val + k.val), by omega⟩ : Fin 1024) (⟨4096 * (bt t).val + r.val, by omega⟩ : Fin 32768)) := by
    blk_simp [iblk]
    refine congrArg (V m c main_v8) ?_
    blk_ext [ind_2]
  rw [e, V_v, transpose_apply (s := S32768x1024) (t := S1024x32768) [1, 0] _ _ _ (ix2 (⟨4096 * (bt t).val + r.val, by omega⟩ : Fin 32768) (⟨256 * (gr t).val + (128 * h.val + k.val), by omega⟩ : Fin 1024)) (by intro b; fin_cases b <;> rfl)]
  refine shapeCast_apply _ _ _ _ ?_
  rewrite [Shape.rowMajor_val_four, Shape.rowMajor_val_two]
  show ((((bt t).val * 4096 + r.val) * 8 + (2 * (gr t).val + h.val)) * 128 + k.val) = (4096 * (bt t).val + r.val) * 1024 + (256 * (gr t).val + (128 * h.val + k.val))
  omega

theorem in_3 (c : Dev nD) (t : Fin cfg0.N) (j : S256x512.Idx) (r : Fin 256) (h : Fin 2) (k : Fin 256)
    (h0 : (j 0).val = r.val) (h1 : (j 1).val = 256 * h.val + k.val) : iblk m c 3 t j = p3 m c (ix4 (bt t) r (hd t h) k) := by
  have hb := (bt t).isLt
  have hg := (gr t).isLt
  have e : iblk m c 3 t j = V m c main_v11 (ix2 (⟨256 * (bt t).val + r.val, by omega⟩ : Fin 2048) (⟨512 * (gr t).val + (256 * h.val + k.val), by omega⟩ : Fin 2048)) := by
    blk_simp [iblk]
    refine congrArg (V m c main_v11) ?_
    blk_ext [ind_3]
  rw [e, V_kc]
  refine shapeCast_apply _ _ _ _ ?_
  rewrite [Shape.rowMajor_val_four, Shape.rowMajor_val_two]
  show ((((bt t).val * 256 + r.val) * 8 + (2 * (gr t).val + h.val)) * 256 + k.val) = (256 * (bt t).val + r.val) * 2048 + (512 * (gr t).val + (256 * h.val + k.val))
  omega

theorem in_4 (c : Dev nD) (t : Fin cfg0.N) (j : S256x256.Idx) (r : Fin 256) (h : Fin 2) (k : Fin 128)
    (h0 : (j 0).val = 128 * h.val + k.val) (h1 : (j 1).val = r.val) : iblk m c 4 t j = a4 m c (ix4 (bt t) r (hd t h) k) := by
  have hb := (bt t).isLt
  have hg := (gr t).isLt
  have e : iblk m c 4 t j = V m c main_v14 (ix2 (⟨256 * (gr t).val + (128 * h.val + k.val), by omega⟩ : Fin 1024) (⟨256 * (bt t).val + r.val, by omega⟩ : Fin 2048)) := by
    blk_simp [iblk]
    refine congrArg (V m c main_v14) ?_
    blk_ext [ind_4]
  rw [e, V_vc, transpose_apply (s := S2048x1024) (t := S1024x2048) [1, 0] _ _ _ (ix2 (⟨256 * (bt t).val + r.val, by omega⟩ : Fin 2048) (⟨256 * (gr t).val + (128 * h.val + k.val), by omega⟩ : Fin 1024)) (by intro b; fin_cases b <;> rfl)]
  refine shapeCast_apply _ _ _ _ ?_
  rewrite [Shape.rowMajor_val_four, Shape.rowMajor_val_two]
  show ((((bt t).val * 256 + r.val) * 8 + (2 * (gr t).val + h.val)) * 128 + k.val) = (256 * (bt t).val + r.val) * 1024 + (256 * (gr t).val + (128 * h.val + k.val))
  omega

/-- A piece's scores: keys against scaled queries. -/
theorem score_apply (q : Vec Ideal S256x512 .f32) (x : Vec Ideal S256x256 .bf16) (r : Fin 256) (j : Fin 512) :
    score q x (ix2 r j) = ∑ k : Fin 256, x (ix2 r k) * (q (ix2 k j) * (((Real.sqrt 192)⁻¹ * (Real.log 2)⁻¹ : ℝ) : EReal)) := by
  show FloatOps.matmul (DotDims.plain 256 256 512) none (shapeCast S256x256 x shapeCasts_S256x256_S256x256) (k0_pay2 q) (constant S256x512 .f32 0x00000000#32) (ix2 r j) = _
  rw [Ideal.matmul_plain_apply, constant_apply, zero_word, zero_add, shapeCast_id]
  refine Finset.sum_congr rfl fun k _ => ?_
  refine congrArg (x (ix2 r k) * ·) ?_
  show shapeCast S256x512 q _ (ix2 k j) * _ = _
  rw [shapeCast_id]
  rfl

section
variable (c : Dev nD) (t : Fin cfg0.N) (q0 : SQ.Idx → ℝ) (k0 : SK.Idx → ℝ) (c0 : SC.Idx → ℝ)
  (hq : ∀ i, a0 m c i = (q0 i : EReal)) (hk : ∀ i, a1 m c i = (k0 i : EReal)) (hc : ∀ i, a3 m c i = (c0 i : EReal))

include hk hc in
/-- The joined keys' lanes: the arguments', then zeros. -/
theorem key_lane (b g : Fin 8) (p : Fin 4352) (k : Fin 192) :
    keyAt (p1 m c) (p3 m c) b g p (⟨k.val, by omega⟩ : Fin 256) = ((keyAt k0 c0 b g p k : ℝ) : EReal) := by
  unfold keyAt
  split_ifs with h
  · rw [p1_lane m c b _ g _ k.isLt]
    exact hk _
  · rw [p3_lane m c b _ g _ k.isLt]
    exact hc _

include hq hk hc in
/-- A block's scores, in units of `log 2`. -/
theorem sB_apply (y : S4096x256.Idx) (h : Fin 2) (hh : h.val = (y 1).val / 128) (i : Fin 4096) (hi : i.val = (y 0).val) (p : Fin 17 × Fin 256) :
    sB (iblk m c 0 t) (iblk m c 1 t) (iblk m c 3 t) (tOf y) p.1.val (ix2 p.2 (⟨(y 0).val % 512, Nat.mod_lt _ (by decide)⟩ : Fin 512))
      = ((scoreAt q0 k0 c0 (bt t) (hd t h) i (finProdFinEquiv p) * (Real.log 2)⁻¹ : ℝ) : EReal) := by
  have hy0 : (y 0).val < 4096 := (y 0).isLt
  have hy1 : (y 1).val < 256 := (y 1).isLt
  obtain ⟨n, r⟩ := p
  have hn := n.isLt
  have hr := r.isLt
  have hv : (finProdFinEquiv (n, r)).val = r.val + 256 * n.val := rfl
  have hT : tOf y / 8 % 2 = h.val := by unfold tOf; omega
  have eq : ∀ k : Fin 256, iblk m c 0 t ((Rect.unit (s := S512x4096) ![256 * (tOf y / 8 % 2), 512 * (tOf y % 8)] S256x512.size (Attn.hq (tOf y))).toLoadRect.idx (ix2 k (⟨(y 0).val % 512, Nat.mod_lt _ (by decide)⟩ : Fin 512)))
      = p0 m c (ix5 (bt t) i (hd t h) (0 : Fin 1) k) := fun k => by
    refine in_0 m c t _ i h k ?_ ?_
    · show 256 * (tOf y / 8 % 2) + 1 * k.val = _
      rw [hT]; omega
    · show 512 * (tOf y % 8) + 1 * ((y 0).val % 512) = _
      unfold tOf; omega
  have ek : ∀ k : Fin 256, (if hn : n.val < 16 then (fun j => iblk m c 1 t ((Rect.unit (s := S4096x512) ![256 * n.val, 256 * (tOf y / 8 % 2)] S256x256.size (Attn.hk (tOf y) n.val hn)).toLoadRect.idx j))
      else fun j => iblk m c 3 t ((Rect.unit (s := S256x512) ![0, 256 * (tOf y / 8 % 2)] S256x256.size (Attn.hkc (tOf y))).toLoadRect.idx j)) (ix2 r k)
      = keyAt (p1 m c) (p3 m c) (bt t) (hd t h) (finProdFinEquiv (n, r)) k := fun k => by
    unfold keyAt
    by_cases hn16 : n.val < 16
    · rw [dif_pos hn16, dif_pos (by rw [hv]; omega)]
      refine in_1 m c t _ _ h k ?_ ?_
      · show 256 * n.val + 1 * r.val = r.val + 256 * n.val
        omega
      · show 256 * (tOf y / 8 % 2) + 1 * k.val = _
        rw [hT]; omega
    · rw [dif_neg hn16, dif_neg (by rw [hv]; omega)]
      refine in_3 m c t _ _ h k ?_ ?_
      · show 0 + 1 * r.val = r.val + 256 * n.val - 4096
        omega
      · show 256 * (tOf y / 8 % 2) + 1 * k.val = _
        rw [hT]; omega
  rw [sB, score_apply]
  refine (Finset.sum_congr rfl fun k _ => congrArg₂ (fun u w : EReal => u * w) (ek k) (congrArg (fun u : EReal => u * (((Real.sqrt 192)⁻¹ * (Real.log 2)⁻¹ : ℝ) : EReal)) (eq k))).trans ?_
  refine (sum_lanes _ fun k hk192 => ?_).trans ?_
  · refine (congrArg (fun u : EReal => _ * (u * (((Real.sqrt 192)⁻¹ * (Real.log 2)⁻¹ : ℝ) : EReal))) (p0_zero m c _ _ _ _ hk192)).trans ?_
    rw [zero_mul, mul_zero]
  rw [scoreAt, mul_assoc, ← dot_real]
  refine Finset.sum_congr rfl fun k _ => ?_
  refine congrArg₂ (fun u w : EReal => u * w) (key_lane m c k0 c0 hk hc _ _ _ k)
    (congrArg (fun u : EReal => u * (((Real.sqrt 192)⁻¹ * (Real.log 2)⁻¹ : ℝ) : EReal)) ?_)
  exact (p0_lane m c _ _ _ _ k.isLt).trans (hq _)

/-- A block's values. -/
theorem vB_apply (T : ℕ) (h : Fin 2) (hT : T / 8 % 2 = h.val) (d : Fin 128) (p : Fin 17 × Fin 256) :
    vB (iblk m c 2 t) (iblk m c 4 t) T p.1.val (ix2 d p.2) = keyAt (a2 m c) (a4 m c) (bt t) (hd t h) (finProdFinEquiv p) d := by
  obtain ⟨n, r⟩ := p
  have hn := n.isLt
  have hr := r.isLt
  have hv : (finProdFinEquiv (n, r)).val = r.val + 256 * n.val := rfl
  unfold vB keyAt
  by_cases hn16 : n.val < 16
  · rw [dif_pos hn16, dif_pos (by rw [hv]; omega)]
    refine in_2 m c t _ _ h d ?_ ?_
    · show 128 * (T / 8 % 2) + 1 * d.val = _
      rw [hT]; omega
    · show 256 * n.val + 1 * r.val = r.val + 256 * n.val
      omega
  · rw [dif_neg hn16, dif_neg (by rw [hv]; omega)]
    refine in_4 m c t _ _ h d ?_ ?_
    · show 128 * (T / 8 % 2) + 1 * d.val = _
      rw [hT]; omega
    · show 0 + 1 * r.val = r.val + 256 * n.val - 4096
      omega

include hq hk hc in
/-- A grid point's output block. -/
theorem outBlk_apply (y : S4096x256.Idx) :
    outBlk m c t y = target q0 k0 c0 (a2 m c) (a4 m c) (bt t) (hd t (⟨(y 1).val / 128, by have : (y 1).val < 256 := (y 1).isLt; omega⟩ : Fin 2))
      (⟨(y 0).val, (y 0).isLt⟩ : Fin 4096) (⟨(y 1).val % 128, Nat.mod_lt _ (by decide)⟩ : Fin 128) := by
  have hy0 : (y 0).val < 4096 := (y 0).isLt
  have hy1 : (y 1).val < 256 := (y 1).isLt
  have e : jOf y = ix2 (⟨(y 0).val % 512, Nat.mod_lt _ (by decide)⟩ : Fin 512) (⟨(y 1).val % 128, Nat.mod_lt _ (by decide)⟩ : Fin 128) := by
    funext a; fin_cases a <;> rfl
  show rB _ _ _ _ _ (tOf y) (jOf y) = _
  rw [e, rB, target, ← soft_equiv (finProdFinEquiv (m := 17) (n := 256))]
  refine (out_soft _ _ _ _ _ fun p => sB_apply m c t q0 k0 c0 hq hk hc y ⟨(y 1).val / 128, by omega⟩ rfl ⟨(y 0).val, (y 0).isLt⟩ rfl p).trans ?_
  exact soft_congr (fun p => vB_apply m c t _ _ (by unfold tOf; show _ = (y 1).val / 128; omega) _ p) fun p => rfl
end

/-- The launch leaves the attention of the arguments. -/
theorem final (c : Dev nD) (q0 : SQ.Idx → ℝ) (k0 : SK.Idx → ℝ) (c0 : SC.Idx → ℝ)
    (hq : ∀ i, a0 m c i = (q0 i : EReal)) (hk : ∀ i, a1 m c i = (k0 i : EReal)) (hc : ∀ i, a3 m c i = (c0 i : EReal)) :
    (dats m 0 c).arrAt 5 cfg0.N = result q0 k0 c0 (a2 m c) (a4 m c) := by
  refine (dats m 0 c).arrAt_eq_of_covers 5 _ (by decide +kernel) fun t hf y => ?_
  blk_simp
  rw [after_5]
  have hy0 : (y 0).val < 4096 := (y 0).isLt
  have hy1 : (y 1).val < 256 := (y 1).isLt
  have hb := (bt t).isLt
  have hg := (gr t).isLt
  refine (outBlk_apply m c t q0 k0 c0 hq hk hc y).trans ?_
  have e0 : (((win0_5.blk t).view.emb y 0 : Fin _) : ℕ) = (grid0.coords t 0).val * 4096 + (y 0).val := by blk_simp [ind_5]
  have e1 : (((win0_5.blk t).view.emb y 1 : Fin _) : ℕ) = (grid0.coords t 1).val * 256 + (y 1).val := by blk_simp [ind_5]
  unfold result
  have hb' : (grid0.coords t 0).val < 8 := hb
  have hg' : (grid0.coords t 1).val < 4 := hg
  congr 1 <;> apply Fin.ext <;> simp only [e0, e1] <;> omega

end Cert.Kernel2Ideal.Attn

end
-- ==== Proof.Mla.Ref.lean ====
/- What the latent attention's reference computes, at the ideal values. -/
module

public import proofs.«01_k».proof.Proof.Mla.Target
public import proofs.«01_k».proof.Proof.Attn.Soft
public import proofs.«01_k».proof.Proof.Gen.Reference2Ideal.Read
public import Idealize.ShloMosaic.Lib.KernelVsHost
public import Idealize.ShloMosaic.Lib.Pipeline.Value

@[expose] public section

set_option maxRecDepth 16384

noncomputable section

namespace Cert.Reference2Ideal.Attn

open Idealize.ShloMosaic
open Idealize.ShloMosaic.ValueIdx (ix1 ix2 ix3 ix4 ix5)
open Cert.Reference2Ideal Cert.Reference2Ideal.Gen Cert.Reference2Ideal.Read Cert.Attn Cert.Attn.Mla
open scoped BigOperators

variable (x0 : SQ.Idx → EReal) (x1 : SK.Idx → EReal) (x2 : SV.Idx → EReal) (x3 : SC.Idx → EReal) (x4 : SD.Idx → EReal)

/-- The joined keys read at a row. -/
theorem joined (x : SK.Idx → EReal) (z : SC.Idx → EReal) (b : Fin 8) (g : Fin 8) (p : Fin 4352) (k : Fin 192) :
    concatenate S8x4352x8x192 1 [⟨S8x4096x8x192, x⟩, ⟨S8x256x8x192, z⟩] concatenates_S8x4096x8x192_S8x256x8x192_S8x4352x8x192_d1 (ix4 b p g k)
      = keyAt x z b g p k := by
  unfold keyAt
  by_cases h : p.val < 4096
  · rw [dif_pos h]
    exact concatenate_pair_apply_left (t := S8x4352x8x192) 1 x z _ (ix4 b p g k) rfl (ix4 b ⟨p.val, h⟩ g k) (by intro a; fin_cases a <;> rfl)
  · rw [dif_neg h]
    refine concatenate_pair_apply_right (t := S8x4352x8x192) 1 x z _ (ix4 b p g k) rfl rfl (ix4 b ⟨p.val - 4096, by omega⟩ g k) ?_ ?_
    · intro a ha
      fin_cases a
      · rfl
      · exact absurd rfl ha
      · rfl
      · rfl
    · show p.val - 4096 + 4096 = p.val
      omega

/-- The joined values, read at a row. -/
theorem joined_v (x : SV.Idx → EReal) (z : SD.Idx → EReal) (b : Fin 8) (g : Fin 8) (p : Fin 4352) (k : Fin 128) :
    concatenate S8x4352x8x128 1 [⟨S8x4096x8x128, x⟩, ⟨S8x256x8x128, z⟩] concatenates_S8x4096x8x128_S8x256x8x128_S8x4352x8x128_d1 (ix4 b p g k)
      = keyAt x z b g p k := by
  unfold keyAt
  by_cases h : p.val < 4096
  · rw [dif_pos h]
    exact concatenate_pair_apply_left (t := S8x4352x8x128) 1 x z _ (ix4 b p g k) rfl (ix4 b ⟨p.val, h⟩ g k) (by intro a; fin_cases a <;> rfl)
  · rw [dif_neg h]
    refine concatenate_pair_apply_right (t := S8x4352x8x128) 1 x z _ (ix4 b p g k) rfl rfl (ix4 b ⟨p.val - 4096, by omega⟩ g k) ?_ ?_
    · intro a ha
      fin_cases a
      · rfl
      · exact absurd rfl ha
      · rfl
      · rfl
    · show p.val - 4096 + 4096 = p.val
      omega

section
variable (q0 : SQ.Idx → ℝ) (k0 : SK.Idx → ℝ) (c0 : SC.Idx → ℝ)
  (hq : ∀ i, x0 i = (q0 i : EReal)) (hk : ∀ i, x1 i = (k0 i : EReal)) (hc : ∀ i, x3 i = (c0 i : EReal))

include hk hc in
theorem keyAt_real (b : Fin 8) (g : Fin 8) (p : Fin 4352) (k : Fin 192) : keyAt x1 x3 b g p k = ((keyAt k0 c0 b g p k : ℝ) : EReal) := by
  unfold keyAt
  split_ifs
  · exact hk _
  · exact hc _

include hq hk hc in
/-- The scaled scores. -/
theorem scores (b : Fin 8) (g : Fin 8) (i : Fin 4096) (p : Fin 4352) :
    val_main_v6 (F := Ideal) x0 x1 x3 (ix5 b g (0 : Fin 1) i p) = (scoreAt q0 k0 c0 b g i p : EReal) := by
  have e1 : val_main_v3 (F := Ideal) x0 x1 x3 (ix5 b g (0 : Fin 1) i p) = ((∑ k : Fin 192, keyAt k0 c0 b g p k * q0 (ix5 b i g (0 : Fin 1) k) : ℝ) : EReal) := by
    rw [val_main_v3_apply, val_main_v2_apply, coe_sum']
    refine Finset.sum_congr rfl fun k _ => ?_
    have el : lidx_main_v2 (idx_main_v3 (ix5 b g (0 : Fin 1) i p)) k = ix4 b p g k := by funext a; fin_cases a <;> rfl
    have er : ridx_main_v2 (idx_main_v3 (ix5 b g (0 : Fin 1) i p)) k = ix5 b i g (0 : Fin 1) k := by funext a; fin_cases a <;> rfl
    rw [el, er, hq, EReal.coe_mul, ← keyAt_real x1 x3 k0 c0 hk hc]
    exact congrArg (· * _) (joined x1 x3 b g p k)
  have e2 : val_main_v5 (F := Ideal) (ix5 b g (0 : Fin 1) i p) = (((Real.sqrt 192)⁻¹ : ℝ) : EReal) := by
    rw [val_main_v5_apply, val_main_v4_apply, val_main_cst_apply]
    show Ideal.rsqrt (Ideal.ofBits .f32 0x43400000#32) = _
    have : Ideal.ofBits .f32 0x43400000#32 = ((192 : ℝ) : EReal) := by simp [Ideal.ofBits, Ideal.ieee, -EReal.coe_mul]; norm_num
    rw [this, Ideal.rsqrt_coe, if_neg (by norm_num), if_neg (by norm_num)]
  rw [val_main_v6_apply, e1, e2, scoreAt, EReal.coe_mul]
  rfl

theorem red : S8x8x1x4096x4352.Reduces [4] S8x8x1x4096 := by decide

theorem lift4 (b : Fin 8) (g : Fin 8) (i : Fin 4096) (p : Fin 4352) : red.lift (ix4 b g (0 : Fin 1) i) p = ix5 b g (0 : Fin 1) i p := by
  funext a
  apply Fin.ext
  fin_cases a <;> rfl

include hq hk hc in
/-- The largest score is a real. -/
theorem largest (b : Fin 8) (g : Fin 8) (i : Fin 4096) : ∃ M : ℝ, val_main_v9 (F := Ideal) x0 x1 x3 (ix4 b g (0 : Fin 1) i) = (M : EReal) := by
  have ninf : Ideal.ofBits .f32 0xFF800000#32 = ⊥ := by simp [Ideal.ofBits, Ideal.ieee]
  have e7 : ∃ M : ℝ, val_main_v7 (F := Ideal) x0 x1 x3 (ix4 b g (0 : Fin 1) i) = (M : EReal) := by
    have e : val_main_v7 (F := Ideal) x0 x1 x3 = multiReduction (F := Ideal) (φ := .f32) .maximumf [4] S8x8x1x4096 (val_main_v6 (F := Ideal) x0 x1 x3) 0xFF800000#32 red (.inl rfl) rfl :=
      hostReduce_maximumf_eq_multiReduction (F := Ideal) (φ := .f32) (val_main_v6 (F := Ideal) x0 x1 x3) 0xFF800000#32 reducesTo_S8x8x1x4096x4352_S8x8x1x4096_d4 h_S_ red (.inl rfl) rfl
    rw [e]
    refine Eq.mpr (congrArg (fun y : EReal => ∃ x : ℝ, y = x) (Ideal.multiReduction_maximumf_single _ _ red (.inl rfl) rfl _)) ?_
    show ∃ x : ℝ, Finset.fold max (Ideal.ofBits .f32 0xFF800000#32) _ _ = x
    rw [ninf]
    refine fold_real (ι := Fin 4352) _ fun p => ⟨scoreAt q0 k0 c0 b g i p, ?_⟩
    exact (congrArg (val_main_v6 (F := Ideal) x0 x1 x3) (lift4 b g i p)).trans (scores x0 x1 x3 q0 k0 c0 hq hk hc b g i p)
  obtain ⟨M, hM⟩ := e7
  refine ⟨M, ?_⟩
  rw [val_main_v9_apply, hM, val_main_v8_apply]
  show max (Ideal.ofBits .f32 0xFF800000#32) (M : EReal) = M
  rw [ninf]
  exact max_eq_right bot_le

include hq hk hc in
/-- The reference's result is the attention of the arguments. -/
theorem reference_result : val_main_v21 (F := Ideal) x0 x1 x2 x3 x4 = result q0 k0 c0 x2 x4 := by
  funext i
  have h0 : (i 0).val < 32768 := (i 0).isLt
  have h1 : (i 1).val < 1024 := (i 1).isLt
  have ei : idx_main_v19 (idx_main_v20 i) = ix5 (⟨(i 0).val / 4096, by omega⟩ : Fin 8) (⟨(i 1).val / 128, by omega⟩ : Fin 8)
      (⟨(i 1).val % 128, Nat.mod_lt _ (by decide)⟩ : Fin 128) (0 : Fin 1) (⟨(i 0).val % 4096, Nat.mod_lt _ (by decide)⟩ : Fin 4096) := by
    funext a
    apply Fin.ext
    fin_cases a
    · show ((i 0).val * 1024 + (i 1).val) / 4194304 = (i 0).val / 4096
      omega
    · show ((i 0).val * 1024 + (i 1).val) / 128 % 8 = (i 1).val / 128
      omega
    · show ((i 0).val * 1024 + (i 1).val) % 128 = (i 1).val % 128
      omega
    · rfl
    · show ((i 0).val * 1024 + (i 1).val) / 1024 % 4096 = (i 0).val % 4096
      omega
  rw [val_main_v21_apply]
  show val_main_v20 (F := Ideal) x0 x1 x2 x3 x4 i = _
  rw [val_main_v20_apply, val_main_v19_apply, ei, val_main_v18_apply]
  unfold result
  generalize (⟨(i 0).val / 4096, _⟩ : Fin 8) = b
  generalize (⟨(i 1).val / 128, _⟩ : Fin 8) = g
  generalize (⟨(i 0).val % 4096, _⟩ : Fin 4096) = r
  generalize (⟨(i 1).val % 128, _⟩ : Fin 128) = d
  obtain ⟨M, hM⟩ := largest x0 x1 x3 q0 k0 c0 hq hk hc b g r
  have e13 : ∀ p : Fin 4352, val_main_v13 (F := Ideal) x0 x1 x3 (ix5 b g (0 : Fin 1) r p) = (Real.exp (scoreAt q0 k0 c0 b g r p - M) : EReal) := fun p => by
    have e11 : val_main_v11 (F := Ideal) x0 x1 x3 (ix5 b g (0 : Fin 1) r p) = (M : EReal) := by
      rw [val_main_v11_apply, val_main_v10_apply, ← hM]
      exact congrArg _ (by funext a; fin_cases a <;> rfl)
    rw [val_main_v13_apply, val_main_v12_apply, e11, scores x0 x1 x3 q0 k0 c0 hq hk hc]
    show Ideal.exp ((scoreAt q0 k0 c0 b g r p : EReal) - (M : EReal)) = _
    rw [← EReal.coe_sub]
    rfl
  have e16 : ∀ p : Fin 4352, val_main_v16 (F := Ideal) x0 x1 x3 (ix5 b g (0 : Fin 1) r p) = ∑ j : Fin 4352, (Real.exp (scoreAt q0 k0 c0 b g r j - M) : EReal) := fun p => by
    rw [val_main_v16_apply, val_main_v15_apply, val_main_v14_apply, val_main_cst_2_apply]
    show Ideal.ofBits .f32 0x00000000#32 + _ = _
    rw [show Ideal.ofBits .f32 0x00000000#32 = 0 by simp [Ideal.ofBits, Ideal.ieee], zero_add]
    refine Finset.sum_congr rfl fun j _ => ?_
    rw [← e13 j]
    exact congrArg _ (by funext a; fin_cases a <;> rfl)
  rw [target, ← soft_early _ _ M]
  refine Finset.sum_congr rfl fun p _ => ?_
  have el : lidx_main_v18 (ix5 b g d (0 : Fin 1) r) p = ix4 b p g d := by funext a; fin_cases a <;> rfl
  have er : ridx_main_v18 (ix5 b g d (0 : Fin 1) r) p = ix5 b g (0 : Fin 1) r p := by funext a; fin_cases a <;> rfl
  have e1 : val_main_v1 (F := Ideal) x2 x4 (ix4 b p g d) = keyAt x2 x4 b g p d := joined_v x2 x4 b g p d
  rw [el, er, e1, val_main_v17_apply, e13, e16, Ideal.hostDivf_def]
end

end Cert.Reference2Ideal.Attn

end
-- ==== Proof.Mla.Claims.lean ====
/- The latent attention: the frames of its reference, and that the kernel computes the reference's value. -/
module

public import proofs.«01_k».proof.Proof.Mla.Frames
public import proofs.«01_k».proof.Proof.Mla.Value
public import proofs.«01_k».proof.Proof.Mla.Ref
public import proofs.«01_k».proof.Proof.Attn.Finite
public import proofs.«01_k».proof.Proof.Gen.Reference2Ideal.Run
public import proofs.«01_k».proof.Proof.Gen.Pre_finite_scores2

@[expose] public section

set_option maxRecDepth 16384

noncomputable section

namespace Cert.Kernel2Ideal.Attn

open Idealize.ShloMosaic Idealize.SL.Sem Cert.Attn

/-- The reference ends with its arguments unchanged and no counter raised. -/
theorem reference_quiescent : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run m ρ)

/-- So it does of finite scores. -/
theorem reference_quiescent_pre : Cert.quiescent_Reference2Ideal_pre_finite_scores2 (hReference2Ideal := Cert.Reference2Ideal.Gen.facts) (hPre_finite_scores2 := Cert.Pre_finite_scores2.Gen.facts) := fun m ρ _ =>
  reference_quiescent m ρ trivial

/-- And so does the idealized kernel. -/
theorem ideal_quiescent_pre : Cert.quiescent_Kernel2Ideal_pre_finite_scores2 (hKernel2Ideal := Cert.Kernel2Ideal.Gen.facts) (hPre_finite_scores2 := Cert.Pre_finite_scores2.Gen.facts) := fun m ρ _ =>
  ideal_quiescent m ρ trivial

/-- The precondition's three arrays, each of real numbers. -/
theorem reals (x0 : Mla.SQ.Idx → EReal) (x1 : Mla.SK.Idx → EReal) (x2 : Mla.SV.Idx → EReal) (x3 : Mla.SC.Idx → EReal) (x4 : Mla.SD.Idx → EReal)
    (h : @Cert.Pre_finite_scores2.fn Cert.Pre_finite_scores2.Gen.facts Ideal _ x0 x1 x2 x3 x4 = fun _ => 1#1) :
    (∀ i, x0 i = ((x0 i).toReal : EReal)) ∧ (∀ i, x1 i = ((x1 i).toReal : EReal)) ∧ ∀ i, x3 i = ((x3 i).toReal : EReal) := by
  have hs : Subsingleton Cert.Pre_finite_scores2.S_.Idx := ⟨fun a b => funext fun k => k.elim0⟩
  have h0 := congrFun h fun k => k.elim0
  obtain ⟨h01, h3⟩ := both _ _ h0
  obtain ⟨h0, h1⟩ := both _ _ h01
  exact ⟨fun i => real_of_below _ (Host.reduce_andi_all _ _ _ _ _ h0 i), fun i => real_of_below _ (Host.reduce_andi_all _ _ _ _ _ h1 i),
    fun i => real_of_below _ (Host.reduce_andi_all _ _ _ _ _ h3 i)⟩

/-- The kernel and its reference end with one value, of finite scores. -/
theorem same_value : Cert.algebraic_Kernel2Ideal_Reference2Ideal_pre_finite_scores2 (hKernel2Ideal := Cert.Kernel2Ideal.Gen.facts) (hReference2Ideal := Cert.Reference2Ideal.Gen.facts) (hPre_finite_scores2 := Cert.Pre_finite_scores2.Gen.facts) := by
  intro m ρ m' ρ' hpre hargs
  refine ⟨fun c => Cert.Attn.Mla.result (fun i => (a0 m c i).toReal) (fun i => (a1 m c i).toReal) (fun i => (a3 m c i).toReal) (a2 m c) (a4 m c), ?_, ?_⟩
  · refine (θ_run (Cert.Kernel2Ideal.defs (F := Ideal)) _ _).mono (fun _ h c => ⟨(h c).1.trans ?_, (h c).2⟩) (value_run m ρ)
    obtain ⟨hq, hk, hc⟩ := reals _ _ _ _ _ (hpre c)
    exact final m c _ _ _ hq hk hc
  · refine (θ_run (Cert.Reference2Ideal.defs (F := Ideal)) _ _).mono (fun _ h c => ⟨(h c).1.trans ?_, (h c).2⟩) (Cert.Reference2Ideal.Value.run m' ρ')
    obtain ⟨hq, hk, hc⟩ := reals _ _ _ _ _ (hpre c)
    obtain ⟨e0, e1, e2, e3, e4⟩ := hargs c
    refine (Cert.Reference2Ideal.Read.val_main_v21_eq _ _ _ _ _).trans ?_
    rw [e0, e1, e2, e3, e4]
    exact Cert.Reference2Ideal.Attn.reference_result _ _ _ _ _ _ _ _ hq hk hc

/-- The named constant keeps its bits. -/
theorem constant_kept : Cert.preserves_Kernel2_Kernel2Ideal :=
  IdealRules.named_const.statement Cert.Kernel2Ideal.κ "scale_log2e" .f32 0x3DD53B95#32 (((Real.sqrt 192)⁻¹ * (Real.log 2)⁻¹ : ℝ) : EReal) rfl

end Cert.Kernel2Ideal.Attn

end
-- ==== Proof.Out.Target.lean ====
/- The gated output projection with its residual and its normalization, as one function of the arrays. -/
module

public import Idealize.ShloMosaic.PureOps.Ideal.Laws
public import Idealize.ShloMosaic.Lib.ValueIdx

@[expose] public section

noncomputable section

namespace Cert.Out

open Idealize.ShloMosaic
open Idealize.ShloMosaic.ValueIdx (ix1 ix2 ix3)
open scoped BigOperators

/-- The arrays' shapes: the rows, the modulation, the projection and the normalization's scale and shift. -/
abbrev SX : Shape := ⟨2, ![32768, 2048]⟩
abbrev SM : Shape := ⟨3, ![16, 1, 6144]⟩
abbrev SW : Shape := ⟨2, ![2048, 2048]⟩
abbrev SL : Shape := ⟨1, ![2048]⟩

/-- A row's mean. -/
def mean (z : Fin 2048 → EReal) : EReal := Ideal.div (∑ j, z j) (Ideal.ofBits .f32 0x45000000#32)

/-- A row about its mean. -/
def about (z : Fin 2048 → EReal) (j : Fin 2048) : EReal := z j - mean z

/-- A row normalized, scaled and shifted. -/
def normed (z g b : Fin 2048 → EReal) (d : Fin 2048) : EReal :=
  about z d * Ideal.rsqrt (mean (fun j => about z j * about z j) + Ideal.ofBits .f32 0x358637BD#32) * g d + b d

/-- The residual stream plus the gated projection. -/
def mixed (x gate y : EReal) : EReal := Ideal.ofBits .f32 0x3FB504F3#32 * x + gate * y

/-- A row of the gated attention, projected. -/
def proj (a g : SX.Idx → EReal) (w : SW.Idx → EReal) (r : Fin 32768) (j : Fin 2048) : EReal :=
  ∑ k : Fin 2048, (a (ix2 r k) * g (ix2 r k)) * w (ix2 k j)

/-- A row before its normalization. -/
def row (a g x : SX.Idx → EReal) (md : SM.Idx → EReal) (w : SW.Idx → EReal) (r : Fin 32768) (j : Fin 2048) : EReal :=
  mixed (x (ix2 r j)) (md (ix3 (⟨r.val / 4096, by omega⟩ : Fin 16) (0 : Fin 1) (⟨4096 + j.val, by omega⟩ : Fin 6144))) (proj a g w r j)

/-- The whole result. -/
def result (a g x : SX.Idx → EReal) (md : SM.Idx → EReal) (w : SW.Idx → EReal) (lg lb : SL.Idx → EReal) (i : SX.Idx) : EReal :=
  normed (row a g x md w (⟨(i 0).val, (i 0).isLt⟩ : Fin 32768)) (fun j => lg (ix1 j)) (fun j => lb (ix1 j)) (⟨(i 1).val, (i 1).isLt⟩ : Fin 2048)

theorem normed_congr {z z' g g' b b' : Fin 2048 → EReal} (hz : ∀ j, z j = z' j) (hg : ∀ j, g j = g' j) (hb : ∀ j, b j = b' j) (d : Fin 2048) :
    normed z g b d = normed z' g' b' d := by
  rw [funext hz, funext hg, funext hb]

end Cert.Out

end
-- ==== Proof.Out.Norm.lean ====
/- The kernel's normalization of a block of rows, as vector operations and entry by entry. -/
module

public import proofs.«01_k».proof.Proof.Out.Target
public import proofs.«01_k».proof.Proof.Attn.Ideal

@[expose] public section

set_option maxRecDepth 16384

noncomputable section

namespace Cert.Out

open Idealize.ShloMosaic hiding ix1 ix2 ix3 ix4 ix5
open Idealize.ShloMosaic.ValueIdx (ix1 ix2 ix3 constant_apply)
open Cert.Attn
open scoped BigOperators

abbrev B : Shape := ⟨2, ![256, 2048]⟩
abbrev C : Shape := ⟨1, ![256]⟩
abbrev C1 : Shape := ⟨2, ![256, 1]⟩
abbrev L : Shape := ⟨2, ![1, 2048]⟩
abbrev L3 : Shape := ⟨3, ![1, 1, 2048]⟩

theorem red : B.Reduces [1] C := by decide
theorem col : C.ShapeCasts C1 := by decide
theorem wide : C1.Broadcasts B := by decide
theorem tall : L.Broadcasts B := by decide
theorem flat : L3.ShapeCasts L := by decide
theorem same : L.ShapeCasts L := by decide
theorem sameW : SW.ShapeCasts SW := by decide

/-- The rows' means, as a column. -/
def meanV (z : FVec Ideal B .f32) : FVec Ideal C1 .f32 :=
  divf (shapeCast C1 (multiReduction .add [1] C z 0x00000000#32 red (.inl rfl) rfl) col) (broadcast C1 (Scalar.ofBits .f32 0x45000000#32))

/-- The rows about their means. -/
def aboutV (z : FVec Ideal B .f32) : FVec Ideal B .f32 := subf z (broadcastTo B (meanV z) wide)

/-- The rows normalized, scaled and shifted. -/
def normedV (z : FVec Ideal B .f32) (g b : FVec Ideal L .f32) : FVec Ideal B .f32 :=
  addf (mulf (mulf (aboutV z) (broadcastTo B (rsqrt (addf (meanV (mulf (aboutV z) (aboutV z))) (broadcast C1 (Scalar.ofBits .f32 0x358637BD#32)))) wide))
    (broadcastTo B (shapeCast L g same) tall)) (broadcastTo B (shapeCast L b same) tall)

/-- The gated rows projected. -/
def projV (a g : FVec Ideal B .bf16) (w : FVec Ideal SW .bf16) : FVec Ideal B .f32 :=
  matmul (DotDims.plain 256 2048 2048) none (mulf a g) (shapeCast SW w sameW) (constant B .f32 0x00000000#32)

/-- The residual plus the gated projection. -/
def mixedV (x : FVec Ideal B .f32) (md : FVec Ideal L3 .f32) (y : FVec Ideal B .f32) : FVec Ideal B .f32 :=
  addf (mulf (broadcast B (Scalar.ofBits .f32 0x3FB504F3#32)) x) (mulf (broadcastTo B (shapeCast L md flat) tall) y)

theorem lift_row (r : Fin 256) (k : Fin 2048) : red.lift (ix1 r) k = ix2 r k := by
  funext a
  apply Fin.ext
  fin_cases a <;> rfl

theorem wide_apply (v : FVec Ideal C1 .f32) (r : Fin 256) (j : Fin 2048) : broadcastTo B v wide (ix2 r j) = v (ix2 r (0 : Fin 1)) := by
  refine broadcastTo_apply v wide _ _ ?_
  intro a; fin_cases a <;> rfl

theorem tall_apply (v : FVec Ideal L .f32) (r : Fin 256) (j : Fin 2048) : broadcastTo B v tall (ix2 r j) = v (ix2 (0 : Fin 1) j) := by
  refine broadcastTo_apply v tall _ _ ?_
  intro a; fin_cases a <;> rfl

theorem meanV_apply (z : FVec Ideal B .f32) (r : Fin 256) : meanV z (ix2 r (0 : Fin 1)) = mean fun j => z (ix2 r j) := by
  show Ideal.div (shapeCast C1 _ col (ix2 r (0 : Fin 1))) _ = _
  refine congrArg (Ideal.div · (Ideal.ofBits .f32 0x45000000#32)) ?_
  refine (shapeCast_apply _ col _ (ix1 r) ?_).trans ?_
  · rewrite [Shape.rowMajor_val_two, Shape.rowMajor_val_one]
    show r.val = r.val * 1 + 0
    omega
  refine (Ideal.multiReduction_add_single _ _ red (.inl rfl) rfl _).trans ?_
  exact Finset.sum_congr rfl fun k _ => congrArg z (lift_row r k)

theorem aboutV_apply (z : FVec Ideal B .f32) (r : Fin 256) (j : Fin 2048) : aboutV z (ix2 r j) = about (fun j => z (ix2 r j)) j := by
  show z (ix2 r j) - broadcastTo B (meanV z) wide (ix2 r j) = _
  rw [wide_apply, meanV_apply]
  rfl

theorem normedV_apply (z : FVec Ideal B .f32) (g b : FVec Ideal L .f32) (r : Fin 256) (d : Fin 2048) :
    normedV z g b (ix2 r d) = normed (fun j => z (ix2 r j)) (fun j => g (ix2 (0 : Fin 1) j)) (fun j => b (ix2 (0 : Fin 1) j)) d := by
  have e : broadcastTo B (rsqrt (addf (meanV (mulf (aboutV z) (aboutV z))) (broadcast C1 (Scalar.ofBits .f32 0x358637BD#32)))) wide (ix2 r d)
      = Ideal.rsqrt (mean (fun j => about (fun j => z (ix2 r j)) j * about (fun j => z (ix2 r j)) j) + Ideal.ofBits .f32 0x358637BD#32) := by
    rw [wide_apply]
    show Ideal.rsqrt (meanV (mulf (aboutV z) (aboutV z)) (ix2 r (0 : Fin 1)) + Ideal.ofBits .f32 0x358637BD#32) = _
    rw [meanV_apply]
    refine congrArg (fun f => Ideal.rsqrt (mean f + Ideal.ofBits .f32 0x358637BD#32)) (funext fun j => ?_)
    show aboutV z (ix2 r j) * aboutV z (ix2 r j) = _
    rw [aboutV_apply]
  show aboutV z (ix2 r d) * broadcastTo B _ wide (ix2 r d) * broadcastTo B (shapeCast L g same) tall (ix2 r d) + broadcastTo B (shapeCast L b same) tall (ix2 r d) = _
  rw [e, aboutV_apply, tall_apply, tall_apply, shapeCast_id, shapeCast_id]
  rfl

theorem projV_apply (a g : FVec Ideal B .bf16) (w : FVec Ideal SW .bf16) (r : Fin 256) (j : Fin 2048) :
    projV a g w (ix2 r j) = ∑ k : Fin 2048, (a (ix2 r k) * g (ix2 r k)) * w (ix2 k j) := by
  unfold projV
  rw [shapeCast_id]
  show FloatOps.matmul (DotDims.plain 256 2048 2048) none (mulf a g) w (constant B .f32 0x00000000#32) (ix2 r j) = _
  rw [Ideal.matmul_plain_apply, constant_apply, zero_word, zero_add]
  rfl

theorem mixedV_apply (x : FVec Ideal B .f32) (md : FVec Ideal L3 .f32) (y : FVec Ideal B .f32) (r : Fin 256) (j : Fin 2048) :
    mixedV x md y (ix2 r j) = mixed (x (ix2 r j)) (md (ix3 (0 : Fin 1) (0 : Fin 1) j)) (y (ix2 r j)) := by
  show _ * _ + broadcastTo B (shapeCast L md flat) tall (ix2 r j) * _ = _
  rw [tall_apply, shapeCast_apply md flat (ix2 (0 : Fin 1) j) (ix3 (0 : Fin 1) (0 : Fin 1) j) (by
    rewrite [Shape.rowMajor_val_three, Shape.rowMajor_val_two]
    show (0 * 1 + 0) * 2048 + j.val = 0 * 2048 + j.val
    omega)]
  rfl

end Cert.Out

end
-- ==== Proof.Out.Value.lean ====
/- What the output projection's launch leaves, at the ideal values. -/
module

public import proofs.«01_k».proof.Proof.Out.Norm
public import proofs.«01_k».proof.Proof.Gen.Kernel3Ideal.Value
public import Idealize.ShloMosaic.Lib.KernelVsHost
public import Idealize.ShloMosaic.Lib.StableHlo.Run
public import Idealize.ShloMosaic.Lib.Pipeline.ValueKit.Geometry
public import Idealize.ShloMosaic.Lib.Pipeline.ValueKit.Tiles

@[expose] public section

set_option maxRecDepth 16384

noncomputable section

namespace Cert.Kernel3Ideal.Out

open Idealize.ShloMosaic hiding ix1 ix2 ix3 ix4 ix5
open Idealize.ShloMosaic.ValueIdx (ix1 ix2 ix3 truncf_apply)
open Idealize.SL.Sem Idealize.ShloMosaic.TcCoe
open Cert.Kernel3Ideal Cert.Kernel3Ideal.Gen Cert.Out

variable (m : (ℓ : Loc nD τ sig) → Buf (Elt Ideal) ℓ)

/-- The arguments' contents at launch. -/
abbrev a0 (c : Dev nD) : SX.Idx → EReal := m ((c.tc : Thread nD τ).loc main_arg0)
abbrev a1 (c : Dev nD) : SX.Idx → EReal := m ((c.tc : Thread nD τ).loc main_arg1)
abbrev a2 (c : Dev nD) : SX.Idx → EReal := m ((c.tc : Thread nD τ).loc main_arg2)
abbrev a3 (c : Dev nD) : SM.Idx → EReal := m ((c.tc : Thread nD τ).loc main_arg3)
abbrev a4 (c : Dev nD) : SW.Idx → EReal := m ((c.tc : Thread nD τ).loc main_arg4)
abbrev a5 (c : Dev nD) : SL.Idx → EReal := m ((c.tc : Thread nD τ).loc main_arg5)
abbrev a6 (c : Dev nD) : SL.Idx → EReal := m ((c.tc : Thread nD τ).loc main_arg6)

theorem V_w (c : Dev nD) : V m c main_v0 = a4 m c := by
  unfold V; after_results <;> rfl
theorem V_g (c : Dev nD) : V m c main_v1 = shapeCast S1x2048 (a5 m c) shapeCasts_S2048_S1x2048 := by
  unfold V; after_results <;> rfl
theorem V_b (c : Dev nD) : V m c main_v2 = shapeCast S1x2048 (a6 m c) shapeCasts_S2048_S1x2048 := by
  unfold V; after_results <;> rfl
theorem V_0 (c : Dev nD) : V m c main_arg0 = a0 m c := by
  unfold V; after_results <;> rfl
theorem V_1 (c : Dev nD) : V m c main_arg1 = a1 m c := by
  unfold V; after_results <;> rfl
theorem V_2 (c : Dev nD) : V m c main_arg2 = a2 m c := by
  unfold V; after_results <;> rfl
theorem V_3 (c : Dev nD) : V m c main_arg3 = a3 m c := by
  unfold V; after_results <;> rfl

theorem ind_0 : ∀ t : Fin cfg0.N, win0_0.index t = ![t.val, 0] := (by decide +kernel : ∀ t : Fin grid0.N, _)
theorem ind_1 : ∀ t : Fin cfg0.N, win0_1.index t = ![t.val, 0] := (by decide +kernel : ∀ t : Fin grid0.N, _)
theorem ind_2 : ∀ t : Fin cfg0.N, win0_2.index t = ![0, 0] := (by decide +kernel : ∀ t : Fin grid0.N, _)
theorem ind_3 : ∀ t : Fin cfg0.N, win0_3.index t = ![t.val, 0] := (by decide +kernel : ∀ t : Fin grid0.N, _)
theorem ind_4 : ∀ t : Fin cfg0.N, win0_4.index t = ![t.val / 8, 0, 2] := (by decide +kernel : ∀ t : Fin grid0.N, _)
theorem ind_5 : ∀ t : Fin cfg0.N, win0_5.index t = ![0, 0] := (by decide +kernel : ∀ t : Fin grid0.N, _)
theorem ind_6 : ∀ t : Fin cfg0.N, win0_6.index t = ![0, 0] := (by decide +kernel : ∀ t : Fin grid0.N, _)
theorem ind_7 : ∀ t : Fin cfg0.N, win0_7.index t = ![t.val, 0] := (by decide +kernel : ∀ t : Fin grid0.N, _)

theorem N_64 : cfg0.N = 64 := by decide +kernel

/-- The blocks' elements, read from the arguments. -/
theorem in_0 (c : Dev nD) (t : Fin cfg0.N) (j : S512x2048.Idx) (r : Fin 32768) (k : Fin 2048)
    (h0 : r.val = 512 * t.val + (j 0).val) (h1 : (j 1).val = k.val) : iblk m c 0 t j = a0 m c (ix2 r k) := by
  rw [← V_0]
  blk_simp [iblk]
  refine congrArg (V m c main_arg0) ?_
  blk_ext [ind_0]
  all_goals first | (show _ = r.val; omega) | (show _ = k.val; omega)

theorem in_1 (c : Dev nD) (t : Fin cfg0.N) (j : S512x2048.Idx) (r : Fin 32768) (k : Fin 2048)
    (h0 : r.val = 512 * t.val + (j 0).val) (h1 : (j 1).val = k.val) : iblk m c 1 t j = a1 m c (ix2 r k) := by
  rw [← V_1]
  blk_simp [iblk]
  refine congrArg (V m c main_arg1) ?_
  blk_ext [ind_1]
  all_goals first | (show _ = r.val; omega) | (show _ = k.val; omega)

theorem in_2 (c : Dev nD) (t : Fin cfg0.N) (j : S2048x2048.Idx) (k d : Fin 2048)
    (h0 : (j 0).val = k.val) (h1 : (j 1).val = d.val) : iblk m c 2 t j = a4 m c (ix2 k d) := by
  rw [← V_w]
  blk_simp [iblk]
  refine congrArg (V m c main_v0) ?_
  blk_ext [ind_2]
  all_goals first | (show _ = k.val; omega) | (show _ = d.val; omega)

theorem in_3 (c : Dev nD) (t : Fin cfg0.N) (j : S512x2048.Idx) (r : Fin 32768) (k : Fin 2048)
    (h0 : r.val = 512 * t.val + (j 0).val) (h1 : (j 1).val = k.val) : iblk m c 3 t j = a2 m c (ix2 r k) := by
  rw [← V_2]
  blk_simp [iblk]
  refine congrArg (V m c main_arg2) ?_
  blk_ext [ind_3]
  all_goals first | (show _ = r.val; omega) | (show _ = k.val; omega)

theorem in_4 (c : Dev nD) (t : Fin cfg0.N) (j : S1x1x2048.Idx) (b : Fin 16) (k : Fin 6144)
    (h0 : b.val = t.val / 8) (h2 : k.val = 4096 + (j 2).val) : iblk m c 4 t j = a3 m c (ix3 b (0 : Fin 1) k) := by
  have j0 : (j 0).val < 1 := (j 0).isLt
  have j1 : (j 1).val < 1 := (j 1).isLt
  rw [← V_3]
  blk_simp [iblk]
  refine congrArg (V m c main_arg3) ?_
  blk_ext [ind_4]
  all_goals first | (show _ = b.val; omega) | (show _ = k.val; omega)

theorem in_5 (c : Dev nD) (t : Fin cfg0.N) (j : S1x2048.Idx) (k : Fin 2048) (h1 : (j 1).val = k.val) : iblk m c 5 t j = a5 m c (ix1 k) := by
  have j0 : (j 0).val < 1 := (j 0).isLt
  have e : iblk m c 5 t j = V m c main_v1 (ix2 (0 : Fin 1) k) := by
    blk_simp [iblk]
    refine congrArg (V m c main_v1) ?_
    blk_ext [ind_5]
  rw [e, V_g]
  refine shapeCast_apply _ _ _ _ ?_
  rewrite [Shape.rowMajor_val_two, Shape.rowMajor_val_one]
  show k.val = 0 * 2048 + k.val
  omega

theorem in_6 (c : Dev nD) (t : Fin cfg0.N) (j : S1x2048.Idx) (k : Fin 2048) (h1 : (j 1).val = k.val) : iblk m c 6 t j = a6 m c (ix1 k) := by
  have j0 : (j 0).val < 1 := (j 0).isLt
  have e : iblk m c 6 t j = V m c main_v2 (ix2 (0 : Fin 1) k) := by
    blk_simp [iblk]
    refine congrArg (V m c main_v2) ?_
    blk_ext [ind_6]
  rw [e, V_b]
  refine shapeCast_apply _ _ _ _ ?_
  rewrite [Shape.rowMajor_val_two, Shape.rowMajor_val_one]
  show k.val = 0 * 2048 + k.val
  omega

/-- Each half's stores are the normalization of its rows. -/
theorem half_hi (x0 x1 : Vec Ideal S256x2048 .bf16) (x2 : Vec Ideal S2048x2048 .bf16) (x3 : Vec Ideal S256x2048 .f32) (x4 : Vec Ideal S1x1x2048 .f32) (x5 x6 : Vec Ideal S1x2048 .f32) :
    k0_pay1 (k0_pay6 (k0_pay2 x0 x1 x2) x3 x4 x5) x6 = normedV (mixedV x3 x4 (projV x0 x1 x2)) x5 x6 := rfl
theorem half_lo (x0 x1 : Vec Ideal S256x2048 .bf16) (x2 : Vec Ideal S2048x2048 .bf16) (x3 : Vec Ideal S256x2048 .f32) (x4 : Vec Ideal S1x1x2048 .f32) (x5 x6 : Vec Ideal S1x2048 .f32) :
    k0_pay5 (k0_pay3 x0 x1 x2 x3 x4) (k0_pay4 x0 x1 x2 x3 x4) x5 x6 = normedV (mixedV x3 x4 (projV x0 x1 x2)) x5 x6 := rfl

/-- A half's rows, entry by entry, of loads that read the arguments. -/
theorem half_apply (c : Dev nD) (x0 x1 : Vec Ideal S256x2048 .bf16) (x2 : Vec Ideal S2048x2048 .bf16) (x3 : Vec Ideal S256x2048 .f32) (x4 : Vec Ideal S1x1x2048 .f32) (x5 x6 : Vec Ideal S1x2048 .f32)
    (r : Fin 256) (R : Fin 32768)
    (h0 : ∀ k : Fin 2048, x0 (ix2 r k) = a0 m c (ix2 R k)) (h1 : ∀ k : Fin 2048, x1 (ix2 r k) = a1 m c (ix2 R k))
    (h2 : ∀ k d : Fin 2048, x2 (ix2 k d) = a4 m c (ix2 k d)) (h3 : ∀ k : Fin 2048, x3 (ix2 r k) = a2 m c (ix2 R k))
    (h4 : ∀ k : Fin 2048, x4 (ix3 (0 : Fin 1) (0 : Fin 1) k) = a3 m c (ix3 (⟨R.val / 4096, by omega⟩ : Fin 16) (0 : Fin 1) (⟨4096 + k.val, by omega⟩ : Fin 6144)))
    (h5 : ∀ k : Fin 2048, x5 (ix2 (0 : Fin 1) k) = a5 m c (ix1 k)) (h6 : ∀ k : Fin 2048, x6 (ix2 (0 : Fin 1) k) = a6 m c (ix1 k)) (d : Fin 2048) :
    normedV (mixedV x3 x4 (projV x0 x1 x2)) x5 x6 (ix2 r d) = result (a0 m c) (a1 m c) (a2 m c) (a3 m c) (a4 m c) (a5 m c) (a6 m c) (ix2 R d) := by
  refine (normedV_apply _ _ _ r d).trans ?_
  refine normed_congr (fun j => ?_) h5 h6 d
  refine (mixedV_apply _ _ _ r j).trans ?_
  have e : projV x0 x1 x2 (ix2 r j) = proj (a0 m c) (a1 m c) (a4 m c) R j := by
    refine (projV_apply _ _ _ r j).trans (Finset.sum_congr rfl fun k _ => ?_)
    rw [h0, h1, h2]
  rw [e, h3, h4]
  rfl

/-- A grid point's output block. -/
theorem out_apply (c : Dev nD) (t : Fin cfg0.N) (y : S512x2048.Idx) (R : Fin 32768) (d : Fin 2048)
    (hR : R.val = 512 * t.val + (y 0).val) (hd : d.val = (y 1).val) :
    out0_7 (iblk m c 0 t) (iblk m c 1 t) (iblk m c 2 t) (iblk m c 3 t) (iblk m c 4 t) (iblk m c 5 t) (iblk m c 6 t) y
      = result (a0 m c) (a1 m c) (a2 m c) (a3 m c) (a4 m c) (a5 m c) (a6 m c) (ix2 R d) := by
  have hN := N_64
  have ht : t.val < 64 := lt_of_lt_of_eq t.isLt hN
  have hy0 : (y 0).val < 512 := (y 0).isLt
  have hy1 : (y 1).val < 2048 := (y 1).isLt
  unfold out0_7
  refine View.canon_eq_of_allAt _ y _ (cover0_7 _ _ y) ?_
  intro p hp x hx
  have e0 : (y 0).val = ((p.1.emb x) 0).val := by rw [hx]
  have e1 : (y 1).val = ((p.1.emb x) 1).val := by rw [hx]
  rcases List.mem_cons.mp hp with rfl | hp
  · have ex : x = ix2 (⟨(x 0).val, (x 0).isLt⟩ : Fin 256) d := by
      funext a; apply Fin.ext; fin_cases a
      · rfl
      · have : (y 1).val = 0 + 1 * (x 1).val := e1
        show (x 1).val = d.val; omega
    have e0' : (y 0).val = 256 + 1 * (x 0).val := e0
    show k0_pay1 _ _ x = _
    rw [half_hi, ex]
    refine half_apply m c _ _ _ _ _ _ _ _ R (fun k => ?_) (fun k => ?_) (fun k d => ?_) (fun k => ?_) (fun k => ?_) (fun k => ?_) (fun k => ?_) d
    · exact in_0 m c t _ R k (by show R.val = 512 * t.val + (256 + 1 * (x 0).val); omega) (by show 0 + 1 * k.val = k.val; omega)
    · exact in_1 m c t _ R k (by show R.val = 512 * t.val + (256 + 1 * (x 0).val); omega) (by show 0 + 1 * k.val = k.val; omega)
    · exact in_2 m c t _ k d (by show 0 + 1 * k.val = k.val; omega) (by show 0 + 1 * d.val = d.val; omega)
    · exact in_3 m c t _ R k (by show R.val = 512 * t.val + (256 + 1 * (x 0).val); omega) (by show 0 + 1 * k.val = k.val; omega)
    · exact in_4 m c t _ _ _ (by show R.val / 4096 = t.val / 8; omega) (by show 4096 + k.val = 4096 + (0 + 1 * k.val); omega)
    · exact in_5 m c t _ k (by show 0 + 1 * k.val = k.val; omega)
    · exact in_6 m c t _ k (by show 0 + 1 * k.val = k.val; omega)
  · obtain rfl := List.mem_singleton.mp hp
    have ex : x = ix2 (⟨(x 0).val, (x 0).isLt⟩ : Fin 256) d := by
      funext a; apply Fin.ext; fin_cases a
      · rfl
      · have : (y 1).val = 0 + 1 * (x 1).val := e1
        show (x 1).val = d.val; omega
    have e0' : (y 0).val = 0 + 1 * (x 0).val := e0
    show k0_pay5 _ _ _ _ x = _
    rw [half_lo, ex]
    refine half_apply m c _ _ _ _ _ _ _ _ R (fun k => ?_) (fun k => ?_) (fun k d => ?_) (fun k => ?_) (fun k => ?_) (fun k => ?_) (fun k => ?_) d
    · exact in_0 m c t _ R k (by show R.val = 512 * t.val + (0 + 1 * (x 0).val); omega) (by show 0 + 1 * k.val = k.val; omega)
    · exact in_1 m c t _ R k (by show R.val = 512 * t.val + (0 + 1 * (x 0).val); omega) (by show 0 + 1 * k.val = k.val; omega)
    · exact in_2 m c t _ k d (by show 0 + 1 * k.val = k.val; omega) (by show 0 + 1 * d.val = d.val; omega)
    · exact in_3 m c t _ R k (by show R.val = 512 * t.val + (0 + 1 * (x 0).val); omega) (by show 0 + 1 * k.val = k.val; omega)
    · exact in_4 m c t _ _ _ (by show R.val / 4096 = t.val / 8; omega) (by show 4096 + k.val = 4096 + (0 + 1 * k.val); omega)
    · exact in_5 m c t _ k (by show 0 + 1 * k.val = k.val; omega)
    · exact in_6 m c t _ k (by show 0 + 1 * k.val = k.val; omega)

/-- The launch leaves the projection's result of the arguments. -/
theorem final (c : Dev nD) :
    (dats m 0 c).arrAt 7 cfg0.N = result (a0 m c) (a1 m c) (a2 m c) (a3 m c) (a4 m c) (a5 m c) (a6 m c) := by
  refine (dats m 0 c).arrAt_eq_of_covers 7 _ (by decide +kernel) fun t hf y => ?_
  have hN := N_64
  have ht : t.val < 64 := lt_of_lt_of_eq t.isLt hN
  blk_simp
  rw [after0_7]
  have hy0 : (y 0).val < 512 := (y 0).isLt
  have hy1 : (y 1).val < 2048 := (y 1).isLt
  refine (out_apply m c t y ⟨512 * t.val + (y 0).val, by omega⟩ ⟨(y 1).val, hy1⟩ rfl rfl).trans ?_
  refine congrArg (result (a0 m c) (a1 m c) (a2 m c) (a3 m c) (a4 m c) (a5 m c) (a6 m c)) ?_
  blk_ext [ind_7]

end Cert.Kernel3Ideal.Out

end
-- ==== Proof.Out.Ref.lean ====
/- What the output projection's reference computes, at the ideal values. -/
module

public import proofs.«01_k».proof.Proof.Out.Target
public import proofs.«01_k».proof.Proof.Attn.Ideal
public import proofs.«01_k».proof.Proof.Gen.Reference3Ideal.Read

@[expose] public section

set_option maxRecDepth 16384

noncomputable section

namespace Cert.Reference3Ideal.Out

open Idealize.ShloMosaic hiding ix1 ix2 ix3 ix4 ix5
open Idealize.ShloMosaic.ValueIdx (ix1 ix2 ix3)
open Cert.Reference3Ideal Cert.Reference3Ideal.Gen Cert.Reference3Ideal.Read Cert.Attn Cert.Out
open scoped BigOperators

variable (x0 x1 x2 : SX.Idx → EReal) (x3 : SM.Idx → EReal) (x4 : SW.Idx → EReal) (x5 x6 : SL.Idx → EReal)

/-- The flat row of a batch entry's row. -/
abbrev at_ (b : Fin 8) (i : Fin 4096) : Fin 32768 := ⟨4096 * b.val + i.val, by omega⟩

theorem projected (b : Fin 8) (i : Fin 4096) (j : Fin 2048) :
    val_main_v4 (F := Ideal) x0 x1 x4 (ix3 b i j) = proj x0 x1 x4 (at_ b i) j := by
  have e : idx_main_v4 (ix3 b i j) = ix2 (at_ b i) j := by
    funext a; apply Fin.ext; fin_cases a
    · show ((b.val * 4096 + i.val) * 2048 + j.val) / 2048 = 4096 * b.val + i.val
      omega
    · show ((b.val * 4096 + i.val) * 2048 + j.val) % 2048 = j.val
      omega
  rw [val_main_v4_apply, e, val_main_v3_apply]
  refine Finset.sum_congr rfl fun k _ => ?_
  have e1 : lidx_main_v3 (ix2 (at_ b i) j) k = ix2 (at_ b i) k := by funext a; fin_cases a <;> rfl
  have e2 : ridx_main_v3 (ix2 (at_ b i) j) k = ix2 k j := by funext a; fin_cases a <;> rfl
  rw [e1, e2]
  rfl

theorem gate (b : Fin 8) (i : Fin 4096) (j : Fin 2048) :
    val_main_v11 (F := Ideal) x3 (ix3 b i j) = x3 (ix3 (⟨b.val, by omega⟩ : Fin 16) (0 : Fin 1) (⟨4096 + j.val, by omega⟩ : Fin 6144)) := by
  rw [val_main_v11_apply, val_main_v10_apply, val_main_v6_apply, val_main_v5_apply]
  refine congrArg x3 ?_
  funext a; apply Fin.ext; fin_cases a
  · show (b.val * 2048 + j.val) / 2048 = b.val
    omega
  · rfl
  · show 4096 + (b.val * 2048 + j.val) % 2048 = 4096 + j.val
    omega

theorem before (b : Fin 8) (i : Fin 4096) (j : Fin 2048) :
    val_main_v13 (F := Ideal) x0 x1 x2 x3 x4 (ix3 b i j) = row x0 x1 x2 x3 x4 (at_ b i) j := by
  have e : idx_main_v7 (ix3 b i j) = ix2 (at_ b i) j := by
    funext a; apply Fin.ext; fin_cases a
    · show ((b.val * 4096 + i.val) * 2048 + j.val) / 2048 = 4096 * b.val + i.val
      omega
    · show ((b.val * 4096 + i.val) * 2048 + j.val) % 2048 = j.val
      omega
  have hb : (⟨b.val, by omega⟩ : Fin 16) = ⟨(at_ b i).val / 4096, by omega⟩ := Fin.ext (by show b.val = (4096 * b.val + i.val) / 4096; omega)
  rw [val_main_v13_apply, val_main_v9_apply, val_main_v12_apply, gate, projected, val_main_v7_apply, e, val_main_v8_apply, hb]
  rfl

theorem first_mean (b : Fin 8) (i : Fin 4096) :
    val_main_v17 (F := Ideal) x0 x1 x2 x3 x4 (ix3 b i (0 : Fin 1)) = mean (row x0 x1 x2 x3 x4 (at_ b i)) := by
  rw [val_main_v17_apply, val_main_v16_apply, val_main_v15_apply]
  show Ideal.div _ (Ideal.ofBits .f32 0x45000000#32) = _
  refine congrArg (Ideal.div · (Ideal.ofBits .f32 0x45000000#32)) ?_
  rw [val_main_v14_apply, show val_main_cst_0 (F := Ideal) (Shape.Idx.first h_S_) = 0 from zero_word, zero_add]
  refine Finset.sum_congr rfl fun k _ => ?_
  rw [← before]
  exact congrArg _ (by funext a; fin_cases a <;> rfl)

theorem about_first (b : Fin 8) (i : Fin 4096) (j : Fin 2048) :
    val_main_v19 (F := Ideal) x0 x1 x2 x3 x4 (ix3 b i j) = about (row x0 x1 x2 x3 x4 (at_ b i)) j := by
  have e : idx_main_v18 (ix3 b i j) = ix3 b i (0 : Fin 1) := by funext a; fin_cases a <;> rfl
  rw [val_main_v19_apply, val_main_v18_apply, e, first_mean, before]
  rfl

theorem about_second (b : Fin 8) (i : Fin 4096) (j : Fin 2048) :
    val_main_v26 (F := Ideal) x0 x1 x2 x3 x4 (ix3 b i j) = about (row x0 x1 x2 x3 x4 (at_ b i)) j := by
  have e : idx_main_v25 (ix3 b i j) = ix3 b i (0 : Fin 1) := by funext a; fin_cases a <;> rfl
  rw [val_main_v26_apply, val_main_v25_apply, e, first_mean, before]
  rfl

theorem spread (b : Fin 8) (i : Fin 4096) :
    val_main_v24 (F := Ideal) x0 x1 x2 x3 x4 (ix3 b i (0 : Fin 1))
      = mean fun j => about (row x0 x1 x2 x3 x4 (at_ b i)) j * about (row x0 x1 x2 x3 x4 (at_ b i)) j := by
  rw [val_main_v24_apply, val_main_v23_apply, val_main_v22_apply]
  show Ideal.div _ (Ideal.ofBits .f32 0x45000000#32) = _
  refine congrArg (Ideal.div · (Ideal.ofBits .f32 0x45000000#32)) ?_
  rw [val_main_v21_apply, show val_main_cst_2 (F := Ideal) (Shape.Idx.first h_S_) = 0 from zero_word, zero_add]
  refine Finset.sum_congr rfl fun k _ => ?_
  rw [show idx_main_v21 (idx_main_v22 (ix3 b i (0 : Fin 1))) k = ix3 b i k from by funext a; fin_cases a <;> rfl, val_main_v20_apply, about_first]
  rfl

theorem scaled (b : Fin 8) (i : Fin 4096) (d : Fin 2048) :
    val_main_v37 (F := Ideal) x0 x1 x2 x3 x4 x5 x6 (ix3 b i d)
      = normed (row x0 x1 x2 x3 x4 (at_ b i)) (fun j => x5 (ix1 j)) (fun j => x6 (ix1 j)) d := by
  have e30 : idx_main_v30 (ix3 b i d) = ix3 b i (0 : Fin 1) := by funext a; fin_cases a <;> rfl
  have e5 : val_main_v33 (F := Ideal) x5 (ix3 b i d) = x5 (ix1 d) := by
    rw [val_main_v33_apply, val_main_v32_apply]
    exact congrArg x5 (by funext a; fin_cases a; rfl)
  have e6 : val_main_v36 (F := Ideal) x6 (ix3 b i d) = x6 (ix1 d) := by
    rw [val_main_v36_apply, val_main_v35_apply]
    exact congrArg x6 (by funext a; fin_cases a; rfl)
  rw [val_main_v37_apply, val_main_v34_apply, val_main_v31_apply, e5, e6, about_second, val_main_v30_apply, e30, val_main_v29_apply,
    val_main_v28_apply, spread, val_main_v27_apply]
  rfl

/-- The reference's result is the projection's. -/
theorem reference_result : val_main_v38 (F := Ideal) x0 x1 x2 x3 x4 x5 x6 = result x0 x1 x2 x3 x4 x5 x6 := by
  funext y
  have hy0 : (y 0).val < 32768 := (y 0).isLt
  have hy1 : (y 1).val < 2048 := (y 1).isLt
  have e : idx_main_v38 y = ix3 (⟨(y 0).val / 4096, by omega⟩ : Fin 8) (⟨(y 0).val % 4096, by omega⟩ : Fin 4096) (⟨(y 1).val, hy1⟩ : Fin 2048) := by
    funext a; apply Fin.ext; fin_cases a
    · show ((y 0).val * 2048 + (y 1).val) / 8388608 = (y 0).val / 4096
      omega
    · show ((y 0).val * 2048 + (y 1).val) / 2048 % 4096 = (y 0).val % 4096
      omega
    · show ((y 0).val * 2048 + (y 1).val) % 2048 = (y 1).val
      omega
  have er : at_ (⟨(y 0).val / 4096, by omega⟩ : Fin 8) (⟨(y 0).val % 4096, by omega⟩ : Fin 4096) = (⟨(y 0).val, hy0⟩ : Fin 32768) :=
    Fin.ext (by show 4096 * ((y 0).val / 4096) + (y 0).val % 4096 = (y 0).val; omega)
  rw [val_main_v38_apply, e, scaled, er]
  rfl

end Cert.Reference3Ideal.Out

end
-- ==== Proof.Out.Claims.lean ====
/- The output projection: its frames, and that the kernel computes its reference's value. -/
module

public import proofs.«01_k».proof.Defs
public import proofs.«01_k».proof.Proof.Out.Value
public import proofs.«01_k».proof.Proof.Out.Ref
public import proofs.«01_k».proof.Proof.Gen.Kernel3.Frame
public import proofs.«01_k».proof.Proof.Gen.Reference3Ideal.Run

@[expose] public section

set_option maxRecDepth 16384

noncomputable section

namespace Cert.Kernel3Ideal.Out

open Idealize.ShloMosaic Idealize.SL.Sem Cert.Out

/-- The kernel ends with its arguments unchanged and no counter raised, at every float type. -/
theorem kernel_quiescent : Cert.quiescent_Kernel3 (hKernel3 := Cert.Kernel3.Gen.facts) := fun m ρ _ =>
  Cert.Kernel3.Gen.frame m ρ

/-- So does the idealized kernel. -/
theorem ideal_quiescent : Cert.quiescent_Kernel3Ideal (hKernel3Ideal := Cert.Kernel3Ideal.Gen.facts) := fun m ρ _ =>
  Cert.Kernel3Ideal.Gen.frame m ρ

/-- And so does the reference. -/
theorem reference_quiescent : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Cert.Reference3Ideal.Value.run m ρ)

/-- Nothing is rewritten. -/
theorem kept : Cert.preserves_Kernel3_Kernel3Ideal := trivial

/-- The kernel and its reference end with one value. -/
theorem same_value : Cert.algebraic_Kernel3Ideal_Reference3Ideal (hKernel3Ideal := Cert.Kernel3Ideal.Gen.facts) (hReference3Ideal := Cert.Reference3Ideal.Gen.facts) := by
  intro m ρ m' ρ' _ hargs
  refine ⟨fun c => result (a0 m c) (a1 m c) (a2 m c) (a3 m c) (a4 m c) (a5 m c) (a6 m c), ?_, ?_⟩
  · exact (θ_run (Cert.Kernel3Ideal.defs (F := Ideal)) _ _).mono (fun _ h c => ⟨(h c).1.trans (final m c), (h c).2⟩) (Cert.Kernel3Ideal.Value.run_blocks m ρ)
  · refine (θ_run (Cert.Reference3Ideal.defs (F := Ideal)) _ _).mono (fun _ h c => ⟨(h c).1.trans ?_, (h c).2⟩) (Cert.Reference3Ideal.Value.run m' ρ')
    obtain ⟨e0, e1, e2, e3, e4, e5, e6⟩ := hargs c
    refine (Cert.Reference3Ideal.Read.val_main_v38_eq _ _).trans ?_
    rw [e0, e1, e2, e3, e4, e5, e6]
    exact Cert.Reference3Ideal.Out.reference_result _ _ _ _ _ _ _

end Cert.Kernel3Ideal.Out

end
-- ==== Proof.Out2.Target.lean ====
/- The two halves of the even layer's gated mixture, joined, and their projection in two sums. -/
module

public import proofs.«01_k».proof.Proof.Out.Norm

@[expose] public section

noncomputable section

namespace Cert.Out

open Idealize.ShloMosaic hiding ix1 ix2 ix3 ix4 ix5
open Idealize.ShloMosaic.ValueIdx (ix1 ix2 ix3)
open Cert.Attn Idealize.ShloMosaic.ValueIdx
open scoped BigOperators

/-- A half of the columns: of the whole array, of a block's rows, and the projection's rows for it. -/
abbrev SH : Shape := ⟨2, ![32768, 1024]⟩
abbrev BH : Shape := ⟨2, ![256, 1024]⟩
abbrev WH : Shape := ⟨2, ![1024, 2048]⟩

/-- The convolution's columns, then the attention's. -/
def joined (u v : SH.Idx → EReal) (i : SX.Idx) : EReal :=
  if h : (i 1).val < 1024 then u (ix2 (⟨(i 0).val, (i 0).isLt⟩ : Fin 32768) (⟨(i 1).val, h⟩ : Fin 1024))
  else v (ix2 (⟨(i 0).val, (i 0).isLt⟩ : Fin 32768) (⟨(i 1).val - 1024, by have : (i 1).val < 2048 := (i 1).isLt; omega⟩ : Fin 1024))

theorem joined_left (u v : SH.Idx → EReal) (r : Fin 32768) (k : Fin 1024) :
    joined u v (ix2 r (⟨k.val, by omega⟩ : Fin 2048)) = u (ix2 r k) := by
  unfold joined
  rw [dif_pos (show k.val < 1024 from k.isLt)]

theorem joined_right (u v : SH.Idx → EReal) (r : Fin 32768) (k : Fin 1024) :
    joined u v (ix2 r (⟨1024 + k.val, by omega⟩ : Fin 2048)) = v (ix2 r k) := by
  unfold joined
  rw [dif_neg (show ¬ 1024 + k.val < 1024 by omega)]
  refine congrArg v ?_
  funext a; apply Fin.ext; fin_cases a
  · rfl
  · show 1024 + k.val - 1024 = k.val
    omega

/-- The projection of the joined columns is the two halves' sum. -/
theorem proj_joined (u v : SH.Idx → EReal) (g : SX.Idx → EReal) (w : SW.Idx → EReal) (r : Fin 32768) (j : Fin 2048) :
    proj (joined u v) g w r j
      = (∑ k : Fin 1024, (u (ix2 r k) * g (ix2 r (⟨k.val, by omega⟩ : Fin 2048))) * w (ix2 (⟨k.val, by omega⟩ : Fin 2048) j))
        + ∑ k : Fin 1024, (v (ix2 r k) * g (ix2 r (⟨1024 + k.val, by omega⟩ : Fin 2048))) * w (ix2 (⟨1024 + k.val, by omega⟩ : Fin 2048) j) := by
  refine (Fin.sum_univ_add (M := EReal) (a := 1024) (b := 1024) (fun k : Fin 2048 => (joined u v (ix2 r k) * g (ix2 r k)) * w (ix2 k j))).trans ?_
  refine congrArg₂ (· + ·) (Finset.sum_congr rfl fun k _ => ?_) (Finset.sum_congr rfl fun k _ => ?_)
  · exact congrArg (fun z => (z * _) * _) (joined_left u v r k)
  · exact congrArg (fun z => (z * _) * _) (joined_right u v r k)

theorem sameWH : WH.ShapeCasts WH := by decide

/-- A half's gated product on a block's rows. -/
def halfV (a g : FVec Ideal BH .bf16) (w : FVec Ideal WH .bf16) : FVec Ideal B .f32 :=
  matmul (DotDims.plain 256 1024 2048) none (mulf a g) (shapeCast WH w sameWH) (constant B .f32 0x00000000#32)

theorem halfV_apply (a g : FVec Ideal BH .bf16) (w : FVec Ideal WH .bf16) (r : Fin 256) (j : Fin 2048) :
    halfV a g w (ix2 r j) = ∑ k : Fin 1024, (a (ix2 r k) * g (ix2 r k)) * w (ix2 k j) := by
  unfold halfV
  rw [shapeCast_id]
  show FloatOps.matmul (DotDims.plain 256 1024 2048) none (mulf a g) w (constant B .f32 0x00000000#32) (ix2 r j) = _
  rw [Ideal.matmul_plain_apply, constant_apply, zero_word, zero_add]
  rfl

end Cert.Out

end
-- ==== Proof.Out2.Value.lean ====
/- What the even layer's output projection's launch leaves, at the ideal values. -/
module

public import proofs.«01_k».proof.Proof.Out2.Target
public import proofs.«01_k».proof.Proof.Gen.Kernel4Ideal.Value
public import Idealize.ShloMosaic.Lib.KernelVsHost
public import Idealize.ShloMosaic.Lib.StableHlo.Run
public import Idealize.ShloMosaic.Lib.Pipeline.ValueKit.Geometry
public import Idealize.ShloMosaic.Lib.Pipeline.ValueKit.Tiles

@[expose] public section

set_option maxRecDepth 16384

noncomputable section

namespace Cert.Kernel4Ideal.Out2

open Idealize.ShloMosaic hiding ix1 ix2 ix3 ix4 ix5
open Idealize.ShloMosaic.ValueIdx (ix1 ix2 ix3 truncf_apply)
open Idealize.SL.Sem Idealize.ShloMosaic.TcCoe
open Cert.Kernel4Ideal Cert.Kernel4Ideal.Gen Cert.Out

variable (m : (ℓ : Loc nD τ sig) → Buf (Elt Ideal) ℓ)

/-- The arguments' contents at launch. -/
abbrev a0 (c : Dev nD) : SH.Idx → EReal := m ((c.tc : Thread nD τ).loc main_arg0)
abbrev a1 (c : Dev nD) : SH.Idx → EReal := m ((c.tc : Thread nD τ).loc main_arg1)
abbrev a2 (c : Dev nD) : SX.Idx → EReal := m ((c.tc : Thread nD τ).loc main_arg2)
abbrev a3 (c : Dev nD) : SX.Idx → EReal := m ((c.tc : Thread nD τ).loc main_arg3)
abbrev a4 (c : Dev nD) : SM.Idx → EReal := m ((c.tc : Thread nD τ).loc main_arg4)
abbrev a5 (c : Dev nD) : SW.Idx → EReal := m ((c.tc : Thread nD τ).loc main_arg5)
abbrev a6 (c : Dev nD) : SL.Idx → EReal := m ((c.tc : Thread nD τ).loc main_arg6)
abbrev a7 (c : Dev nD) : SL.Idx → EReal := m ((c.tc : Thread nD τ).loc main_arg7)

/-- The result, of the arguments. -/
abbrev res (c : Dev nD) : SX.Idx → EReal := result (joined (a0 m c) (a1 m c)) (a2 m c) (a3 m c) (a4 m c) (a5 m c) (a6 m c) (a7 m c)

theorem V_w (c : Dev nD) : V m c main_v0 = a5 m c := by
  unfold V; after_results <;> rfl
theorem V_g (c : Dev nD) : V m c main_v1 = shapeCast S1x2048 (a6 m c) shapeCasts_S2048_S1x2048 := by
  unfold V; after_results <;> rfl
theorem V_b (c : Dev nD) : V m c main_v2 = shapeCast S1x2048 (a7 m c) shapeCasts_S2048_S1x2048 := by
  unfold V; after_results <;> rfl
theorem V_0 (c : Dev nD) : V m c main_arg0 = a0 m c := by
  unfold V; after_results <;> rfl
theorem V_1 (c : Dev nD) : V m c main_arg1 = a1 m c := by
  unfold V; after_results <;> rfl
theorem V_2 (c : Dev nD) : V m c main_arg2 = a2 m c := by
  unfold V; after_results <;> rfl
theorem V_3 (c : Dev nD) : V m c main_arg3 = a3 m c := by
  unfold V; after_results <;> rfl
theorem V_4 (c : Dev nD) : V m c main_arg4 = a4 m c := by
  unfold V; after_results <;> rfl

theorem ind_0 : ∀ t : Fin cfg0.N, win0_0.index t = ![t.val, 0] := (by decide +kernel : ∀ t : Fin grid0.N, _)
theorem ind_1 : ∀ t : Fin cfg0.N, win0_1.index t = ![t.val, 0] := (by decide +kernel : ∀ t : Fin grid0.N, _)
theorem ind_2 : ∀ t : Fin cfg0.N, win0_2.index t = ![t.val, 0] := (by decide +kernel : ∀ t : Fin grid0.N, _)
theorem ind_3 : ∀ t : Fin cfg0.N, win0_3.index t = ![0, 0] := (by decide +kernel : ∀ t : Fin grid0.N, _)
theorem ind_4 : ∀ t : Fin cfg0.N, win0_4.index t = ![t.val, 0] := (by decide +kernel : ∀ t : Fin grid0.N, _)
theorem ind_5 : ∀ t : Fin cfg0.N, win0_5.index t = ![t.val / 8, 0, 2] := (by decide +kernel : ∀ t : Fin grid0.N, _)
theorem ind_6 : ∀ t : Fin cfg0.N, win0_6.index t = ![0, 0] := (by decide +kernel : ∀ t : Fin grid0.N, _)
theorem ind_7 : ∀ t : Fin cfg0.N, win0_7.index t = ![0, 0] := (by decide +kernel : ∀ t : Fin grid0.N, _)
theorem ind_8 : ∀ t : Fin cfg0.N, win0_8.index t = ![t.val, 0] := (by decide +kernel : ∀ t : Fin grid0.N, _)

theorem N_64 : cfg0.N = 64 := by decide +kernel

/-- The blocks' elements, read from the arguments. -/
theorem in_0 (c : Dev nD) (t : Fin cfg0.N) (j : S512x1024.Idx) (r : Fin 32768) (k : Fin 1024)
    (h0 : r.val = 512 * t.val + (j 0).val) (h1 : (j 1).val = k.val) : iblk m c 0 t j = a0 m c (ix2 r k) := by
  rw [← V_0]
  blk_simp [iblk]
  refine congrArg (V m c main_arg0) ?_
  blk_ext [ind_0]
  all_goals first | (show _ = r.val; omega) | (show _ = k.val; omega)

theorem in_1 (c : Dev nD) (t : Fin cfg0.N) (j : S512x1024.Idx) (r : Fin 32768) (k : Fin 1024)
    (h0 : r.val = 512 * t.val + (j 0).val) (h1 : (j 1).val = k.val) : iblk m c 1 t j = a1 m c (ix2 r k) := by
  rw [← V_1]
  blk_simp [iblk]
  refine congrArg (V m c main_arg1) ?_
  blk_ext [ind_1]
  all_goals first | (show _ = r.val; omega) | (show _ = k.val; omega)

theorem in_2 (c : Dev nD) (t : Fin cfg0.N) (j : S512x2048.Idx) (r : Fin 32768) (k : Fin 2048)
    (h0 : r.val = 512 * t.val + (j 0).val) (h1 : (j 1).val = k.val) : iblk m c 2 t j = a2 m c (ix2 r k) := by
  rw [← V_2]
  blk_simp [iblk]
  refine congrArg (V m c main_arg2) ?_
  blk_ext [ind_2]
  all_goals first | (show _ = r.val; omega) | (show _ = k.val; omega)

theorem in_3 (c : Dev nD) (t : Fin cfg0.N) (j : S2048x2048.Idx) (k d : Fin 2048)
    (h0 : (j 0).val = k.val) (h1 : (j 1).val = d.val) : iblk m c 3 t j = a5 m c (ix2 k d) := by
  rw [← V_w]
  blk_simp [iblk]
  refine congrArg (V m c main_v0) ?_
  blk_ext [ind_3]
  all_goals first | (show _ = k.val; omega) | (show _ = d.val; omega)

theorem in_4 (c : Dev nD) (t : Fin cfg0.N) (j : S512x2048.Idx) (r : Fin 32768) (k : Fin 2048)
    (h0 : r.val = 512 * t.val + (j 0).val) (h1 : (j 1).val = k.val) : iblk m c 4 t j = a3 m c (ix2 r k) := by
  rw [← V_3]
  blk_simp [iblk]
  refine congrArg (V m c main_arg3) ?_
  blk_ext [ind_4]
  all_goals first | (show _ = r.val; omega) | (show _ = k.val; omega)

theorem in_5 (c : Dev nD) (t : Fin cfg0.N) (j : S1x1x2048.Idx) (b : Fin 16) (k : Fin 6144)
    (h0 : b.val = t.val / 8) (h2 : k.val = 4096 + (j 2).val) : iblk m c 5 t j = a4 m c (ix3 b (0 : Fin 1) k) := by
  have j0 : (j 0).val < 1 := (j 0).isLt
  have j1 : (j 1).val < 1 := (j 1).isLt
  rw [← V_4]
  blk_simp [iblk]
  refine congrArg (V m c main_arg4) ?_
  blk_ext [ind_5]
  all_goals first | (show _ = b.val; omega) | (show _ = k.val; omega)

theorem in_6 (c : Dev nD) (t : Fin cfg0.N) (j : S1x2048.Idx) (k : Fin 2048) (h1 : (j 1).val = k.val) : iblk m c 6 t j = a6 m c (ix1 k) := by
  have j0 : (j 0).val < 1 := (j 0).isLt
  have e : iblk m c 6 t j = V m c main_v1 (ix2 (0 : Fin 1) k) := by
    blk_simp [iblk]
    refine congrArg (V m c main_v1) ?_
    blk_ext [ind_6]
  rw [e, V_g]
  refine shapeCast_apply _ _ _ _ ?_
  rewrite [Shape.rowMajor_val_two, Shape.rowMajor_val_one]
  show k.val = 0 * 2048 + k.val
  omega

theorem in_7 (c : Dev nD) (t : Fin cfg0.N) (j : S1x2048.Idx) (k : Fin 2048) (h1 : (j 1).val = k.val) : iblk m c 7 t j = a7 m c (ix1 k) := by
  have j0 : (j 0).val < 1 := (j 0).isLt
  have e : iblk m c 7 t j = V m c main_v2 (ix2 (0 : Fin 1) k) := by
    blk_simp [iblk]
    refine congrArg (V m c main_v2) ?_
    blk_ext [ind_7]
  rw [e, V_b]
  refine shapeCast_apply _ _ _ _ ?_
  rewrite [Shape.rowMajor_val_two, Shape.rowMajor_val_one]
  show k.val = 0 * 2048 + k.val
  omega

/-- A block half's rows, of the loads. -/
abbrev halfRows (u : Vec Ideal S256x1024 .bf16) (g : Vec Ideal S256x1024 .bf16) (w : Vec Ideal S1024x2048 .bf16)
    (v : Vec Ideal S256x1024 .bf16) (g' : Vec Ideal S256x1024 .bf16) (w' : Vec Ideal S1024x2048 .bf16)
    (x : Vec Ideal S256x2048 .f32) (md : Vec Ideal S1x1x2048 .f32) (lg lb : Vec Ideal S1x2048 .f32) : FVec Ideal B .f32 :=
  normedV (mixedV x md (addf (halfV u g w) (halfV v g' w'))) lg lb

theorem half_hi (u : Vec Ideal S256x1024 .bf16) (g : Vec Ideal S256x1024 .bf16) (w : Vec Ideal S1024x2048 .bf16)
    (v : Vec Ideal S256x1024 .bf16) (g' : Vec Ideal S256x1024 .bf16) (w' : Vec Ideal S1024x2048 .bf16)
    (x : Vec Ideal S256x2048 .f32) (md : Vec Ideal S1x1x2048 .f32) (lg lb : Vec Ideal S1x2048 .f32) :
    k0_pay1 (k0_pay6 (k0_pay3 u g w v g' w') x md) lg lb = halfRows u g w v g' w' x md lg lb := rfl
theorem half_lo (u : Vec Ideal S256x1024 .bf16) (g : Vec Ideal S256x1024 .bf16) (w : Vec Ideal S1024x2048 .bf16)
    (v : Vec Ideal S256x1024 .bf16) (g' : Vec Ideal S256x1024 .bf16) (w' : Vec Ideal S1024x2048 .bf16)
    (x : Vec Ideal S256x2048 .f32) (md : Vec Ideal S1x1x2048 .f32) (lg lb : Vec Ideal S1x2048 .f32) :
    k0_pay5 (k0_pay2 u g w v g' w') x (k0_pay4 (F := Ideal)) md lg lb = halfRows u g w v g' w' x md lg lb := rfl

/-- A half's rows, entry by entry, of loads that read the arguments. -/
theorem half_apply (c : Dev nD) (u : Vec Ideal S256x1024 .bf16) (g : Vec Ideal S256x1024 .bf16) (w : Vec Ideal S1024x2048 .bf16)
    (v : Vec Ideal S256x1024 .bf16) (g' : Vec Ideal S256x1024 .bf16) (w' : Vec Ideal S1024x2048 .bf16)
    (x : Vec Ideal S256x2048 .f32) (md : Vec Ideal S1x1x2048 .f32) (lg lb : Vec Ideal S1x2048 .f32)
    (r : Fin 256) (R : Fin 32768)
    (hu : ∀ k : Fin 1024, u (ix2 r k) = a0 m c (ix2 R k)) (hv : ∀ k : Fin 1024, v (ix2 r k) = a1 m c (ix2 R k))
    (hg : ∀ k : Fin 1024, g (ix2 r k) = a2 m c (ix2 R (⟨k.val, by omega⟩ : Fin 2048)))
    (hg' : ∀ k : Fin 1024, g' (ix2 r k) = a2 m c (ix2 R (⟨1024 + k.val, by omega⟩ : Fin 2048)))
    (hw : ∀ (k : Fin 1024) (d : Fin 2048), w (ix2 k d) = a5 m c (ix2 (⟨k.val, by omega⟩ : Fin 2048) d))
    (hw' : ∀ (k : Fin 1024) (d : Fin 2048), w' (ix2 k d) = a5 m c (ix2 (⟨1024 + k.val, by omega⟩ : Fin 2048) d))
    (hx : ∀ k : Fin 2048, x (ix2 r k) = a3 m c (ix2 R k))
    (hm : ∀ k : Fin 2048, md (ix3 (0 : Fin 1) (0 : Fin 1) k) = a4 m c (ix3 (⟨R.val / 4096, by omega⟩ : Fin 16) (0 : Fin 1) (⟨4096 + k.val, by omega⟩ : Fin 6144)))
    (hl : ∀ k : Fin 2048, lg (ix2 (0 : Fin 1) k) = a6 m c (ix1 k)) (hb : ∀ k : Fin 2048, lb (ix2 (0 : Fin 1) k) = a7 m c (ix1 k)) (d : Fin 2048) :
    halfRows u g w v g' w' x md lg lb (ix2 r d) = res m c (ix2 R d) := by
  refine (normedV_apply _ _ _ r d).trans ?_
  refine normed_congr (fun j => ?_) hl hb d
  refine (mixedV_apply _ _ _ r j).trans ?_
  have e : (addf (halfV u g w) (halfV v g' w')) (ix2 r j) = proj (joined (a0 m c) (a1 m c)) (a2 m c) (a5 m c) R j := by
    rw [proj_joined]
    refine congrArg₂ (· + ·) ?_ ?_
    · refine (halfV_apply _ _ _ r j).trans (Finset.sum_congr rfl fun k _ => ?_)
      rw [hu, hg, hw]
    · refine (halfV_apply _ _ _ r j).trans (Finset.sum_congr rfl fun k _ => ?_)
      rw [hv, hg', hw']
  rw [e, hx, hm]
  rfl

/-- A grid point's output block. -/
theorem out_apply (c : Dev nD) (t : Fin cfg0.N) (y : S512x2048.Idx) (R : Fin 32768) (d : Fin 2048)
    (hR : R.val = 512 * t.val + (y 0).val) (hd : d.val = (y 1).val) :
    out0_8 (iblk m c 0 t) (iblk m c 1 t) (iblk m c 2 t) (iblk m c 3 t) (iblk m c 4 t) (iblk m c 5 t) (iblk m c 6 t) (iblk m c 7 t) y
      = res m c (ix2 R d) := by
  have hN := N_64
  have ht : t.val < 64 := lt_of_lt_of_eq t.isLt hN
  have hy0 : (y 0).val < 512 := (y 0).isLt
  have hy1 : (y 1).val < 2048 := (y 1).isLt
  unfold out0_8
  refine View.canon_eq_of_allAt _ y _ (cover0_8 _ _ y) ?_
  intro p hp x hx
  have e0 : (y 0).val = ((p.1.emb x) 0).val := by rw [hx]
  have e1 : (y 1).val = ((p.1.emb x) 1).val := by rw [hx]
  rcases List.mem_cons.mp hp with rfl | hp
  · have ex : x = ix2 (⟨(x 0).val, (x 0).isLt⟩ : Fin 256) d := by
      funext a; apply Fin.ext; fin_cases a
      · rfl
      · have : (y 1).val = 0 + 1 * (x 1).val := e1
        show (x 1).val = d.val; omega
    have e0' : (y 0).val = 256 + 1 * (x 0).val := e0
    show k0_pay1 _ _ _ x = _
    rw [half_hi, ex]
    refine half_apply m c _ _ _ _ _ _ _ _ _ _ _ R (fun k => ?_) (fun k => ?_) (fun k => ?_) (fun k => ?_) (fun k d => ?_) (fun k d => ?_) (fun k => ?_) (fun k => ?_) (fun k => ?_) (fun k => ?_) d
    · exact in_0 m c t _ R k (by show R.val = 512 * t.val + (256 + 1 * (x 0).val); omega) (by show 0 + 1 * k.val = k.val; omega)
    · exact in_1 m c t _ R k (by show R.val = 512 * t.val + (256 + 1 * (x 0).val); omega) (by show 0 + 1 * k.val = k.val; omega)
    · exact in_2 m c t _ R _ (by show R.val = 512 * t.val + (256 + 1 * (x 0).val); omega) (by show 0 + 1 * k.val = k.val; omega)
    · exact in_2 m c t _ R _ (by show R.val = 512 * t.val + (256 + 1 * (x 0).val); omega) (by show 1024 + 1 * k.val = 1024 + k.val; omega)
    · exact in_3 m c t _ _ d (by show 0 + 1 * k.val = k.val; omega) (by show 0 + 1 * d.val = d.val; omega)
    · exact in_3 m c t _ _ d (by show 1024 + 1 * k.val = 1024 + k.val; omega) (by show 0 + 1 * d.val = d.val; omega)
    · exact in_4 m c t _ R k (by show R.val = 512 * t.val + (256 + 1 * (x 0).val); omega) (by show 0 + 1 * k.val = k.val; omega)
    · exact in_5 m c t _ _ _ (by show R.val / 4096 = t.val / 8; omega) (by show 4096 + k.val = 4096 + (0 + 1 * k.val); omega)
    · exact in_6 m c t _ k (by show 0 + 1 * k.val = k.val; omega)
    · exact in_7 m c t _ k (by show 0 + 1 * k.val = k.val; omega)
  · obtain rfl := List.mem_singleton.mp hp
    have ex : x = ix2 (⟨(x 0).val, (x 0).isLt⟩ : Fin 256) d := by
      funext a; apply Fin.ext; fin_cases a
      · rfl
      · have : (y 1).val = 0 + 1 * (x 1).val := e1
        show (x 1).val = d.val; omega
    have e0' : (y 0).val = 0 + 1 * (x 0).val := e0
    show k0_pay5 _ _ _ _ _ _ x = _
    rw [half_lo, ex]
    refine half_apply m c _ _ _ _ _ _ _ _ _ _ _ R (fun k => ?_) (fun k => ?_) (fun k => ?_) (fun k => ?_) (fun k d => ?_) (fun k d => ?_) (fun k => ?_) (fun k => ?_) (fun k => ?_) (fun k => ?_) d
    · exact in_0 m c t _ R k (by show R.val = 512 * t.val + (0 + 1 * (x 0).val); omega) (by show 0 + 1 * k.val = k.val; omega)
    · exact in_1 m c t _ R k (by show R.val = 512 * t.val + (0 + 1 * (x 0).val); omega) (by show 0 + 1 * k.val = k.val; omega)
    · exact in_2 m c t _ R _ (by show R.val = 512 * t.val + (0 + 1 * (x 0).val); omega) (by show 0 + 1 * k.val = k.val; omega)
    · exact in_2 m c t _ R _ (by show R.val = 512 * t.val + (0 + 1 * (x 0).val); omega) (by show 1024 + 1 * k.val = 1024 + k.val; omega)
    · exact in_3 m c t _ _ d (by show 0 + 1 * k.val = k.val; omega) (by show 0 + 1 * d.val = d.val; omega)
    · exact in_3 m c t _ _ d (by show 1024 + 1 * k.val = 1024 + k.val; omega) (by show 0 + 1 * d.val = d.val; omega)
    · exact in_4 m c t _ R k (by show R.val = 512 * t.val + (0 + 1 * (x 0).val); omega) (by show 0 + 1 * k.val = k.val; omega)
    · exact in_5 m c t _ _ _ (by show R.val / 4096 = t.val / 8; omega) (by show 4096 + k.val = 4096 + (0 + 1 * k.val); omega)
    · exact in_6 m c t _ k (by show 0 + 1 * k.val = k.val; omega)
    · exact in_7 m c t _ k (by show 0 + 1 * k.val = k.val; omega)

/-- The launch leaves the projection's result of the arguments. -/
theorem final (c : Dev nD) : (dats m 0 c).arrAt 8 cfg0.N = res m c := by
  refine (dats m 0 c).arrAt_eq_of_covers 8 _ (by decide +kernel) fun t hf y => ?_
  have hN := N_64
  have ht : t.val < 64 := lt_of_lt_of_eq t.isLt hN
  blk_simp
  rw [after0_8]
  have hy0 : (y 0).val < 512 := (y 0).isLt
  have hy1 : (y 1).val < 2048 := (y 1).isLt
  refine (out_apply m c t y ⟨512 * t.val + (y 0).val, by omega⟩ ⟨(y 1).val, hy1⟩ rfl rfl).trans ?_
  refine congrArg (res m c) ?_
  blk_ext [ind_8]

end Cert.Kernel4Ideal.Out2

end
-- ==== Proof.Out2.Ref.lean ====
/- What the even layer's output projection's reference computes: the odd layer's, of the joined columns. -/
module

public import proofs.«01_k».proof.Proof.Out2.Target
public import proofs.«01_k».proof.Proof.Out.Ref
public import proofs.«01_k».proof.Proof.Gen.Reference4Ideal.Read

@[expose] public section

set_option maxRecDepth 16384

noncomputable section

namespace Cert.Reference4Ideal.Out2

open Idealize.ShloMosaic hiding ix1 ix2 ix3 ix4 ix5
open Idealize.ShloMosaic.ValueIdx (ix1 ix2 ix3)
open Cert.Reference4Ideal Cert.Reference4Ideal.Gen Cert.Reference4Ideal.Read Cert.Out

variable (x0 x1 : SH.Idx → EReal) (x2 x3 : SX.Idx → EReal) (x4 : SM.Idx → EReal) (x5 : SW.Idx → EReal) (x6 x7 : SL.Idx → EReal)

/-- The concatenation is the joined columns. -/
theorem joins : val_main_v2 (F := Ideal) x0 x1 = joined x0 x1 := by
  funext i
  have h1 : (i 1).val < 2048 := (i 1).isLt
  unfold joined
  by_cases h : (i 1).val < 1024
  · rw [dif_pos h]
    exact concatenate_pair_apply_left (t := S32768x2048) 1 x0 x1 _ i rfl _ (by intro a; fin_cases a <;> rfl)
  · rw [dif_neg h]
    refine concatenate_pair_apply_right (t := S32768x2048) 1 x0 x1 _ i rfl rfl _ ?_ ?_
    · intro a ha
      fin_cases a
      · rfl
      · exact absurd rfl ha
    · show (i 1).val - 1024 + 1024 = (i 1).val
      omega

/-- From the concatenation on, the two references are one text. -/
theorem same_text : val_main_v40 (F := Ideal) x0 x1 x2 x3 x4 x5 x6 x7
    = Cert.Reference3Ideal.Read.val_main_v38 (F := Ideal) (val_main_v2 (F := Ideal) x0 x1) x2 x3 x4 x5 x6 x7 := rfl

/-- The reference's result is the projection's, of the joined columns. -/
theorem reference_result : val_main_v40 (F := Ideal) x0 x1 x2 x3 x4 x5 x6 x7 = result (joined x0 x1) x2 x3 x4 x5 x6 x7 := by
  rw [same_text, joins]
  exact Cert.Reference3Ideal.Out.reference_result _ _ _ _ _ _ _

end Cert.Reference4Ideal.Out2

end
-- ==== Proof.Out2.Claims.lean ====
/- The even layer's output projection: its frames, and that the kernel computes its reference's value. -/
module

public import proofs.«01_k».proof.Defs
public import proofs.«01_k».proof.Proof.Out2.Value
public import proofs.«01_k».proof.Proof.Out2.Ref
public import proofs.«01_k».proof.Proof.Gen.Kernel4.Frame
public import proofs.«01_k».proof.Proof.Gen.Reference4Ideal.Run

@[expose] public section

set_option maxRecDepth 16384

noncomputable section

namespace Cert.Kernel4Ideal.Out2

open Idealize.ShloMosaic Idealize.SL.Sem Cert.Out

/-- The kernel ends with its arguments unchanged and no counter raised, at every float type. -/
theorem kernel_quiescent : Cert.quiescent_Kernel4 (hKernel4 := Cert.Kernel4.Gen.facts) := fun m ρ _ =>
  Cert.Kernel4.Gen.frame m ρ

/-- So does the idealized kernel. -/
theorem ideal_quiescent : Cert.quiescent_Kernel4Ideal (hKernel4Ideal := Cert.Kernel4Ideal.Gen.facts) := fun m ρ _ =>
  Cert.Kernel4Ideal.Gen.frame m ρ

/-- And so does the reference. -/
theorem reference_quiescent : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Cert.Reference4Ideal.Value.run m ρ)

/-- Nothing is rewritten. -/
theorem kept : Cert.preserves_Kernel4_Kernel4Ideal := trivial

/-- The kernel and its reference end with one value. -/
theorem same_value : Cert.algebraic_Kernel4Ideal_Reference4Ideal (hKernel4Ideal := Cert.Kernel4Ideal.Gen.facts) (hReference4Ideal := Cert.Reference4Ideal.Gen.facts) := by
  intro m ρ m' ρ' _ hargs
  refine ⟨fun c => res m c, ?_, ?_⟩
  · exact (θ_run (Cert.Kernel4Ideal.defs (F := Ideal)) _ _).mono (fun _ h c => ⟨(h c).1.trans (final m c), (h c).2⟩) (Cert.Kernel4Ideal.Value.run_blocks m ρ)
  · refine (θ_run (Cert.Reference4Ideal.defs (F := Ideal)) _ _).mono (fun _ h c => ⟨(h c).1.trans ?_, (h c).2⟩) (Cert.Reference4Ideal.Value.run m' ρ')
    obtain ⟨e0, e1, e2, e3, e4, e5, e6, e7⟩ := hargs c
    refine (Cert.Reference4Ideal.Read.val_main_v40_eq _ _).trans ?_
    rw [e0, e1, e2, e3, e4, e5, e6, e7]
    exact Cert.Reference4Ideal.Out2.reference_result _ _ _ _ _ _ _ _

end Cert.Kernel4Ideal.Out2

end
-- ==== Proof.Mod.Target.lean ====
/- The modulated rows' products with a weight, as functions of the arrays and as the kernel's blocks compute them. -/
module

public import proofs.«01_k».proof.Proof.Out.Norm
public import Idealize.ShloMosaic.Lib.KernelVsHost
public import Idealize.ShloMosaic.Lib.Pipeline.ValueKit.Geometry
public import Idealize.ShloMosaic.Lib.Pipeline.ValueKit.Tiles

@[expose] public section

set_option maxRecDepth 16384

noncomputable section

namespace Cert.Mod

open Idealize.ShloMosaic hiding ix1 ix2 ix3 ix4 ix5
open Idealize.ShloMosaic.ValueIdx (ix1 ix2 ix3 constant_apply)
open Cert.Attn
open Cert.Out (SX SM L L3 flat)
open scoped BigOperators

/-- A weight of `n` columns, and the result of its product. -/
abbrev SW (n : Nat) : Shape := ⟨2, ![2048, n]⟩
abbrev SR (n : Nat) : Shape := ⟨2, ![32768, n]⟩

/-- A row scaled by one plus its modulation's scale, and shifted. -/
def modded (x : SX.Idx → EReal) (md : SM.Idx → EReal) (r : Fin 32768) (k : Fin 2048) : EReal :=
  x (ix2 r k) * (Ideal.ofBits .f32 0x3F800000#32 + md (ix3 (⟨r.val / 4096, by omega⟩ : Fin 16) (0 : Fin 1) (⟨2048 + k.val, by omega⟩ : Fin 6144)))
    + md (ix3 (⟨r.val / 4096, by omega⟩ : Fin 16) (0 : Fin 1) (⟨k.val, by omega⟩ : Fin 6144))

/-- The modulated rows' product with a weight. -/
def product {n : Nat} (x : SX.Idx → EReal) (md : SM.Idx → EReal) (w : (SW n).Idx → EReal) (r : Fin 32768) (j : Fin n) : EReal :=
  ∑ k : Fin 2048, modded x md r k * w (ix2 k j)

/-- A value times its logistic. -/
def silu (v : EReal) : EReal := v * Ideal.logistic v

/-- A value as it is. -/
def plain (v : EReal) : EReal := v

/-- The whole result, the product under `act`. -/
def result {n : Nat} (act : EReal → EReal) (x : SX.Idx → EReal) (md : SM.Idx → EReal) (w : (SW n).Idx → EReal) (i : (SR n).Idx) : EReal :=
  act (product x md w (⟨(i 0).val, (i 0).isLt⟩ : Fin 32768) (⟨(i 1).val, (i 1).isLt⟩ : Fin n))

/-- A block's shapes: its rows, half of them, the weight's columns, the products, half of them. -/
abbrev BX : Shape := ⟨2, ![1024, 2048]⟩
abbrev HX : Shape := ⟨2, ![512, 2048]⟩
abbrev BW : Shape := ⟨2, ![2048, 1024]⟩
abbrev BO : Shape := ⟨2, ![1024, 1024]⟩
abbrev HO : Shape := ⟨2, ![512, 1024]⟩

theorem tall : L.Broadcasts BX := by decide
theorem sameBW : BW.ShapeCasts BW := by decide

/-- A block's rows modulated. -/
def moddedV (x : FVec Ideal BX .f32) (sc sh : FVec Ideal L3 .f32) : FVec Ideal BX .f32 :=
  addf (mulf x (broadcastTo BX (addf (broadcast L (Scalar.ofBits .f32 0x3F800000#32)) (shapeCast L sc flat)) tall)) (broadcastTo BX (shapeCast L sh flat) tall)

theorem tall_apply (v : FVec Ideal L .f32) (r : Fin 1024) (j : Fin 2048) : broadcastTo BX v tall (ix2 r j) = v (ix2 (0 : Fin 1) j) := by
  refine broadcastTo_apply v tall _ _ ?_
  intro a
  fin_cases a <;> rfl

theorem flat_apply (v : FVec Ideal L3 .f32) (j : Fin 2048) : shapeCast L v flat (ix2 (0 : Fin 1) j) = v (ix3 (0 : Fin 1) (0 : Fin 1) j) :=
  shapeCast_apply v flat (ix2 (0 : Fin 1) j) (ix3 (0 : Fin 1) (0 : Fin 1) j) (by
    rewrite [Shape.rowMajor_val_three, Shape.rowMajor_val_two]
    show (0 * 1 + 0) * 2048 + j.val = 0 * 2048 + j.val
    omega)

theorem moddedV_apply (x : FVec Ideal BX .f32) (sc sh : FVec Ideal L3 .f32) (r : Fin 1024) (k : Fin 2048) :
    moddedV x sc sh (ix2 r k)
      = x (ix2 r k) * (Ideal.ofBits .f32 0x3F800000#32 + sc (ix3 (0 : Fin 1) (0 : Fin 1) k)) + sh (ix3 (0 : Fin 1) (0 : Fin 1) k) := by
  show x (ix2 r k) * broadcastTo BX _ tall (ix2 r k) + broadcastTo BX _ tall (ix2 r k) = _
  rw [tall_apply, tall_apply, flat_apply]
  show _ * (_ + shapeCast L sc flat (ix2 (0 : Fin 1) k)) + _ = _
  rw [flat_apply]
  rfl

/-- Half a block's products. -/
def productV (s : FVec Ideal HX .bf16) (w : FVec Ideal BW .bf16) : FVec Ideal HO .f32 :=
  matmul (DotDims.plain 512 2048 1024) none s (shapeCast BW w sameBW) (constant HO .f32 0x00000000#32)

theorem productV_apply (s : FVec Ideal HX .bf16) (w : FVec Ideal BW .bf16) (r : Fin 512) (j : Fin 1024) :
    productV s w (ix2 r j) = ∑ k : Fin 2048, s (ix2 r k) * w (ix2 k j) := by
  unfold productV
  rw [shapeCast_id]
  show FloatOps.matmul (DotDims.plain 512 2048 1024) none s w (constant HO .f32 0x00000000#32) (ix2 r j) = _
  rw [Ideal.matmul_plain_apply, constant_apply, zero_word, zero_add]

theorem inHi : ∀ a, (![512, 0] : Fin 2 → Nat) a + HX.size a ≤ BX.size a := by decide
theorem inLo : ∀ a, (![0, 0] : Fin 2 → Nat) a + HX.size a ≤ BX.size a := by decide
theorem inW : ∀ a, (![0, 0] : Fin 2 → Nat) a + BW.size a ≤ BW.size a := by decide
theorem outHi : ∀ a, (![512, 0] : Fin 2 → Nat) a + HO.size a ≤ BO.size a := by decide
theorem outLo : ∀ a, (![0, 0] : Fin 2 → Nat) a + HO.size a ≤ BO.size a := by decide

/-- Where a block's halves lie, and the weight's whole. -/
abbrev rHi : Rect BX := Rect.unit (s := BX) ![512, 0] ![512, 2048] inHi
abbrev rLo : Rect BX := Rect.unit (s := BX) ![0, 0] ![512, 2048] inLo
abbrev rW : Rect BW := Rect.unit (s := BW) ![0, 0] ![2048, 1024] inW
abbrev oHi : Rect BO := Rect.unit (s := BO) ![512, 0] ![512, 1024] outHi
abbrev oLo : Rect BO := Rect.unit (s := BO) ![0, 0] ![512, 1024] outLo

/-- Half a block's products under `act`. -/
def halfV (act : EReal → EReal) (w : Vec Ideal BW .bf16) (s : Vec Ideal HX .bf16) : Vec Ideal HO .bf16 := fun i => act (productV s w i)

/-- A block's stores: its lower rows' products, then its upper rows'. -/
def stores (act : EReal → EReal) (w : Vec Ideal BW .bf16) (s : Vec Ideal BX .bf16) : List (View.Piece (Elt Ideal) BO .bf16) :=
  [⟨oHi, halfV act (View.ld w rW) (View.ld s rHi)⟩, ⟨oLo, halfV act (View.ld w rW) (View.ld s rLo)⟩]

theorem halves_cover (p q : Vec Ideal HO .bf16) (y : BO.Idx) :
    ∃ pc ∈ ([⟨oHi, p⟩, ⟨oLo, q⟩] : List (View.Piece (Elt Ideal) BO .bf16)), y ∈ pc.1.set :=
  View.cover_of_tiled [⟨oHi, p⟩, ⟨oLo, q⟩] HO.size (by rfl) y

theorem stores_cover (act : EReal → EReal) (w : Vec Ideal BW .bf16) (s : Vec Ideal BX .bf16) (y : BO.Idx) : ∃ pc ∈ stores act w s, y ∈ pc.1.set :=
  halves_cover _ _ y

/-- Half a block's entry. -/
theorem half_apply (act : EReal → EReal) (w : Vec Ideal BW .bf16) (s : Vec Ideal BX .bf16) (s' : Vec Ideal HX .bf16) (w' : Vec Ideal BW .bf16)
    (r : Fin 1024) (d : Fin 1024) (x : HO.Idx) (hd : (x 1).val = d.val)
    (hs : ∀ k : Fin 2048, s' (ix2 (⟨(x 0).val, (x 0).isLt⟩ : Fin 512) k) = s (ix2 r k)) (hw : ∀ k : Fin 2048, w' (ix2 k d) = w (ix2 k d)) :
    halfV act w' s' x = act (∑ k : Fin 2048, s (ix2 r k) * w (ix2 k d)) := by
  have ex : x = ix2 (⟨(x 0).val, (x 0).isLt⟩ : Fin 512) d := by
    funext a; apply Fin.ext; fin_cases a
    · rfl
    · exact hd
  rw [ex]
  refine congrArg act ((productV_apply s' w' _ d).trans (Finset.sum_congr rfl fun k _ => ?_))
  rw [hw]
  exact congrArg (· * _) (hs k)

theorem stores_apply (act : EReal → EReal) (w : Vec Ideal BW .bf16) (s : Vec Ideal BX .bf16) (y : BO.Idx) (r d : Fin 1024)
    (hr : r.val = (y 0).val) (hd : d.val = (y 1).val) :
    View.canon (stores act w s) y = act (∑ k : Fin 2048, s (ix2 r k) * w (ix2 k d)) := by
  refine View.canon_eq_of_allAt _ y _ (stores_cover act w s y) ?_
  intro p hp x hx
  have e0 : (y 0).val = ((p.1.emb x) 0).val := by rw [hx]
  have e1 : (y 1).val = ((p.1.emb x) 1).val := by rw [hx]
  have hwk : ∀ k : Fin 2048, View.ld w rW (ix2 k d) = w (ix2 k d) := fun k => by
    have e : rW.emb (ix2 k d) = ix2 k d := by
      funext a; apply Fin.ext; fin_cases a
      · show 0 + 1 * k.val = k.val
        omega
      · show 0 + 1 * d.val = d.val
        omega
    exact congrArg w e
  rcases List.mem_cons.mp hp with rfl | hp
  · have e0' : (y 0).val = 512 + 1 * (x 0).val := e0
    have e1' : (y 1).val = 0 + 1 * (x 1).val := e1
    refine half_apply act w s _ _ r d x (by omega) (fun k => congrArg s ?_) hwk
    funext a; apply Fin.ext; fin_cases a
    · show 512 + 1 * (x 0).val = r.val
      omega
    · show 0 + 1 * k.val = k.val
      omega
  · obtain rfl := List.mem_singleton.mp hp
    have e0' : (y 0).val = 0 + 1 * (x 0).val := e0
    have e1' : (y 1).val = 0 + 1 * (x 1).val := e1
    refine half_apply act w s _ _ r d x (by omega) (fun k => congrArg s ?_) hwk
    funext a; apply Fin.ext; fin_cases a
    · show 0 + 1 * (x 0).val = r.val
      omega
    · show 0 + 1 * k.val = k.val
      omega

end Cert.Mod

end
-- ==== Proof.Mod.Value5.lean ====
/- What the gate's launch leaves, at the ideal values. -/
module

public import proofs.«01_k».proof.Proof.Mod.Target
public import proofs.«01_k».proof.Proof.Gen.Kernel5Ideal.Value
public import Idealize.ShloMosaic.Lib.StableHlo.Run

@[expose] public section

set_option maxRecDepth 16384

noncomputable section

namespace Cert.Kernel5Ideal.Mod

open Idealize.ShloMosaic hiding ix1 ix2 ix3 ix4 ix5
open Idealize.ShloMosaic.ValueIdx (ix1 ix2 ix3)
open Idealize.SL.Sem Idealize.ShloMosaic.TcCoe
open Cert.Kernel5Ideal Cert.Kernel5Ideal.Gen Cert.Mod
open Cert.Out (SX SM)

variable (m : (ℓ : Loc nD τ sig) → Buf (Elt Ideal) ℓ)

/-- The arguments' contents at launch. -/
abbrev a0 (c : Dev nD) : SX.Idx → EReal := m ((c.tc : Thread nD τ).loc main_arg0)
abbrev a1 (c : Dev nD) : SM.Idx → EReal := m ((c.tc : Thread nD τ).loc main_arg1)
abbrev a2 (c : Dev nD) : (SW 2048).Idx → EReal := m ((c.tc : Thread nD τ).loc main_arg2)

/-- The result, of the arguments. -/
abbrev res (c : Dev nD) : (SR 2048).Idx → EReal := result silu (a0 m c) (a1 m c) (a2 m c)

theorem V_0 (c : Dev nD) : V m c main_arg0 = a0 m c := by
  unfold V; after_results <;> rfl
theorem V_1 (c : Dev nD) : V m c main_arg1 = a1 m c := by
  unfold V; after_results <;> rfl
theorem V_w (c : Dev nD) : V m c main_v0 = a2 m c := by
  unfold V; after_results <;> rfl

theorem ind_0 : ∀ t : Fin cfg0.N, win0_0.index t = ![t.val / 2, 0] := (by decide +kernel : ∀ t : Fin grid0.N, _)
theorem ind_1 : ∀ t : Fin cfg0.N, win0_1.index t = ![t.val / 8, 0, 0] := (by decide +kernel : ∀ t : Fin grid0.N, _)
theorem ind_2 : ∀ t : Fin cfg0.N, win0_2.index t = ![t.val / 8, 0, 1] := (by decide +kernel : ∀ t : Fin grid0.N, _)
theorem ind_3 : ∀ t : Fin cfg0.N, win0_3.index t = ![0, t.val % 2] := (by decide +kernel : ∀ t : Fin grid0.N, _)
theorem ind_4 : ∀ t : Fin cfg0.N, win0_4.index t = ![t.val / 2, t.val % 2] := (by decide +kernel : ∀ t : Fin grid0.N, _)

theorem N_64 : cfg0.N = 64 := by decide +kernel

/-- The blocks' elements, read from the arguments. -/
theorem in_0 (c : Dev nD) (t : Fin cfg0.N) (j : S1024x2048.Idx) (r : Fin 32768) (k : Fin 2048)
    (h0 : r.val = 1024 * (t.val / 2) + (j 0).val) (h1 : (j 1).val = k.val) : iblk m c 0 t j = a0 m c (ix2 r k) := by
  rw [← V_0]
  blk_simp [iblk]
  refine congrArg (V m c main_arg0) ?_
  blk_ext [ind_0]
  all_goals first | (show _ = r.val; omega) | (show _ = k.val; omega)

theorem in_1 (c : Dev nD) (t : Fin cfg0.N) (j : S1x1x2048.Idx) (b : Fin 16) (k : Fin 6144)
    (h0 : b.val = t.val / 8) (h2 : k.val = (j 2).val) : iblk m c 1 t j = a1 m c (ix3 b (0 : Fin 1) k) := by
  have j0 : (j 0).val < 1 := (j 0).isLt
  have j1 : (j 1).val < 1 := (j 1).isLt
  rw [← V_1]
  blk_simp [iblk]
  refine congrArg (V m c main_arg1) ?_
  blk_ext [ind_1]
  all_goals first | (show _ = b.val; omega) | (show _ = k.val; omega)

theorem in_2 (c : Dev nD) (t : Fin cfg0.N) (j : S1x1x2048.Idx) (b : Fin 16) (k : Fin 6144)
    (h0 : b.val = t.val / 8) (h2 : k.val = 2048 + (j 2).val) : iblk m c 2 t j = a1 m c (ix3 b (0 : Fin 1) k) := by
  have j0 : (j 0).val < 1 := (j 0).isLt
  have j1 : (j 1).val < 1 := (j 1).isLt
  rw [← V_1]
  blk_simp [iblk]
  refine congrArg (V m c main_arg1) ?_
  blk_ext [ind_2]
  all_goals first | (show _ = b.val; omega) | (show _ = k.val; omega)

theorem in_3 (c : Dev nD) (t : Fin cfg0.N) (j : S2048x1024.Idx) (k : Fin 2048) (d : Fin 2048)
    (h0 : (j 0).val = k.val) (h1 : d.val = 1024 * (t.val % 2) + (j 1).val) : iblk m c 3 t j = a2 m c (ix2 k d) := by
  rw [← V_w]
  blk_simp [iblk]
  refine congrArg (V m c main_v0) ?_
  blk_ext [ind_3]
  all_goals first | (show _ = k.val; omega) | (show _ = d.val; omega)

theorem hz : (![0, 0] : Fin 2 → Nat) = fun _ => 0 := by funext a; fin_cases a <;> rfl

/-- The scratch's payload is the modulated rows. -/
theorem pay_rows (x : Vec Ideal S1024x2048 .f32) (sc sh : Vec Ideal S1x1x2048 .f32) : k0_pay1 x sc sh = moddedV x sc sh := by
  show shapeCast S1024x2048 (moddedV x sc sh : FVec Ideal S1024x2048 .bf16) shapeCasts_S1024x2048_S1024x2048 = _
  rw [shapeCast_id]

/-- At a row block's first point the scratch is left at the block's rows, modulated. -/
theorem scratch_first (c : Dev nD) (t : Fin cfg0.N) (h0 : t.val % 2 = 0) : (outsAt0 m c t.val t.isLt).2
    = moddedV (View.ld (iblk m c 0 t) (Rect.unit ![0, 0] ![1024, 2048] inb_S1024x2048_S1024x2048_0_0))
        (View.ld (iblk m c 2 t) (Rect.unit ![0, 0, 0] ![1, 1, 2048] inb_S1x1x2048_S1x1x2048_0_0_0))
        (View.ld (iblk m c 1 t) (Rect.unit ![0, 0, 0] ![1, 1, 2048] inb_S1x1x2048_S1x1x2048_0_0_0)) := by
  rw [outsAt0_A m c t h0]
  dsimp only
  unfold sout0_A_0
  rw [View.read_writes_eq_canon _ _ _ (scover0_A_0 c _ _ _ _ _ _ _ _ _ _ _ _ _ _ _ _ _ _)]
  unfold kernelRun0_A
  dsimp only
  sl_unfold_words
  simp only [View.readAt_eq_ld, Memref.IsWhole.read_unread]
  rw [View.canon_unit_zero hz, pay_rows]
  rfl

/-- So there it holds the rows of the point's block, modulated. -/
theorem first_rows (c : Dev nD) (t : Fin cfg0.N) (h0 : t.val % 2 = 0) (r : Fin 1024) (k : Fin 2048) (R : Fin 32768)
    (hR : R.val = 1024 * (t.val / 2) + r.val) : (outsAt0 m c t.val t.isLt).2 (ix2 r k) = modded (a0 m c) (a1 m c) R k := by
  rw [scratch_first m c t h0]
  refine (moddedV_apply _ _ _ r k).trans ?_
  refine congrArg₂ (· + ·) (congrArg₂ (· * ·) ?_ (congrArg (_ + ·) ?_)) ?_
  · exact in_0 m c t _ R k (by show R.val = 1024 * (t.val / 2) + (0 + 1 * r.val); omega) (by show 0 + 1 * k.val = k.val; omega)
  · exact in_2 m c t _ _ _ (by show R.val / 4096 = t.val / 8; omega) (by show 2048 + k.val = 2048 + (0 + 1 * k.val); omega)
  · exact in_1 m c t _ _ _ (by show R.val / 4096 = t.val / 8; omega) (by show k.val = 0 + 1 * k.val; omega)

/-- At its other points it is left as it was. -/
theorem scratch_next (c : Dev nD) (t : Fin cfg0.N) (h0 : ¬ t.val % 2 = 0) :
    (outsAt0 m c t.val t.isLt).2 = (outsAt0 m c (t.val - 1) (Nat.lt_of_le_of_lt (Nat.sub_le _ _) t.isLt)).2 := by
  rw [outsAt0_B m c t h0]
  rfl

/-- So it holds them after every point. -/
theorem scratch_rows (c : Dev nD) : ∀ (n : Nat) (hn : n < cfg0.N) (r : Fin 1024) (k : Fin 2048) (R : Fin 32768),
    R.val = 1024 * (n / 2) + r.val → (outsAt0 m c n hn).2 (ix2 r k) = modded (a0 m c) (a1 m c) R k := by
  intro n
  induction n with
  | zero => exact fun hn r k R hR => first_rows m c ⟨0, hn⟩ rfl r k R hR
  | succ n ih =>
    intro hn r k R hR
    by_cases h0 : (n + 1) % 2 = 0
    · exact first_rows m c ⟨n + 1, hn⟩ h0 r k R hR
    · rw [scratch_next m c ⟨n + 1, hn⟩ h0]
      exact ih _ r k R (by omega)

/-- Each half's payload is its products. -/
theorem pay_hi (w : Vec Ideal S2048x1024 .bf16) (s : Vec Ideal S512x2048 .bf16) : k0_pay4 w s = halfV silu w s := rfl
theorem pay_lo (w : Vec Ideal S2048x1024 .bf16) (s : Vec Ideal S512x2048 .bf16) : k0_pay3 w s = halfV silu w s := rfl

/-- A point's stores are the products of what the scratch holds after it. -/
theorem out_stores (c : Dev nD) (t : Fin cfg0.N) :
    (outsAt0 m c t.val t.isLt).1 = View.canon (stores silu (iblk m c 3 t) (outsAt0 m c t.val t.isLt).2) := by
  by_cases h0 : t.val % 2 = 0
  · rw [scratch_first m c t h0, outsAt0_A m c t h0]
    dsimp only
    unfold out0_A_4
    rw [View.read_writes_eq_canon _ _ _ (cover0_A_4 c _ _ _ _ _ _ _ _ _ _ _ _ _ _ _ _ _ _)]
    unfold kernelRun0_A
    dsimp only
    sl_unfold_words
    simp only [View.readAt_eq_ld, Memref.IsWhole.read_unread, View.readCov_eq_canon', pay_hi, pay_lo, pay_rows]
    rw [View.canon_unit_zero hz]
    rfl
  · rw [scratch_next m c t h0, outsAt0_B m c t h0]
    dsimp only
    unfold out0_B_4
    rw [View.read_writes_eq_canon _ _ _ (cover0_B_4 c _ _ _ _ _ _ _ _ _ _ _ _ _ _ _ _ _ _ _)]
    unfold kernelRun0_B
    dsimp only
    sl_unfold_words
    simp only [View.readAt_eq_ld, Memref.IsWhole.read_unread, pay_hi, pay_lo]
    exact congrArg (fun z => View.canon (stores silu (iblk m c 3 t) z)) ((Memref.isWhole_whole cc0_scratch0).read_unread _)

/-- The launch leaves the result of the arguments. -/
theorem final (c : Dev nD) : (dats m 0 c).arrAt 4 cfg0.N = res m c := by
  refine (dats m 0 c).arrAt_eq_of_covers 4 _ (by decide +kernel) fun t hf y => ?_
  have hN := N_64
  have ht : t.val < 64 := lt_of_lt_of_eq t.isLt hN
  blk_simp
  rw [after0_4, out_stores]
  have hy0 : (y 0).val < 1024 := (y 0).isLt
  have hy1 : (y 1).val < 1024 := (y 1).isLt
  refine (stores_apply silu _ _ _ ⟨(y 0).val, hy0⟩ ⟨(y 1).val, hy1⟩ rfl rfl).trans ?_
  have e : ∀ k : Fin 2048, (outsAt0 m c t.val t.isLt).2 (ix2 (⟨(y 0).val, hy0⟩ : Fin 1024) k) * iblk m c 3 t (ix2 k (⟨(y 1).val, hy1⟩ : Fin 1024))
      = modded (a0 m c) (a1 m c) ⟨1024 * (t.val / 2) + (y 0).val, by omega⟩ k * a2 m c (ix2 k (⟨1024 * (t.val % 2) + (y 1).val, by omega⟩ : Fin 2048)) := fun k =>
    congrArg₂ (· * ·) (scratch_rows m c t.val t.isLt _ k ⟨1024 * (t.val / 2) + (y 0).val, by omega⟩ rfl) (in_3 m c t _ k ⟨1024 * (t.val % 2) + (y 1).val, by omega⟩ rfl rfl)
  rw [Finset.sum_congr rfl fun k _ => e k]
  show res m c (ix2 (⟨1024 * (t.val / 2) + (y 0).val, by omega⟩ : Fin 32768) (⟨1024 * (t.val % 2) + (y 1).val, by omega⟩ : Fin 2048)) = _
  refine congrArg (res m c) ?_
  blk_ext [ind_4]

end Cert.Kernel5Ideal.Mod

end
-- ==== Proof.Mod.Ref.lean ====
/- What the two references of the modulated products compute, at the ideal values. -/
module

public import proofs.«01_k».proof.Proof.Mod.Target
public import proofs.«01_k».proof.Proof.Gen.Reference5Ideal.Read
public import proofs.«01_k».proof.Proof.Gen.Reference6Ideal.Read

@[expose] public section

set_option maxRecDepth 16384

noncomputable section

namespace Cert.Mod

open Idealize.ShloMosaic hiding ix1 ix2 ix3 ix4 ix5
open Idealize.ShloMosaic.ValueIdx (ix1 ix2 ix3)
open Cert.Out (SX SM)
open scoped BigOperators

/-- The flat row of a batch entry's row. -/
abbrev at_ (b : Fin 8) (i : Fin 4096) : Fin 32768 := ⟨4096 * b.val + i.val, by omega⟩

/-- The modulated rows, the same text in the two references. -/
theorem rows (x0 : SX.Idx → EReal) (x1 : SM.Idx → EReal) (b : Fin 8) (i : Fin 4096) (k : Fin 2048) :
    Cert.Reference5Ideal.Read.val_main_v12 (F := Ideal) x0 x1 (ix3 b i k) = modded x0 x1 (at_ b i) k := by
  open Cert.Reference5Ideal.Read in
  have e4 : idx_main_v4 (ix3 b i k) = ix2 (at_ b i) k := by
    funext a; apply Fin.ext; fin_cases a
    · show ((b.val * 4096 + i.val) * 2048 + k.val) / 2048 = 4096 * b.val + i.val
      omega
    · show ((b.val * 4096 + i.val) * 2048 + k.val) % 2048 = k.val
      omega
  open Cert.Reference5Ideal.Read in
  have es : idx_main_v2 (idx_main_v3 (idx_main_v5 (idx_main_v8 (ix3 b i k))))
      = ix3 (⟨(at_ b i).val / 4096, by omega⟩ : Fin 16) (0 : Fin 1) (⟨2048 + k.val, by omega⟩ : Fin 6144) := by
    funext a; apply Fin.ext; fin_cases a
    · show (b.val * 2048 + k.val) / 2048 = (4096 * b.val + i.val) / 4096
      omega
    · rfl
    · show 2048 + (b.val * 2048 + k.val) % 2048 = 2048 + k.val
      omega
  open Cert.Reference5Ideal.Read in
  have et : idx_main_v0 (idx_main_v1 (idx_main_v10 (idx_main_v11 (ix3 b i k))))
      = ix3 (⟨(at_ b i).val / 4096, by omega⟩ : Fin 16) (0 : Fin 1) (⟨k.val, by omega⟩ : Fin 6144) := by
    funext a; apply Fin.ext; fin_cases a
    · show (b.val * 2048 + k.val) / 2048 = (4096 * b.val + i.val) / 4096
      omega
    · rfl
    · show (b.val * 2048 + k.val) % 2048 = k.val
      omega
  open Cert.Reference5Ideal.Read in
  rw [val_main_v12_apply, val_main_v9_apply, val_main_v4_apply, e4, val_main_v8_apply, val_main_v7_apply, val_main_v6_apply, val_main_v5_apply,
    val_main_v3_apply, val_main_v2_apply, es, val_main_v11_apply, val_main_v10_apply, val_main_v1_apply, val_main_v0_apply, et]
  rfl

end Cert.Mod

namespace Cert.Reference5Ideal.Mod

open Idealize.ShloMosaic hiding ix1 ix2 ix3 ix4 ix5
open Idealize.ShloMosaic.ValueIdx (ix1 ix2 ix3)
open Cert.Reference5Ideal Cert.Reference5Ideal.Gen Cert.Reference5Ideal.Read Cert.Mod
open Cert.Out (SX SM)
open scoped BigOperators

variable (x0 : SX.Idx → EReal) (x1 : SM.Idx → EReal) (x2 : (SW 2048).Idx → EReal)

theorem products (b : Fin 8) (i : Fin 4096) (j : Fin 2048) : val_main_v13 (F := Ideal) x0 x1 x2 (ix3 b i j) = product x0 x1 x2 (at_ b i) j := by
  rw [val_main_v13_apply]
  refine Finset.sum_congr rfl fun k _ => ?_
  have e1 : lidx_main_v13 (ix3 b i j) k = ix3 b i k := by funext a; fin_cases a <;> rfl
  have e2 : ridx_main_v13 (ix3 b i j) k = ix2 k j := by funext a; fin_cases a <;> rfl
  rw [e1, e2, rows]

theorem one : Ideal.ofBits .f32 0x3F800000#32 = 1 := by
  have : Ideal.ofBits .f32 0x3F800000#32 = ((1 : ℝ) : EReal) := by simp [Ideal.ofBits, Ideal.ieee, -EReal.coe_mul]; norm_num
  rw [this, EReal.coe_one]

/-- The reference's division is the logistic. -/
theorem divided (i : S8x4096x2048.Idx) : val_main_v14 (F := Ideal) x0 x1 x2 i = silu (val_main_v13 (F := Ideal) x0 x1 x2 i) := by
  rw [val_main_v14_apply, val_main_call0_v5_apply, val_main_call0_v4_apply, val_main_call0_v3_apply, val_main_call0_v2_apply, val_main_call0_v1_apply,
    val_main_call0_v0_apply]
  show _ * Ideal.div (Ideal.ofBits .f32 0x3F800000#32) (Ideal.ofBits .f32 0x3F800000#32 + Ideal.exp (-_)) = _
  rw [one]
  rfl

/-- The reference's result is the product's under the activation. -/
theorem reference_result : val_main_v16 (F := Ideal) x0 x1 x2 = result silu x0 x1 x2 := by
  funext y
  have hy0 : (y 0).val < 32768 := (y 0).isLt
  have hy1 : (y 1).val < 2048 := (y 1).isLt
  have e : idx_main_v16 y = ix3 (⟨(y 0).val / 4096, by omega⟩ : Fin 8) (⟨(y 0).val % 4096, by omega⟩ : Fin 4096) (⟨(y 1).val, hy1⟩ : Fin 2048) := by
    funext a; apply Fin.ext; fin_cases a
    · show ((y 0).val * 2048 + (y 1).val) / 8388608 = (y 0).val / 4096
      omega
    · show ((y 0).val * 2048 + (y 1).val) / 2048 % 4096 = (y 0).val % 4096
      omega
    · show ((y 0).val * 2048 + (y 1).val) % 2048 = (y 1).val
      omega
  have er : at_ (⟨(y 0).val / 4096, by omega⟩ : Fin 8) (⟨(y 0).val % 4096, by omega⟩ : Fin 4096) = (⟨(y 0).val, hy0⟩ : Fin 32768) :=
    Fin.ext (by show 4096 * ((y 0).val / 4096) + (y 0).val % 4096 = (y 0).val; omega)
  rw [val_main_v16_apply, e, val_main_v15_apply]
  show val_main_v14 (F := Ideal) x0 x1 x2 _ = _
  rw [divided, products, er]
  rfl

end Cert.Reference5Ideal.Mod

namespace Cert.Reference6Ideal.Mod

open Idealize.ShloMosaic hiding ix1 ix2 ix3 ix4 ix5
open Idealize.ShloMosaic.ValueIdx (ix1 ix2 ix3)
open Cert.Reference6Ideal Cert.Reference6Ideal.Gen Cert.Reference6Ideal.Read Cert.Mod
open Cert.Out (SX SM)
open scoped BigOperators

variable (x0 : SX.Idx → EReal) (x1 : SM.Idx → EReal) (x2 : (SW 3072).Idx → EReal)

theorem same_rows : val_main_v12 (F := Ideal) x0 x1 = Cert.Reference5Ideal.Read.val_main_v12 (F := Ideal) x0 x1 := rfl

theorem products (b : Fin 8) (i : Fin 4096) (j : Fin 3072) : val_main_v13 (F := Ideal) x0 x1 x2 (ix3 b i j) = product x0 x1 x2 (at_ b i) j := by
  rw [val_main_v13_apply, same_rows]
  refine Finset.sum_congr rfl fun k _ => ?_
  have e1 : lidx_main_v13 (ix3 b i j) k = ix3 b i k := by funext a; fin_cases a <;> rfl
  have e2 : ridx_main_v13 (ix3 b i j) k = ix2 k j := by funext a; fin_cases a <;> rfl
  rw [e1, e2, rows]

/-- The reference's result is the product's. -/
theorem reference_result : val_main_v15 (F := Ideal) x0 x1 x2 = result plain x0 x1 x2 := by
  funext y
  have hy0 : (y 0).val < 32768 := (y 0).isLt
  have hy1 : (y 1).val < 3072 := (y 1).isLt
  have e : idx_main_v15 y = ix3 (⟨(y 0).val / 4096, by omega⟩ : Fin 8) (⟨(y 0).val % 4096, by omega⟩ : Fin 4096) (⟨(y 1).val, hy1⟩ : Fin 3072) := by
    funext a; apply Fin.ext; fin_cases a
    · show ((y 0).val * 3072 + (y 1).val) / 12582912 = (y 0).val / 4096
      omega
    · show ((y 0).val * 3072 + (y 1).val) / 3072 % 4096 = (y 0).val % 4096
      omega
    · show ((y 0).val * 3072 + (y 1).val) % 3072 = (y 1).val
      omega
  have er : at_ (⟨(y 0).val / 4096, by omega⟩ : Fin 8) (⟨(y 0).val % 4096, by omega⟩ : Fin 4096) = (⟨(y 0).val, hy0⟩ : Fin 32768) :=
    Fin.ext (by show 4096 * ((y 0).val / 4096) + (y 0).val % 4096 = (y 0).val; omega)
  rw [val_main_v15_apply, e, val_main_v14_apply]
  show val_main_v13 (F := Ideal) x0 x1 x2 _ = _
  rw [products, er]
  rfl

end Cert.Reference6Ideal.Mod

end
-- ==== Proof.Mod.Claims5.lean ====
/- The gate: its frames, and that the kernel computes its reference's value. -/
module

public import proofs.«01_k».proof.Defs
public import proofs.«01_k».proof.Proof.Mod.Value5
public import proofs.«01_k».proof.Proof.Mod.Ref
public import proofs.«01_k».proof.Proof.Gen.Kernel5.Frame
public import proofs.«01_k».proof.Proof.Gen.Reference5Ideal.Run

@[expose] public section

set_option maxRecDepth 16384

noncomputable section

namespace Cert.Kernel5Ideal.Mod

open Idealize.ShloMosaic Idealize.SL.Sem Cert.Mod

/-- The kernel ends with its arguments unchanged and no counter raised, at every float type. -/
theorem kernel_quiescent : Cert.quiescent_Kernel5 (hKernel5 := Cert.Kernel5.Gen.facts) := fun m ρ _ =>
  Cert.Kernel5.Gen.frame m ρ

/-- So does the idealized kernel. -/
theorem ideal_quiescent : Cert.quiescent_Kernel5Ideal (hKernel5Ideal := Cert.Kernel5Ideal.Gen.facts) := fun m ρ _ =>
  Cert.Kernel5Ideal.Gen.frame m ρ

/-- And so does the reference. -/
theorem reference_quiescent : Cert.quiescent_Reference5Ideal (hReference5Ideal := Cert.Reference5Ideal.Gen.facts) := fun m ρ _ =>
  (θ_run (Cert.Reference5Ideal.defs (F := Ideal)) _ _).mono (fun r h => ⟨fun c => (h c).2, sem_eq_zero_of_no_sems (by decide) r.2⟩)
    (Cert.Reference5Ideal.Value.run m ρ)

/-- Nothing is rewritten. -/
theorem kept : Cert.preserves_Kernel5_Kernel5Ideal := trivial

/-- The kernel and its reference end with one value. -/
theorem same_value : Cert.algebraic_Kernel5Ideal_Reference5Ideal (hKernel5Ideal := Cert.Kernel5Ideal.Gen.facts) (hReference5Ideal := Cert.Reference5Ideal.Gen.facts) := by
  intro m ρ m' ρ' _ hargs
  refine ⟨fun c => res m c, ?_, ?_⟩
  · exact (θ_run (Cert.Kernel5Ideal.defs (F := Ideal)) _ _).mono (fun _ h c => ⟨(h c).1.trans (final m c), (h c).2⟩) (Cert.Kernel5Ideal.Value.run_blocks m ρ)
  · refine (θ_run (Cert.Reference5Ideal.defs (F := Ideal)) _ _).mono (fun _ h c => ⟨(h c).1.trans ?_, (h c).2⟩) (Cert.Reference5Ideal.Value.run m' ρ')
    obtain ⟨e0, e1, e2⟩ := hargs c
    refine (Cert.Reference5Ideal.Read.val_main_v16_eq _ _ _).trans ?_
    rw [e0, e1, e2]
    exact Cert.Reference5Ideal.Mod.reference_result _ _ _

end Cert.Kernel5Ideal.Mod

end
-- ==== Proof.Mod.Value6.lean ====
/- What the convolution's inputs' launch leaves, at the ideal values. -/
module

public import proofs.«01_k».proof.Proof.Mod.Target
public import proofs.«01_k».proof.Proof.Gen.Kernel6Ideal.Value
public import Idealize.ShloMosaic.Lib.StableHlo.Run

@[expose] public section

set_option maxRecDepth 16384

noncomputable section

namespace Cert.Kernel6Ideal.Mod

open Idealize.ShloMosaic hiding ix1 ix2 ix3 ix4 ix5
open Idealize.ShloMosaic.ValueIdx (ix1 ix2 ix3)
open Idealize.SL.Sem Idealize.ShloMosaic.TcCoe
open Cert.Kernel6Ideal Cert.Kernel6Ideal.Gen Cert.Mod
open Cert.Out (SX SM)

variable (m : (ℓ : Loc nD τ sig) → Buf (Elt Ideal) ℓ)

/-- The arguments' contents at launch. -/
abbrev a0 (c : Dev nD) : SX.Idx → EReal := m ((c.tc : Thread nD τ).loc main_arg0)
abbrev a1 (c : Dev nD) : SM.Idx → EReal := m ((c.tc : Thread nD τ).loc main_arg1)
abbrev a2 (c : Dev nD) : (SW 3072).Idx → EReal := m ((c.tc : Thread nD τ).loc main_arg2)

/-- The result, of the arguments. -/
abbrev res (c : Dev nD) : (SR 3072).Idx → EReal := result plain (a0 m c) (a1 m c) (a2 m c)

theorem V_0 (c : Dev nD) : V m c main_arg0 = a0 m c := by
  unfold V; after_results <;> rfl
theorem V_1 (c : Dev nD) : V m c main_arg1 = a1 m c := by
  unfold V; after_results <;> rfl
theorem V_w (c : Dev nD) : V m c main_v0 = a2 m c := by
  unfold V; after_results <;> rfl

theorem ind_0 : ∀ t : Fin cfg0.N, win0_0.index t = ![t.val / 3, 0] := (by decide +kernel : ∀ t : Fin grid0.N, _)
theorem ind_1 : ∀ t : Fin cfg0.N, win0_1.index t = ![t.val / 12, 0, 0] := (by decide +kernel : ∀ t : Fin grid0.N, _)
theorem ind_2 : ∀ t : Fin cfg0.N, win0_2.index t = ![t.val / 12, 0, 1] := (by decide +kernel : ∀ t : Fin grid0.N, _)
theorem ind_3 : ∀ t : Fin cfg0.N, win0_3.index t = ![0, t.val % 3] := (by decide +kernel : ∀ t : Fin grid0.N, _)
theorem ind_4 : ∀ t : Fin cfg0.N, win0_4.index t = ![t.val / 3, t.val % 3] := (by decide +kernel : ∀ t : Fin grid0.N, _)

theorem N_96 : cfg0.N = 96 := by decide +kernel

/-- The blocks' elements, read from the arguments. -/
theorem in_0 (c : Dev nD) (t : Fin cfg0.N) (j : S1024x2048.Idx) (r : Fin 32768) (k : Fin 2048)
    (h0 : r.val = 1024 * (t.val / 3) + (j 0).val) (h1 : (j 1).val = k.val) : iblk m c 0 t j = a0 m c (ix2 r k) := by
  rw [← V_0]
  blk_simp [iblk]
  refine congrArg (V m c main_arg0) ?_
  blk_ext [ind_0]
  all_goals first | (show _ = r.val; omega) | (show _ = k.val; omega)

theorem in_1 (c : Dev nD) (t : Fin cfg0.N) (j : S1x1x2048.Idx) (b : Fin 16) (k : Fin 6144)
    (h0 : b.val = t.val / 12) (h2 : k.val = (j 2).val) : iblk m c 1 t j = a1 m c (ix3 b (0 : Fin 1) k) := by
  have j0 : (j 0).val < 1 := (j 0).isLt
  have j1 : (j 1).val < 1 := (j 1).isLt
  rw [← V_1]
  blk_simp [iblk]
  refine congrArg (V m c main_arg1) ?_
  blk_ext [ind_1]
  all_goals first | (show _ = b.val; omega) | (show _ = k.val; omega)

theorem in_2 (c : Dev nD) (t : Fin cfg0.N) (j : S1x1x2048.Idx) (b : Fin 16) (k : Fin 6144)
    (h0 : b.val = t.val / 12) (h2 : k.val = 2048 + (j 2).val) : iblk m c 2 t j = a1 m c (ix3 b (0 : Fin 1) k) := by
  have j0 : (j 0).val < 1 := (j 0).isLt
  have j1 : (j 1).val < 1 := (j 1).isLt
  rw [← V_1]
  blk_simp [iblk]
  refine congrArg (V m c main_arg1) ?_
  blk_ext [ind_2]
  all_goals first | (show _ = b.val; omega) | (show _ = k.val; omega)

theorem in_3 (c : Dev nD) (t : Fin cfg0.N) (j : S2048x1024.Idx) (k : Fin 2048) (d : Fin 3072)
    (h0 : (j 0).val = k.val) (h1 : d.val = 1024 * (t.val % 3) + (j 1).val) : iblk m c 3 t j = a2 m c (ix2 k d) := by
  rw [← V_w]
  blk_simp [iblk]
  refine congrArg (V m c main_v0) ?_
  blk_ext [ind_3]
  all_goals first | (show _ = k.val; omega) | (show _ = d.val; omega)

theorem hz : (![0, 0] : Fin 2 → Nat) = fun _ => 0 := by funext a; fin_cases a <;> rfl

/-- The scratch's payload is the modulated rows. -/
theorem pay_rows (x : Vec Ideal S1024x2048 .f32) (sc sh : Vec Ideal S1x1x2048 .f32) : k0_pay1 x sc sh = moddedV x sc sh := by
  show shapeCast S1024x2048 (moddedV x sc sh : FVec Ideal S1024x2048 .bf16) shapeCasts_S1024x2048_S1024x2048 = _
  rw [shapeCast_id]

/-- At a row block's first point the scratch is left at the block's rows, modulated. -/
theorem scratch_first (c : Dev nD) (t : Fin cfg0.N) (h0 : t.val % 3 = 0) : (outsAt0 m c t.val t.isLt).2
    = moddedV (View.ld (iblk m c 0 t) (Rect.unit ![0, 0] ![1024, 2048] inb_S1024x2048_S1024x2048_0_0))
        (View.ld (iblk m c 2 t) (Rect.unit ![0, 0, 0] ![1, 1, 2048] inb_S1x1x2048_S1x1x2048_0_0_0))
        (View.ld (iblk m c 1 t) (Rect.unit ![0, 0, 0] ![1, 1, 2048] inb_S1x1x2048_S1x1x2048_0_0_0)) := by
  rw [outsAt0_A m c t h0]
  dsimp only
  unfold sout0_A_0
  rw [View.read_writes_eq_canon _ _ _ (scover0_A_0 c _ _ _ _ _ _ _ _ _ _ _ _ _ _ _ _ _ _)]
  unfold kernelRun0_A
  dsimp only
  sl_unfold_words
  simp only [View.readAt_eq_ld, Memref.IsWhole.read_unread]
  rw [View.canon_unit_zero hz, pay_rows]
  rfl

/-- So there it holds the rows of the point's block, modulated. -/
theorem first_rows (c : Dev nD) (t : Fin cfg0.N) (h0 : t.val % 3 = 0) (r : Fin 1024) (k : Fin 2048) (R : Fin 32768)
    (hR : R.val = 1024 * (t.val / 3) + r.val) : (outsAt0 m c t.val t.isLt).2 (ix2 r k) = modded (a0 m c) (a1 m c) R k := by
  rw [scratch_first m c t h0]
  refine (moddedV_apply _ _ _ r k).trans ?_
  refine congrArg₂ (· + ·) (congrArg₂ (· * ·) ?_ (congrArg (_ + ·) ?_)) ?_
  · exact in_0 m c t _ R k (by show R.val = 1024 * (t.val / 3) + (0 + 1 * r.val); omega) (by show 0 + 1 * k.val = k.val; omega)
  · exact in_2 m c t _ _ _ (by show R.val / 4096 = t.val / 12; omega) (by show 2048 + k.val = 2048 + (0 + 1 * k.val); omega)
  · exact in_1 m c t _ _ _ (by show R.val / 4096 = t.val / 12; omega) (by show k.val = 0 + 1 * k.val; omega)

/-- At its other points it is left as it was. -/
theorem scratch_next (c : Dev nD) (t : Fin cfg0.N) (h0 : ¬ t.val % 3 = 0) :
    (outsAt0 m c t.val t.isLt).2 = (outsAt0 m c (t.val - 1) (Nat.lt_of_le_of_lt (Nat.sub_le _ _) t.isLt)).2 := by
  rw [outsAt0_B m c t h0]
  rfl

/-- So it holds them after every point. -/
theorem scratch_rows (c : Dev nD) : ∀ (n : Nat) (hn : n < cfg0.N) (r : Fin 1024) (k : Fin 2048) (R : Fin 32768),
    R.val = 1024 * (n / 3) + r.val → (outsAt0 m c n hn).2 (ix2 r k) = modded (a0 m c) (a1 m c) R k := by
  intro n
  induction n with
  | zero => exact fun hn r k R hR => first_rows m c ⟨0, hn⟩ rfl r k R hR
  | succ n ih =>
    intro hn r k R hR
    by_cases h0 : (n + 1) % 3 = 0
    · exact first_rows m c ⟨n + 1, hn⟩ h0 r k R hR
    · rw [scratch_next m c ⟨n + 1, hn⟩ h0]
      exact ih _ r k R (by omega)

/-- Each half's payload is its products. -/
theorem pay_hi (w : Vec Ideal S2048x1024 .bf16) (s : Vec Ideal S512x2048 .bf16) : k0_pay4 w s = halfV plain w s := rfl
theorem pay_lo (w : Vec Ideal S2048x1024 .bf16) (s : Vec Ideal S512x2048 .bf16) : k0_pay3 w s = halfV plain w s := rfl

/-- A point's stores are the products of what the scratch holds after it. -/
theorem out_stores (c : Dev nD) (t : Fin cfg0.N) :
    (outsAt0 m c t.val t.isLt).1 = View.canon (stores plain (iblk m c 3 t) (outsAt0 m c t.val t.isLt).2) := by
  by_cases h0 : t.val % 3 = 0
  · rw [scratch_first m c t h0, outsAt0_A m c t h0]
    dsimp only
    unfold out0_A_4
    rw [View.read_writes_eq_canon _ _ _ (cover0_A_4 c _ _ _ _ _ _ _ _ _ _ _ _ _ _ _ _ _ _)]
    unfold kernelRun0_A
    dsimp only
    sl_unfold_words
    simp only [View.readAt_eq_ld, Memref.IsWhole.read_unread, View.readCov_eq_canon', pay_hi, pay_lo, pay_rows]
    rw [View.canon_unit_zero hz]
    rfl
  · rw [scratch_next m c t h0, outsAt0_B m c t h0]
    dsimp only
    unfold out0_B_4
    rw [View.read_writes_eq_canon _ _ _ (cover0_B_4 c _ _ _ _ _ _ _ _ _ _ _ _ _ _ _ _ _ _ _)]
    unfold kernelRun0_B
    dsimp only
    sl_unfold_words
    simp only [View.readAt_eq_ld, Memref.IsWhole.read_unread, pay_hi, pay_lo]
    exact congrArg (fun z => View.canon (stores plain (iblk m c 3 t) z)) ((Memref.isWhole_whole cc0_scratch0).read_unread _)

/-- The launch leaves the result of the arguments. -/
theorem final (c : Dev nD) : (dats m 0 c).arrAt 4 cfg0.N = res m c := by
  refine (dats m 0 c).arrAt_eq_of_covers 4 _ (by decide +kernel) fun t hf y => ?_
  have hN := N_96
  have ht : t.val < 96 := lt_of_lt_of_eq t.isLt hN
  blk_simp
  rw [after0_4, out_stores]
  have hy0 : (y 0).val < 1024 := (y 0).isLt
  have hy1 : (y 1).val < 1024 := (y 1).isLt
  refine (stores_apply plain _ _ _ ⟨(y 0).val, hy0⟩ ⟨(y 1).val, hy1⟩ rfl rfl).trans ?_
  have e : ∀ k : Fin 2048, (outsAt0 m c t.val t.isLt).2 (ix2 (⟨(y 0).val, hy0⟩ : Fin 1024) k) * iblk m c 3 t (ix2 k (⟨(y 1).val, hy1⟩ : Fin 1024))
      = modded (a0 m c) (a1 m c) ⟨1024 * (t.val / 3) + (y 0).val, by omega⟩ k * a2 m c (ix2 k (⟨1024 * (t.val % 3) + (y 1).val, by omega⟩ : Fin 3072)) := fun k =>
    congrArg₂ (· * ·) (scratch_rows m c t.val t.isLt _ k ⟨1024 * (t.val / 3) + (y 0).val, by omega⟩ rfl) (in_3 m c t _ k ⟨1024 * (t.val % 3) + (y 1).val, by omega⟩ rfl rfl)
  rw [Finset.sum_congr rfl fun k _ => e k]
  show res m c (ix2 (⟨1024 * (t.val / 3) + (y 0).val, by omega⟩ : Fin 32768) (⟨1024 * (t.val % 3) + (y 1).val, by omega⟩ : Fin 3072)) = _
  refine congrArg (res m c) ?_
  blk_ext [ind_4]

end Cert.Kernel6Ideal.Mod

end
-- ==== Proof.Mod.Claims6.lean ====
/- The convolution's inputs: its frames, and that the kernel computes its reference's value. -/
module

public import proofs.«01_k».proof.Defs
public import proofs.«01_k».proof.Proof.Mod.Value6
public import proofs.«01_k».proof.Proof.Mod.Ref
public import proofs.«01_k».proof.Proof.Gen.Kernel6.Frame
public import proofs.«01_k».proof.Proof.Gen.Reference6Ideal.Run

@[expose] public section

set_option maxRecDepth 16384

noncomputable section

namespace Cert.Kernel6Ideal.Mod

open Idealize.ShloMosaic Idealize.SL.Sem Cert.Mod

/-- The kernel ends with its arguments unchanged and no counter raised, at every float type. -/
theorem kernel_quiescent : Cert.quiescent_Kernel6 (hKernel6 := Cert.Kernel6.Gen.facts) := fun m ρ _ =>
  Cert.Kernel6.Gen.frame m ρ

/-- So does the idealized kernel. -/
theorem ideal_quiescent : Cert.quiescent_Kernel6Ideal (hKernel6Ideal := Cert.Kernel6Ideal.Gen.facts) := fun m ρ _ =>
  Cert.Kernel6Ideal.Gen.frame m ρ

/-- And so does the reference. -/
theorem reference_quiescent : Cert.quiescent_Reference6Ideal (hReference6Ideal := Cert.Reference6Ideal.Gen.facts) := fun m ρ _ =>
  (θ_run (Cert.Reference6Ideal.defs (F := Ideal)) _ _).mono (fun r h => ⟨fun c => (h c).2, sem_eq_zero_of_no_sems (by decide) r.2⟩)
    (Cert.Reference6Ideal.Value.run m ρ)

/-- Nothing is rewritten. -/
theorem kept : Cert.preserves_Kernel6_Kernel6Ideal := trivial

/-- The kernel and its reference end with one value. -/
theorem same_value : Cert.algebraic_Kernel6Ideal_Reference6Ideal (hKernel6Ideal := Cert.Kernel6Ideal.Gen.facts) (hReference6Ideal := Cert.Reference6Ideal.Gen.facts) := by
  intro m ρ m' ρ' _ hargs
  refine ⟨fun c => res m c, ?_, ?_⟩
  · exact (θ_run (Cert.Kernel6Ideal.defs (F := Ideal)) _ _).mono (fun _ h c => ⟨(h c).1.trans (final m c), (h c).2⟩) (Cert.Kernel6Ideal.Value.run_blocks m ρ)
  · refine (θ_run (Cert.Reference6Ideal.defs (F := Ideal)) _ _).mono (fun _ h c => ⟨(h c).1.trans ?_, (h c).2⟩) (Cert.Reference6Ideal.Value.run m' ρ')
    obtain ⟨e0, e1, e2⟩ := hargs c
    refine (Cert.Reference6Ideal.Read.val_main_v15_eq _ _ _).trans ?_
    rw [e0, e1, e2]
    exact Cert.Reference6Ideal.Mod.reference_result _ _ _

end Cert.Kernel6Ideal.Mod

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_scores2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gqa.Claims
public import proofs.«01_k».proof.Proof.Mla.Claims
public import proofs.«01_k».proof.Proof.Out.Claims
public import proofs.«01_k».proof.Proof.Out2.Claims
public import proofs.«01_k».proof.Proof.Mod.Claims5
public import proofs.«01_k».proof.Proof.Mod.Claims6

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_scores.Gen.facts, Cert.Pre_finite_scores2.Gen.facts,
  KernelIdeal.Attn.kernel_quiescent, KernelIdeal.Attn.ideal_quiescent, KernelIdeal.Attn.ideal_quiescent_pre,
  KernelIdeal.Attn.reference_quiescent, KernelIdeal.Attn.reference_quiescent_pre,
  Kernel2Ideal.Attn.kernel_quiescent, Kernel2Ideal.Attn.ideal_quiescent, Kernel2Ideal.Attn.ideal_quiescent_pre,
  Kernel2Ideal.Attn.reference_quiescent, Kernel2Ideal.Attn.reference_quiescent_pre,
  Kernel3Ideal.Out.kernel_quiescent, Kernel3Ideal.Out.ideal_quiescent, Kernel3Ideal.Out.reference_quiescent,
  Kernel4Ideal.Out2.kernel_quiescent, Kernel4Ideal.Out2.ideal_quiescent, Kernel4Ideal.Out2.reference_quiescent,
  Kernel5Ideal.Mod.kernel_quiescent, Kernel5Ideal.Mod.ideal_quiescent, Kernel5Ideal.Mod.reference_quiescent,
  Kernel6Ideal.Mod.kernel_quiescent, Kernel6Ideal.Mod.ideal_quiescent, Kernel6Ideal.Mod.reference_quiescent,
  KernelIdeal.Attn.constant_kept, KernelIdeal.Attn.same_value,
  Kernel2Ideal.Attn.constant_kept, Kernel2Ideal.Attn.same_value,
  Kernel3Ideal.Out.kept, Kernel3Ideal.Out.same_value,
  Kernel4Ideal.Out2.kept, Kernel4Ideal.Out2.same_value,
  Kernel5Ideal.Mod.kept, Kernel5Ideal.Mod.same_value,
  Kernel6Ideal.Mod.kept, Kernel6Ideal.Mod.same_value⟩

end Cert.Proof

end
